-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateReferenceIdeal (m : (ℓ : Loc Cert.StateReferenceIdeal.nD Cert.StateReferenceIdeal.τ Cert.StateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ r.2.sem = fun _ => 0)

def quiescent_StateReferenceIdeal [hStateReferenceIdeal : Cert.StateReferenceIdeal.Facts] : Prop :=
  ∀ (m : (ℓ : Loc Cert.StateReferenceIdeal.nD Cert.StateReferenceIdeal.τ Cert.StateReferenceIdeal.sig) → Buf (Elt Ideal) ℓ) (g : Dev Cert.StateReferenceIdeal.nD → PrngReg), Pre_StateReferenceIdeal m →
    θ_run (Cert.StateReferenceIdeal.defs (F := Ideal)) (onTc (τ := Cert.StateReferenceIdeal.τ) (Cert.StateReferenceIdeal.main (F := Ideal))) ⟨m, fun _ => 0, g⟩ (fun r => (∀ c : Dev Cert.StateReferenceIdeal.nD,
      r.2.mem ((c.tc : Thread Cert.StateReferenceIdeal.nD Cert.StateReferenceIdeal.τ).loc Cert.StateReferenceIdeal.main_arg0) = m ((c.tc : Thread Cert.StateReferenceIdeal.nD Cert.StateReferenceIdeal.τ).loc Cert.StateReferenceIdeal.main_arg0)
      ∧ r.2.mem ((c.tc : Thread Cert.StateReferenceIdeal.nD Cert.StateReferenceIdeal.τ).loc Cert.StateReferenceIdeal.main_arg1) = m ((c.tc : Thread Cert.StateReferenceIdeal.nD Cert.StateReferenceIdeal.τ).loc Cert.StateReferenceIdeal.main_arg1)
      ∧ r.2.mem ((c.tc : Thread Cert.StateReferenceIdeal.nD Cert.StateReferenceIdeal.τ).loc Cert.StateReferenceIdeal.main_arg2) = m ((c.tc : Thread Cert.StateReferenceIdeal.nD Cert.StateReferenceIdeal.τ).loc Cert.StateReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_3)) (v3 : (c : Dev Cert.KernelIdeal.nD) → Buf (Elt Ideal) ((c.tc : Thread Cert.KernelIdeal.nD Cert.KernelIdeal.τ).loc Cert.KernelIdeal.main_v0_4)) (v4 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_3) = v2 c
          ∧ r.2.mem ((c.tc : Thread Cert.KernelIdeal.nD Cert.KernelIdeal.τ).loc Cert.KernelIdeal.main_v0_4) = v3 c
          ∧ r.2.mem ((c.tc : Thread Cert.KernelIdeal.nD Cert.KernelIdeal.τ).loc Cert.KernelIdeal.main_v0_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_State_StateIdeal : Prop :=
  True

def algebraic_StateIdeal_StateReferenceIdeal [hStateIdeal : Cert.StateIdeal.Facts] [hStateReferenceIdeal : Cert.StateReferenceIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateReferenceIdeal.nD Cert.StateReferenceIdeal.τ Cert.StateReferenceIdeal.sig) → Buf (Elt Ideal) ℓ) (g' : Dev Cert.StateReferenceIdeal.nD → PrngReg), Pre_StateIdeal m →
    (∀ c : Dev Cert.StateIdeal.nD,
      m' ((c.tc : Thread Cert.StateReferenceIdeal.nD Cert.StateReferenceIdeal.τ).loc Cert.StateReferenceIdeal.main_arg0) = m ((c.tc : Thread Cert.StateIdeal.nD Cert.StateIdeal.τ).loc Cert.StateIdeal.main_arg0)
      ∧ m' ((c.tc : Thread Cert.StateReferenceIdeal.nD Cert.StateReferenceIdeal.τ).loc Cert.StateReferenceIdeal.main_arg1) = m ((c.tc : Thread Cert.StateIdeal.nD Cert.StateIdeal.τ).loc Cert.StateIdeal.main_arg1)
      ∧ m' ((c.tc : Thread Cert.StateReferenceIdeal.nD Cert.StateReferenceIdeal.τ).loc Cert.StateReferenceIdeal.main_arg2) = m ((c.tc : Thread Cert.StateIdeal.nD Cert.StateIdeal.τ).loc Cert.StateIdeal.main_arg2)) →
    ∃ (v0 : (c : Dev Cert.StateIdeal.nD) → Buf (Elt Ideal) ((c.tc : Thread Cert.StateIdeal.nD Cert.StateIdeal.τ).loc Cert.StateIdeal.main_v0_0)) (v1 : (c : Dev Cert.StateIdeal.nD) → Buf (Elt Ideal) ((c.tc : Thread Cert.StateIdeal.nD Cert.StateIdeal.τ).loc Cert.StateIdeal.main_v0_1)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v0_0) = v0 c
          ∧ r.2.mem ((c.tc : Thread Cert.StateIdeal.nD Cert.StateIdeal.τ).loc Cert.StateIdeal.main_v0_1) = v1 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ θ_run (Cert.StateReferenceIdeal.defs (F := Ideal)) (onTc (τ := Cert.StateReferenceIdeal.τ) (Cert.StateReferenceIdeal.main (F := Ideal))) ⟨m', fun _ => 0, g'⟩ (fun r => ∀ c : Dev Cert.StateReferenceIdeal.nD,
          r.2.mem ((c.tc : Thread Cert.StateReferenceIdeal.nD Cert.StateReferenceIdeal.τ).loc Cert.StateReferenceIdeal.main_v0_0) = v0 c
          ∧ r.2.mem ((c.tc : Thread Cert.StateReferenceIdeal.nD Cert.StateReferenceIdeal.τ).loc Cert.StateReferenceIdeal.main_v0_1) = v1 c
          ∧ r.2.mem ((c.tc : Thread Cert.StateReferenceIdeal.nD Cert.StateReferenceIdeal.τ).loc Cert.StateReferenceIdeal.main_arg0) = m' ((c.tc : Thread Cert.StateReferenceIdeal.nD Cert.StateReferenceIdeal.τ).loc Cert.StateReferenceIdeal.main_arg0)
          ∧ r.2.mem ((c.tc : Thread Cert.StateReferenceIdeal.nD Cert.StateReferenceIdeal.τ).loc Cert.StateReferenceIdeal.main_arg1) = m' ((c.tc : Thread Cert.StateReferenceIdeal.nD Cert.StateReferenceIdeal.τ).loc Cert.StateReferenceIdeal.main_arg1)
          ∧ r.2.mem ((c.tc : Thread Cert.StateReferenceIdeal.nD Cert.StateReferenceIdeal.τ).loc Cert.StateReferenceIdeal.main_arg2) = m' ((c.tc : Thread Cert.StateReferenceIdeal.nD Cert.StateReferenceIdeal.τ).loc Cert.StateReferenceIdeal.main_arg2))

def Claim : Prop :=
  ∃ (hKernel : Cert.Kernel.Facts) (hKernelIdeal : Cert.KernelIdeal.Facts) (hReferenceIdeal : Cert.ReferenceIdeal.Facts) (hState : Cert.State.Facts) (hStateIdeal : Cert.StateIdeal.Facts) (hStateReferenceIdeal : Cert.StateReferenceIdeal.Facts),
    quiescent_Kernel (hKernel := hKernel)
    ∧ quiescent_KernelIdeal (hKernelIdeal := hKernelIdeal)
    ∧ quiescent_ReferenceIdeal (hReferenceIdeal := hReferenceIdeal)
    ∧ quiescent_State (hState := hState)
    ∧ quiescent_StateIdeal (hStateIdeal := hStateIdeal)
    ∧ quiescent_StateReferenceIdeal (hStateReferenceIdeal := hStateReferenceIdeal)
    ∧ preserves_Kernel_KernelIdeal
    ∧ algebraic_KernelIdeal_ReferenceIdeal (hKernelIdeal := hKernelIdeal) (hReferenceIdeal := hReferenceIdeal)
    ∧ preserves_State_StateIdeal
    ∧ algebraic_StateIdeal_StateReferenceIdeal (hStateIdeal := hStateIdeal) (hStateReferenceIdeal := hStateReferenceIdeal)
-- ==== Kernel.lean ====
abbrev S7680x1024 : Shape := ⟨2, ![7680, 1024]⟩
abbrev S15360x15360 : Shape := ⟨2, ![15360, 15360]⟩
abbrev S96x16x15360 : Shape := ⟨3, ![96, 16, 15360]⟩
abbrev S48x1x512 : Shape := ⟨3, ![48, 1, 512]⟩
abbrev S4x256x15360 : Shape := ⟨3, ![4, 256, 15360]⟩
abbrev S4x96x16x256 : Shape := ⟨4, ![4, 96, 16, 256]⟩
abbrev S4x96x256 : Shape := ⟨3, ![4, 96, 256]⟩
abbrev S15360x1024 : Shape := ⟨2, ![15360, 1024]⟩
abbrev S320x15360 : Shape := ⟨2, ![320, 15360]⟩
abbrev S2x16x15360 : Shape := ⟨3, ![2, 16, 15360]⟩
abbrev S1x1x512 : Shape := ⟨3, ![1, 1, 512]⟩
abbrev S4x256x640 : Shape := ⟨3, ![4, 256, 640]⟩
abbrev S4x2x16x256 : Shape := ⟨4, ![4, 2, 16, 256]⟩
abbrev S4x8x256 : Shape := ⟨3, ![4, 8, 256]⟩
abbrev S320x1024 : Shape := ⟨2, ![320, 1024]⟩
abbrev S384x1024 : Shape := ⟨2, ![384, 1024]⟩
abbrev S64x1024 : Shape := ⟨2, ![64, 1024]⟩
abbrev S16x256 : Shape := ⟨2, ![16, 256]⟩
abbrev S256 : Shape := ⟨1, ![256]⟩
abbrev S1x256 : Shape := ⟨2, ![1, 256]⟩
abbrev S1x1x16x256 : Shape := ⟨4, ![1, 1, 16, 256]⟩
abbrev S1x1x256 : Shape := ⟨3, ![1, 1, 256]⟩
abbrev S160x256 : Shape := ⟨2, ![160, 256]⟩
abbrev S256x16 : Shape := ⟨2, ![256, 16]⟩
abbrev S256x256 : Shape := ⟨2, ![256, 256]⟩
abbrev S1x128 : Shape := ⟨2, ![1, 128]⟩
abbrev S128x128 : Shape := ⟨2, ![128, 128]⟩
abbrev S256x128 : Shape := ⟨2, ![256, 128]⟩
abbrev S64x128 : Shape := ⟨2, ![64, 128]⟩
abbrev S16x128 : Shape := ⟨2, ![16, 128]⟩
abbrev S128x16 : Shape := ⟨2, ![128, 16]⟩
abbrev S128 : Shape := ⟨1, ![128]⟩
abbrev S160x128 : Shape := ⟨2, ![160, 128]⟩
abbrev S384x256 : Shape := ⟨2, ![384, 256]⟩
abbrev S256x384 : Shape := ⟨2, ![256, 384]⟩
abbrev S1x256x384 : Shape := ⟨3, ![1, 256, 384]⟩
abbrev S2x16x1024 : Shape := ⟨3, ![2, 16, 1024]⟩
abbrev S32x1024 : Shape := ⟨2, ![32, 1024]⟩
abbrev S512x1024 : Shape := ⟨2, ![512, 1024]⟩
abbrev S1024x1024 : Shape := ⟨2, ![1024, 1024]⟩
abbrev S1x512 : Shape := ⟨2, ![1, 512]⟩
abbrev S128x512 : Shape := ⟨2, ![128, 512]⟩
abbrev S512x128 : Shape := ⟨2, ![512, 128]⟩
abbrev S320x128 : Shape := ⟨2, ![320, 128]⟩
abbrev S32x128 : Shape := ⟨2, ![32, 128]⟩

abbrev nBuf : Space → Nat
  | .hbm => 11
  | .vmem => 25
  | .smem => 0
  | _ => 0

abbrev bufTy : (tb : Table) → Fin (tcTables nBuf tb) → BufTy
  | .hbm, ⟨0, _⟩ => ⟨S7680x1024, .i32⟩
  | .hbm, ⟨1, _⟩ => ⟨S15360x15360, .fp8e4m3⟩
  | .hbm, ⟨2, _⟩ => ⟨S96x16x15360, .fp8e4m3⟩
  | .hbm, ⟨3, _⟩ => ⟨S96x16x15360, .fp8e4m3⟩
  | .hbm, ⟨4, _⟩ => ⟨S48x1x512, .f32⟩
  | .hbm, ⟨5, _⟩ => ⟨S4x256x15360, .bf16⟩
  | .hbm, ⟨6, _⟩ => ⟨S4x96x16x256, .fp8e4m3⟩
  | .hbm, ⟨7, _⟩ => ⟨S4x96x256, .f32⟩
  | .hbm, ⟨8, _⟩ => ⟨S4x96x16x256, .fp8e4m3⟩
  | .hbm, ⟨9, _⟩ => ⟨S4x96x256, .f32⟩
  | .hbm, ⟨10, _⟩ => ⟨S15360x1024, .bf16⟩
  | .local _ .vmem, ⟨0, _⟩ => ⟨S7680x1024, .i32⟩
  | .local _ .vmem, ⟨1, _⟩ => ⟨S320x15360, .fp8e4m3⟩
  | .local _ .vmem, ⟨2, _⟩ => ⟨S320x15360, .fp8e4m3⟩
  | .local _ .vmem, ⟨3, _⟩ => ⟨S2x16x15360, .fp8e4m3⟩
  | .local _ .vmem, ⟨4, _⟩ => ⟨S2x16x15360, .fp8e4m3⟩
  | .local _ .vmem, ⟨5, _⟩ => ⟨S2x16x15360, .fp8e4m3⟩
  | .local _ .vmem, ⟨6, _⟩ => ⟨S2x16x15360, .fp8e4m3⟩
  | .local _ .vmem, ⟨7, _⟩ => ⟨S1x1x512, .f32⟩
  | .local _ .vmem, ⟨8, _⟩ => ⟨S1x1x512, .f32⟩
  | .local _ .vmem, ⟨9, _⟩ => ⟨S4x256x640, .bf16⟩
  | .local _ .vmem, ⟨10, _⟩ => ⟨S4x256x640, .bf16⟩
  | .local _ .vmem, ⟨11, _⟩ => ⟨S4x2x16x256, .fp8e4m3⟩
  | .local _ .vmem, ⟨12, _⟩ => ⟨S4x2x16x256, .fp8e4m3⟩
  | .local _ .vmem, ⟨13, _⟩ => ⟨S4x8x256, .f32⟩
  | .local _ .vmem, ⟨14, _⟩ => ⟨S4x8x256, .f32⟩
  | .local _ .vmem, ⟨15, _⟩ => ⟨S4x2x16x256, .fp8e4m3⟩
  | .local _ .vmem, ⟨16, _⟩ => ⟨S4x2x16x256, .fp8e4m3⟩
  | .local _ .vmem, ⟨17, _⟩ => ⟨S4x8x256, .f32⟩
  | .local _ .vmem, ⟨18, _⟩ => ⟨S4x8x256, .f32⟩
  | .local _ .vmem, ⟨19, _⟩ => ⟨S320x1024, .bf16⟩
  | .local _ .vmem, ⟨20, _⟩ => ⟨S320x1024, .bf16⟩
  | .local _ .vmem, ⟨21, _⟩ => ⟨S384x1024, .f32⟩
  | .local _ .vmem, ⟨22, _⟩ => ⟨S64x1024, .f32⟩
  | .local _ .vmem, ⟨23, _⟩ => ⟨S320x1024, .bf16⟩
  | .local _ .vmem, ⟨24, _⟩ => ⟨S384x1024, .bf16⟩
  | _, _ => ⟨S7680x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![49], ![false]⟩

def k0_mult1 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c64_i32 : BitVec 32 := 64#32
  let v25 : BitVec 32 := Scalar.muli v11 c64_i32
  v25
def k0_off1 (i : grid0.Coords) (c0_i32_77 : BitVec 32) : Fin 3 → Nat :=
  let c0_78 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_5 : BitVec 32 := 0#32
  let v12 : BitVec 1 := Scalar.cmpi .eq c4_i32 c0_i32_5
  let c1_i32_6 : BitVec 32 := 1#32
  let v13 : BitVec 32 := Scalar.select v12 c1_i32_6 c4_i32
  let v14 : BitVec 32 := Scalar.remsi v1 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_76 : BitVec 32 := 2#32
  let v217 : BitVec 32 := Scalar.muli v21 c2_i32_76
  let v218 : BitVec 32 := Scalar.addi v217 c0_i32_77
  let v219 : Index := Scalar.indexCast v218
  let c0_79 : Index := 0#32
  ![0, v219.toNat, 0]
def k0_off2 (i : grid0.Coords) (c0_i32_125 : BitVec 32) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c64_i32 : BitVec 32 := 64#32
  let v25 : BitVec 32 := Scalar.muli v11 c64_i32
  let v26 : BitVec 32 := v25
  let v402 : BitVec 32 := Scalar.addi v26 c0_i32_125
  let v403 : Index := Scalar.indexCast v402
  let c0_126 : Index := 0#32
  ![v403.toNat, 0]
def k0_mult2 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32 : BitVec 32 := 256#32
  let v785 : BitVec 32 := Scalar.muli v11 c256_i32
  v785
def k0_off3 (i : grid0.Coords) : Fin 3 → Nat :=
  let c0_247 : Index := 0#32
  let c0_248 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32 : BitVec 32 := 256#32
  let v785 : BitVec 32 := Scalar.muli v11 c256_i32
  let v786 : BitVec 32 := v785
  let v787 : Index := Scalar.indexCast v786
  ![0, 0, v787.toNat]
def k0_off4 (i : grid0.Coords) (c0_i32_322 : BitVec 32) : Fin 3 → Nat :=
  let c1_323 : Index := 1#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_5 : BitVec 32 := 0#32
  let v12 : BitVec 1 := Scalar.cmpi .eq c4_i32 c0_i32_5
  let c1_i32_6 : BitVec 32 := 1#32
  let v13 : BitVec 32 := Scalar.select v12 c1_i32_6 c4_i32
  let v14 : BitVec 32 := Scalar.remsi v1 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_321 : BitVec 32 := 2#32
  let v977 : BitVec 32 := Scalar.muli v21 c2_i32_321
  let v978 : BitVec 32 := Scalar.addi v977 c0_i32_322
  let v979 : Index := Scalar.indexCast v978
  let c0_324 : Index := 0#32
  ![1, v979.toNat, 0]
def k0_off5 (i : grid0.Coords) (c0_i32_370 : BitVec 32) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c64_i32 : BitVec 32 := 64#32
  let v25 : BitVec 32 := Scalar.muli v11 c64_i32
  let v26 : BitVec 32 := v25
  let v1162 : BitVec 32 := Scalar.addi v26 c0_i32_370
  let v1163 : Index := Scalar.indexCast v1162
  let c256_371 : Index := 256#32
  ![v1163.toNat, 256]
def k0_mult3 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32_497 : BitVec 32 := 256#32
  let v1545 : BitVec 32 := Scalar.muli v11 c256_i32_497
  v1545
def k0_off6 (i : grid0.Coords) : Fin 3 → Nat :=
  let c1_498 : Index := 1#32
  let c0_499 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32_497 : BitVec 32 := 256#32
  let v1545 : BitVec 32 := Scalar.muli v11 c256_i32_497
  let v1546 : BitVec 32 := v1545
  let v1547 : Index := Scalar.indexCast v1546
  ![1, 0, v1547.toNat]
def k0_off7 (i : grid0.Coords) (c0_i32_571 : BitVec 32) : Fin 3 → Nat :=
  let c2_572 : Index := 2#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_5 : BitVec 32 := 0#32
  let v12 : BitVec 1 := Scalar.cmpi .eq c4_i32 c0_i32_5
  let c1_i32_6 : BitVec 32 := 1#32
  let v13 : BitVec 32 := Scalar.select v12 c1_i32_6 c4_i32
  let v14 : BitVec 32 := Scalar.remsi v1 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_570 : BitVec 32 := 2#32
  let v1737 : BitVec 32 := Scalar.muli v21 c2_i32_570
  let v1738 : BitVec 32 := Scalar.addi v1737 c0_i32_571
  let v1739 : Index := Scalar.indexCast v1738
  let c0_573 : Index := 0#32
  ![2, v1739.toNat, 0]
def k0_off8 (i : grid0.Coords) (c0_i32_619 : BitVec 32) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c64_i32 : BitVec 32 := 64#32
  let v25 : BitVec 32 := Scalar.muli v11 c64_i32
  let v26 : BitVec 32 := v25
  let v1922 : BitVec 32 := Scalar.addi v26 c0_i32_619
  let v1923 : Index := Scalar.indexCast v1922
  let c512_620 : Index := 512#32
  ![v1923.toNat, 512]
def k0_mult4 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32_746 : BitVec 32 := 256#32
  let v2305 : BitVec 32 := Scalar.muli v11 c256_i32_746
  v2305
def k0_off9 (i : grid0.Coords) : Fin 3 → Nat :=
  let c2_747 : Index := 2#32
  let c0_748 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32_746 : BitVec 32 := 256#32
  let v2305 : BitVec 32 := Scalar.muli v11 c256_i32_746
  let v2306 : BitVec 32 := v2305
  let v2307 : Index := Scalar.indexCast v2306
  ![2, 0, v2307.toNat]
def k0_off10 (i : grid0.Coords) (c0_i32_820 : BitVec 32) : Fin 3 → Nat :=
  let c3_821 : Index := 3#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_5 : BitVec 32 := 0#32
  let v12 : BitVec 1 := Scalar.cmpi .eq c4_i32 c0_i32_5
  let c1_i32_6 : BitVec 32 := 1#32
  let v13 : BitVec 32 := Scalar.select v12 c1_i32_6 c4_i32
  let v14 : BitVec 32 := Scalar.remsi v1 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_819 : BitVec 32 := 2#32
  let v2497 : BitVec 32 := Scalar.muli v21 c2_i32_819
  let v2498 : BitVec 32 := Scalar.addi v2497 c0_i32_820
  let v2499 : Index := Scalar.indexCast v2498
  let c0_822 : Index := 0#32
  ![3, v2499.toNat, 0]
def k0_off11 (i : grid0.Coords) (c0_i32_868 : BitVec 32) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c64_i32 : BitVec 32 := 64#32
  let v25 : BitVec 32 := Scalar.muli v11 c64_i32
  let v26 : BitVec 32 := v25
  let v2682 : BitVec 32 := Scalar.addi v26 c0_i32_868
  let v2683 : Index := Scalar.indexCast v2682
  let c768_869 : Index := 768#32
  ![v2683.toNat, 768]
def k0_mult5 (i : grid0.Coords) : BitVec 32 :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32_995 : BitVec 32 := 256#32
  let v3065 : BitVec 32 := Scalar.muli v11 c256_i32_995
  v3065
def k0_off12 (i : grid0.Coords) : Fin 3 → Nat :=
  let c3_996 : Index := 3#32
  let c0_997 : Index := 0#32
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let c256_i32_995 : BitVec 32 := 256#32
  let v3065 : BitVec 32 := Scalar.muli v11 c256_i32_995
  let v3066 : BitVec 32 := v3065
  let v3067 : Index := Scalar.indexCast v3066
  ![3, 0, v3067.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![c0_i32_6.toNat, c0_i32_7.toNat, v18.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![c0_i32_6.toNat, v18.toNat, c0_i32_7.toNat]

def cc0_transform_8 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![c0_i32_6.toNat, v18.toNat, c0_i32_7.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S7680x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S320x15360 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x15360 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16x15360 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2x16x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2x16x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S7680x1024 : Shape := ⟨2, ![7680, 1024]⟩
abbrev S15360x15360 : Shape := ⟨2, ![15360, 15360]⟩
abbrev S96x16x15360 : Shape := ⟨3, ![96, 16, 15360]⟩
abbrev S48x1x512 : Shape := ⟨3, ![48, 1, 512]⟩
abbrev S4x96x16x256 : Shape := ⟨4, ![4, 96, 16, 256]⟩
abbrev S4x96x256 : Shape := ⟨3, ![4, 96, 256]⟩
abbrev S15360x1024 : Shape := ⟨2, ![15360, 1024]⟩
abbrev S48x1x320 : Shape := ⟨3, ![48, 1, 320]⟩
abbrev S48x320 : Shape := ⟨2, ![48, 320]⟩
abbrev S15360x1 : Shape := ⟨2, ![15360, 1]⟩
abbrev S48x1x32 : Shape := ⟨3, ![48, 1, 32]⟩
abbrev S48x32 : Shape := ⟨2, ![48, 32]⟩
abbrev S1536x1 : Shape := ⟨2, ![1536, 1]⟩
abbrev S1536x15360 : Shape := ⟨2, ![1536, 15360]⟩
abbrev S1536x1024 : Shape := ⟨2, ![1536, 1024]⟩
abbrev S96x16x1024 : Shape := ⟨3, ![96, 16, 1024]⟩
abbrev S96x1024 : Shape := ⟨2, ![96, 1024]⟩
abbrev S96x1x1024 : Shape := ⟨3, ![96, 1, 1024]⟩
abbrev S96x16x256 : Shape := ⟨3, ![96, 16, 256]⟩
abbrev S1x96x16x256 : Shape := ⟨4, ![1, 96, 16, 256]⟩
abbrev S96x1x256 : Shape := ⟨3, ![96, 1, 256]⟩
abbrev S96x256 : Shape := ⟨2, ![96, 256]⟩
abbrev S1x96x256 : Shape := ⟨3, ![1, 96, 256]⟩

abbrev nBuf : Space → Nat
  | .hbm => 10
  | .vmem => 10
  | .smem => 0
  | _ => 0

abbrev bufTy : (tb : Table) → Fin (tcTables nBuf tb) → BufTy
  | .hbm, ⟨0, _⟩ => ⟨S7680x1024, .i32⟩
  | .hbm, ⟨1, _⟩ => ⟨S15360x15360, .fp8e4m3⟩
  | .hbm, ⟨2, _⟩ => ⟨S96x16x15360, .fp8e4m3⟩
  | .hbm, ⟨3, _⟩ => ⟨S96x16x15360, .fp8e4m3⟩
  | .hbm, ⟨4, _⟩ => ⟨S48x1x512, .f32⟩
  | .hbm, ⟨5, _⟩ => ⟨S4x96x16x256, .fp8e4m3⟩
  | .hbm, ⟨6, _⟩ => ⟨S4x96x256, .f32⟩
  | .hbm, ⟨7, _⟩ => ⟨S4x96x16x256, .fp8e4m3⟩
  | .hbm, ⟨8, _⟩ => ⟨S4x96x256, .f32⟩
  | .hbm, ⟨9, _⟩ => ⟨S15360x1024, .bf16⟩
  | .local _ .vmem, ⟨0, _⟩ => ⟨S7680x1024, .i32⟩
  | .local _ .vmem, ⟨1, _⟩ => ⟨S15360x15360, .fp8e4m3⟩
  | .local _ .vmem, ⟨2, _⟩ => ⟨S96x16x15360, .fp8e4m3⟩
  | .local _ .vmem, ⟨3, _⟩ => ⟨S96x16x15360, .fp8e4m3⟩
  | .local _ .vmem, ⟨4, _⟩ => ⟨S48x1x512, .f32⟩
  | .local _ .vmem, ⟨5, _⟩ => ⟨S4x96x16x256, .fp8e4m3⟩
  | .local _ .vmem, ⟨6, _⟩ => ⟨S4x96x256, .f32⟩
  | .local _ .vmem, ⟨7, _⟩ => ⟨S4x96x16x256, .fp8e4m3⟩
  | .local _ .vmem, ⟨8, _⟩ => ⟨S4x96x256, .f32⟩
  | .local _ .vmem, ⟨9, _⟩ => ⟨S15360x1024, .bf16⟩
  | _, _ => ⟨S7680x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S7680x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x15360 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x16x15360 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x16x15360 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x96x16x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x96x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x96x16x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x96x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S15360x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== State.lean ====
abbrev S4x96x16x256 : Shape := ⟨4, ![4, 96, 16, 256]⟩
abbrev S4x96x256 : Shape := ⟨3, ![4, 96, 256]⟩
abbrev S15360x1024 : Shape := ⟨2, ![15360, 1024]⟩
abbrev S4x96x273x160 : Shape := ⟨4, ![4, 96, 273, 160]⟩
abbrev S4x96x273x1 : Shape := ⟨4, ![4, 96, 273, 1]⟩
abbrev S1x8x16x256 : Shape := ⟨4, ![1, 8, 16, 256]⟩
abbrev S1x8x256 : Shape := ⟨3, ![1, 8, 256]⟩
abbrev S1280x256 : Shape := ⟨2, ![1280, 256]⟩
abbrev S1x8x273x160 : Shape := ⟨4, ![1, 8, 273, 160]⟩
abbrev S1x8x273x1 : Shape := ⟨4, ![1, 8, 273, 1]⟩
abbrev S16x256 : Shape := ⟨2, ![16, 256]⟩
abbrev S1x1x16x256 : Shape := ⟨4, ![1, 1, 16, 256]⟩
abbrev S1x1x256 : Shape := ⟨3, ![1, 1, 256]⟩
abbrev S1x256 : Shape := ⟨2, ![1, 256]⟩
abbrev S288x256 : Shape := ⟨2, ![288, 256]⟩
abbrev S160x256 : Shape := ⟨2, ![160, 256]⟩
abbrev S176x256 : Shape := ⟨2, ![176, 256]⟩
abbrev S288x176 : Shape := ⟨2, ![288, 176]⟩
abbrev S256x160 : Shape := ⟨2, ![256, 160]⟩
abbrev S1x1x256x160 : Shape := ⟨4, ![1, 1, 256, 160]⟩
abbrev S16x160 : Shape := ⟨2, ![16, 160]⟩
abbrev S1x1x16x160 : Shape := ⟨4, ![1, 1, 16, 160]⟩
abbrev S1x160 : Shape := ⟨2, ![1, 160]⟩
abbrev S1x1x1x160 : Shape := ⟨4, ![1, 1, 1, 160]⟩
abbrev S256x1 : Shape := ⟨2, ![256, 1]⟩
abbrev S1x1x256x1 : Shape := ⟨4, ![1, 1, 256, 1]⟩
abbrev S16x1 : Shape := ⟨2, ![16, 1]⟩
abbrev S1x1x16x1 : Shape := ⟨4, ![1, 1, 16, 1]⟩
abbrev S1x1 : Shape := ⟨2, ![1, 1]⟩
abbrev S1x1x1x1 : Shape := ⟨4, ![1, 1, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x96x16x256, .fp8e4m3⟩
  | .hbm, ⟨1, _⟩ => ⟨S4x96x256, .f32⟩
  | .hbm, ⟨2, _⟩ => ⟨S15360x1024, .bf16⟩
  | .hbm, ⟨3, _⟩ => ⟨S4x96x273x160, .f32⟩
  | .hbm, ⟨4, _⟩ => ⟨S4x96x273x1, .f32⟩
  | .local _ .vmem, ⟨0, _⟩ => ⟨S1x8x16x256, .fp8e4m3⟩
  | .local _ .vmem, ⟨1, _⟩ => ⟨S1x8x16x256, .fp8e4m3⟩
  | .local _ .vmem, ⟨2, _⟩ => ⟨S1x8x256, .f32⟩
  | .local _ .vmem, ⟨3, _⟩ => ⟨S1x8x256, .f32⟩
  | .local _ .vmem, ⟨4, _⟩ => ⟨S1280x256, .bf16⟩
  | .local _ .vmem, ⟨5, _⟩ => ⟨S1280x256, .bf16⟩
  | .local _ .vmem, ⟨6, _⟩ => ⟨S1x8x273x160, .f32⟩
  | .local _ .vmem, ⟨7, _⟩ => ⟨S1x8x273x160, .f32⟩
  | .local _ .vmem, ⟨8, _⟩ => ⟨S1x8x273x1, .f32⟩
  | .local _ .vmem, ⟨9, _⟩ => ⟨S1x8x273x1, .f32⟩
  | _, _ => ⟨S4x96x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x16x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x273x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x273x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StateReferenceIdeal.lean ====
abbrev S4x96x16x256 : Shape := ⟨4, ![4, 96, 16, 256]⟩
abbrev S4x96x256 : Shape := ⟨3, ![4, 96, 256]⟩
abbrev S15360x1024 : Shape := ⟨2, ![15360, 1024]⟩
abbrev S4x96x273x160 : Shape := ⟨4, ![4, 96, 273, 160]⟩
abbrev S4x96x273x1 : Shape := ⟨4, ![4, 96, 273, 1]⟩
abbrev S1x96x16x256 : Shape := ⟨4, ![1, 96, 16, 256]⟩
abbrev S96x16x256 : Shape := ⟨3, ![96, 16, 256]⟩
abbrev S1x96x256 : Shape := ⟨3, ![1, 96, 256]⟩
abbrev S96x256 : Shape := ⟨2, ![96, 256]⟩
abbrev S96x1x256 : Shape := ⟨3, ![96, 1, 256]⟩
abbrev S96x16x1x256 : Shape := ⟨4, ![96, 16, 1, 256]⟩
abbrev S96x1x16x256 : Shape := ⟨4, ![96, 1, 16, 256]⟩
abbrev S96x16x16x256 : Shape := ⟨4, ![96, 16, 16, 256]⟩
abbrev S96x256x256 : Shape := ⟨3, ![96, 256, 256]⟩
abbrev S96x273x256 : Shape := ⟨3, ![96, 273, 256]⟩
abbrev S15360x256 : Shape := ⟨2, ![15360, 256]⟩
abbrev S96x160x256 : Shape := ⟨3, ![96, 160, 256]⟩
abbrev S96x273x160 : Shape := ⟨3, ![96, 273, 160]⟩
abbrev S1x96x273x160 : Shape := ⟨4, ![1, 96, 273, 160]⟩
abbrev S96x273 : Shape := ⟨2, ![96, 273]⟩
abbrev S96x273x1 : Shape := ⟨3, ![96, 273, 1]⟩
abbrev S1x96x273x1 : Shape := ⟨4, ![1, 96, 273, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x96x16x256, .fp8e4m3⟩
  | .hbm, ⟨1, _⟩ => ⟨S4x96x256, .f32⟩
  | .hbm, ⟨2, _⟩ => ⟨S15360x1024, .bf16⟩
  | .hbm, ⟨3, _⟩ => ⟨S4x96x273x160, .f32⟩
  | .hbm, ⟨4, _⟩ => ⟨S4x96x273x1, .f32⟩
  | .local _ .vmem, ⟨0, _⟩ => ⟨S4x96x16x256, .fp8e4m3⟩
  | .local _ .vmem, ⟨1, _⟩ => ⟨S4x96x256, .f32⟩
  | .local _ .vmem, ⟨2, _⟩ => ⟨S15360x1024, .bf16⟩
  | .local _ .vmem, ⟨3, _⟩ => ⟨S4x96x273x160, .f32⟩
  | .local _ .vmem, ⟨4, _⟩ => ⟨S4x96x273x1, .f32⟩
  | _, _ => ⟨S4x96x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x96x16x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x96x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x96x273x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x96x273x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Run.lean ====
/-
  One grid point of `project_attend`, run once at symbolic buffers: from the fifteen buffers held whole the
  body runs to its return, and the run names what each of the ten buffers it writes holds then.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The word the body's one conditional tests: set at the first grid point only. -/
abbrev firstWord (i : grid0.Coords) : BitVec 1 :=
  Scalar.cmpi .ne (Scalar.extui (Scalar.cmpi .eq (BitVec.ofNat 32 (i 0).val) 0#32)) 0#32

/-- The grid point before this one, zero at the first: the group of heads the point attends on. -/
abbrev prv (i : grid0.Coords) : Nat := (i 0).val - 1
instance (i : grid0.Coords) : ClosedOff (k0_off1 i 0#32) := ⟨![0, prv i % 4 * 2 + 0, 0], (by decide +kernel : ∀ i : grid0.Coords, k0_off1 i 0#32 = ![0, prv i % 4 * 2 + 0, 0]) i⟩
instance (i : grid0.Coords) : ClosedOff (k0_off1 i 1#32) := ⟨![0, prv i % 4 * 2 + 1, 0], (by decide +kernel : ∀ i : grid0.Coords, k0_off1 i 1#32 = ![0, prv i % 4 * 2 + 1, 0]) i⟩
instance (i : grid0.Coords) : ClosedOff (k0_off2 i 0#32) := ⟨![prv i % 2 * 64 + 0, 0], (by decide +kernel : ∀ i : grid0.Coords, k0_off2 i 0#32 = ![prv i % 2 * 64 + 0, 0]) i⟩
instance (i : grid0.Coords) : ClosedOff (k0_off2 i 160#32) := ⟨![prv i % 2 * 64 + 160, 0], (by decide +kernel : ∀ i : grid0.Coords, k0_off2 i 160#32 = ![prv i % 2 * 64 + 160, 0]) i⟩
instance (i : grid0.Coords) : ClosedOff (k0_off3 i) := ⟨![0, 0, prv i % 2 * 256], (by decide +kernel : ∀ i : grid0.Coords, k0_off3 i = ![0, 0, prv i % 2 * 256]) i⟩
instance (i : grid0.Coords) : ClosedOff (k0_off4 i 0#32) := ⟨![1, prv i % 4 * 2 + 0, 0], (by decide +kernel : ∀ i : grid0.Coords, k0_off4 i 0#32 = ![1, prv i % 4 * 2 + 0, 0]) i⟩
instance (i : grid0.Coords) : ClosedOff (k0_off4 i 1#32) := ⟨![1, prv i % 4 * 2 + 1, 0], (by decide +kernel : ∀ i : grid0.Coords, k0_off4 i 1#32 = ![1, prv i % 4 * 2 + 1, 0]) i⟩
instance (i : grid0.Coords) : ClosedOff (k0_off5 i 0#32) := ⟨![prv i % 2 * 64 + 0, 256], (by decide +kernel : ∀ i : grid0.Coords, k0_off5 i 0#32 = ![prv i % 2 * 64 + 0, 256]) i⟩
instance (i : grid0.Coords) : ClosedOff (k0_off5 i 160#32) := ⟨![prv i % 2 * 64 + 160, 256], (by decide +kernel : ∀ i : grid0.Coords, k0_off5 i 160#32 = ![prv i % 2 * 64 + 160, 256]) i⟩
instance (i : grid0.Coords) : ClosedOff (k0_off6 i) := ⟨![1, 0, prv i % 2 * 256], (by decide +kernel : ∀ i : grid0.Coords, k0_off6 i = ![1, 0, prv i % 2 * 256]) i⟩
instance (i : grid0.Coords) : ClosedOff (k0_off7 i 0#32) := ⟨![2, prv i % 4 * 2 + 0, 0], (by decide +kernel : ∀ i : grid0.Coords, k0_off7 i 0#32 = ![2, prv i % 4 * 2 + 0, 0]) i⟩
instance (i : grid0.Coords) : ClosedOff (k0_off7 i 1#32) := ⟨![2, prv i % 4 * 2 + 1, 0], (by decide +kernel : ∀ i : grid0.Coords, k0_off7 i 1#32 = ![2, prv i % 4 * 2 + 1, 0]) i⟩
instance (i : grid0.Coords) : ClosedOff (k0_off8 i 0#32) := ⟨![prv i % 2 * 64 + 0, 512], (by decide +kernel : ∀ i : grid0.Coords, k0_off8 i 0#32 = ![prv i % 2 * 64 + 0, 512]) i⟩
instance (i : grid0.Coords) : ClosedOff (k0_off8 i 160#32) := ⟨![prv i % 2 * 64 + 160, 512], (by decide +kernel : ∀ i : grid0.Coords, k0_off8 i 160#32 = ![prv i % 2 * 64 + 160, 512]) i⟩
instance (i : grid0.Coords) : ClosedOff (k0_off9 i) := ⟨![2, 0, prv i % 2 * 256], (by decide +kernel : ∀ i : grid0.Coords, k0_off9 i = ![2, 0, prv i % 2 * 256]) i⟩
instance (i : grid0.Coords) : ClosedOff (k0_off10 i 0#32) := ⟨![3, prv i % 4 * 2 + 0, 0], (by decide +kernel : ∀ i : grid0.Coords, k0_off10 i 0#32 = ![3, prv i % 4 * 2 + 0, 0]) i⟩
instance (i : grid0.Coords) : ClosedOff (k0_off10 i 1#32) := ⟨![3, prv i % 4 * 2 + 1, 0], (by decide +kernel : ∀ i : grid0.Coords, k0_off10 i 1#32 = ![3, prv i % 4 * 2 + 1, 0]) i⟩
instance (i : grid0.Coords) : ClosedOff (k0_off11 i 0#32) := ⟨![prv i % 2 * 64 + 0, 768], (by decide +kernel : ∀ i : grid0.Coords, k0_off11 i 0#32 = ![prv i % 2 * 64 + 0, 768]) i⟩
instance (i : grid0.Coords) : ClosedOff (k0_off11 i 160#32) := ⟨![prv i % 2 * 64 + 160, 768], (by decide +kernel : ∀ i : grid0.Coords, k0_off11 i 160#32 = ![prv i % 2 * 64 + 160, 768]) i⟩
instance (i : grid0.Coords) : ClosedOff (k0_off12 i) := ⟨![3, 0, prv i % 2 * 256], (by decide +kernel : ∀ i : grid0.Coords, k0_off12 i = ![3, 0, prv i % 2 * 256]) i⟩

noncomputable def kernelRun (c : Dev nD) (i : grid0.Coords)
    (M1 : Memref sig .tc .vmem S7680x1024 .i32) (h1 : M1.IsWhole)
    (M2 : Memref sig .tc .vmem S320x15360 .fp8e4m3) (h2 : M2.IsWhole)
    (M3 : Memref sig .tc .vmem S2x16x15360 .fp8e4m3) (h3 : M3.IsWhole)
    (M4 : Memref sig .tc .vmem S2x16x15360 .fp8e4m3) (h4 : M4.IsWhole)
    (M5 : Memref sig .tc .vmem S1x1x512 .f32) (h5 : M5.IsWhole)
    (M6 : Memref sig .tc .vmem S4x256x640 .bf16) (h6 : M6.IsWhole)
    (M7 : Memref sig .tc .vmem S4x2x16x256 .fp8e4m3) (h7 : M7.IsWhole)
    (M8 : Memref sig .tc .vmem S4x8x256 .f32) (h8 : M8.IsWhole)
    (M9 : Memref sig .tc .vmem S4x2x16x256 .fp8e4m3) (h9 : M9.IsWhole)
    (M10 : Memref sig .tc .vmem S4x8x256 .f32) (h10 : M10.IsWhole)
    (M11 : Memref sig .tc .vmem S320x1024 .bf16) (h11 : M11.IsWhole)
    (M12 : Memref sig .tc .vmem S384x1024 .f32) (h12 : M12.IsWhole)
    (M13 : Memref sig .tc .vmem S64x1024 .f32) (h13 : M13.IsWhole)
    (M14 : Memref sig .tc .vmem S320x1024 .bf16) (h14 : M14.IsWhole)
    (M15 : Memref sig .tc .vmem S384x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M6 × Bf (F := F) c M7 × Bf (F := F) c M8 × Bf (F := F) c M9 × Bf (F := F) c M10 × Bf (F := F) c M11 × Bf (F := F) c M12 × Bf (F := F) c M13 × Bf (F := F) c M14 × Bf (F := F) c M15 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 W.2.2.2.2.2.2.1 ∗ pt c M13 W.2.2.2.2.2.2.2.1 ∗ pt c M14 W.2.2.2.2.2.2.2.2.1 ∗ pt c M15 W.2.2.2.2.2.2.2.2.2) -∗ Q ⟨⟩))
        ⊢ wp frame (wpE (defs₀ (F := F)) Variants.none c none) E
            (cc0_project_attend i M1 h1 M2 h2 M3 h3 M4 h4 M5 h5 M6 h6 M7 h7 M8 h8 M9 h9 M10 h10 M11 h11 M12 h12 M13 h13 M14 h14 M15 h15) Q } := by
  refine ⟨⟨?_, ?_, ?_, ?_, ?_, ?_, ?_, ?_, ?_, ?_⟩, fun E Q => ?run⟩
  case run =>
    iintro ⟨H1, H2, H3, H4, H5, H6, H7, H8, H9, H10, H11, H12, H13, H14, H15, Hk⟩
    simp only [cc0_project_attend_eq_skeleton]; unfold cc0_project_attend_skel
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Hand

end
-- ==== Proof.Left.lean ====
/-
  What one run of the `project_attend` body (Run.lean) leaves in each buffer, each given a name, and the run
  restated with those names.
-/
module

public import proofs.«01_k».proof.Proof.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator afterwards: fifteen chunks of the product summed. -/
def leftA (c : Dev nD) (M1 : Memref sig .tc .vmem S7680x1024 .i32) (M2 : Memref sig .tc .vmem S320x15360 .fp8e4m3) (M3 : Memref sig .tc .vmem S2x16x15360 .fp8e4m3) (M4 : Memref sig .tc .vmem S2x16x15360 .fp8e4m3) (M12 : Memref sig .tc .vmem S384x1024 .f32) (f1 : Bf (F := F) c M1) (f2 : Bf (F := F) c M2) (f3 : Bf (F := F) c M3) (f4 : Bf (F := F) c M4) : Bf (F := F) c M12 :=
  M12.view.writes (Elt F) M12.view.junk (kernelRun.sl.H12_15 c M1 M2 M3 M4 M12 f1 f2 f3 f4)

/-- The scaled queries and keys afterwards. -/
def leftQK (c : Dev nD) (M1 : Memref sig .tc .vmem S7680x1024 .i32) (M2 : Memref sig .tc .vmem S320x15360 .fp8e4m3) (M3 : Memref sig .tc .vmem S2x16x15360 .fp8e4m3) (M4 : Memref sig .tc .vmem S2x16x15360 .fp8e4m3) (M5 : Memref sig .tc .vmem S1x1x512 .f32) (M12 : Memref sig .tc .vmem S384x1024 .f32) (M13 : Memref sig .tc .vmem S64x1024 .f32) (f1 : Bf (F := F) c M1) (f2 : Bf (F := F) c M2) (f3 : Bf (F := F) c M3) (f4 : Bf (F := F) c M4) (f5 : Bf (F := F) c M5) : Bf (F := F) c M13 :=
  M13.view.writes (Elt F) M13.view.junk (kernelRun.sl.H13_2 c M1 M2 M3 M4 M5 M12 f1 f2 f3 f4 f5)

/-- The scaled values afterwards. -/
def leftV (c : Dev nD) (M1 : Memref sig .tc .vmem S7680x1024 .i32) (M2 : Memref sig .tc .vmem S320x15360 .fp8e4m3) (M3 : Memref sig .tc .vmem S2x16x15360 .fp8e4m3) (M4 : Memref sig .tc .vmem S2x16x15360 .fp8e4m3) (M5 : Memref sig .tc .vmem S1x1x512 .f32) (M12 : Memref sig .tc .vmem S384x1024 .f32) (M14 : Memref sig .tc .vmem S320x1024 .bf16) (f1 : Bf (F := F) c M1) (f2 : Bf (F := F) c M2) (f3 : Bf (F := F) c M3) (f4 : Bf (F := F) c M4) (f5 : Bf (F := F) c M5) : Bf (F := F) c M14 :=
  M14.view.writes (Elt F) M14.view.junk (kernelRun.sl.H14_1 c M1 M2 M3 M4 M5 M12 f1 f2 f3 f4 f5)

/-- The context rows afterwards, on what the buffer held. -/
def leftY (c : Dev nD) (i : grid0.Coords) (M13 : Memref sig .tc .vmem S64x1024 .f32) (M14 : Memref sig .tc .vmem S320x1024 .bf16) (M15 : Memref sig .tc .vmem S384x1024 .bf16) (f13 : Bf (F := F) c M13) (f14 : Bf (F := F) c M14) (f15 : Bf (F := F) c M15) : Bf (F := F) c M15 :=
  M15.view.writes (Elt F) (if hc : kernelRun.sl.v24 i = 1#1 then M15.view.writes (Elt F) f15 [⟨Rect.unit ![0, 0] S384x1024.size inb_S384x1024_S384x1024_0_0, k0_pay4⟩] else f15)
    (kernelRun.sl.H15_9 c i M13 M14 M15 f13 f14 f15)

/-- The attention output's block afterwards. -/
def left5 (c : Dev nD) (i : grid0.Coords) (M6 : Memref sig .tc .vmem S4x256x640 .bf16) (M13 : Memref sig .tc .vmem S64x1024 .f32) (M14 : Memref sig .tc .vmem S320x1024 .bf16) (M15 : Memref sig .tc .vmem S384x1024 .bf16) (f6 : Bf (F := F) c M6) (f13 : Bf (F := F) c M13) (f14 : Bf (F := F) c M14) (f15 : Bf (F := F) c M15) : Bf (F := F) c M6 :=
  M6.view.writes (Elt F) f6 (kernelRun.sl.H6_4 c i M13 M14 M15 f13 f14 f15)

/-- The query codes' block afterwards. -/
def left6 (c : Dev nD) (i : grid0.Coords) (M7 : Memref sig .tc .vmem S4x2x16x256 .fp8e4m3) (M13 : Memref sig .tc .vmem S64x1024 .f32) (f13 : Bf (F := F) c M13) : Bf (F := F) c M7 :=
  M7.view.writes (Elt F) M7.view.junk (kernelRun.sl.H7_8 c i M13 f13)

/-- The query scales' block afterwards. -/
def left7 (c : Dev nD) (i : grid0.Coords) (M8 : Memref sig .tc .vmem S4x8x256 .f32) (M13 : Memref sig .tc .vmem S64x1024 .f32) (f8 : Bf (F := F) c M8) (f13 : Bf (F := F) c M13) : Bf (F := F) c M8 :=
  M8.view.writes (Elt F) f8 (kernelRun.sl.H8_8 c i M13 f13)

/-- The key codes' block afterwards. -/
def left8 (c : Dev nD) (i : grid0.Coords) (M9 : Memref sig .tc .vmem S4x2x16x256 .fp8e4m3) (M13 : Memref sig .tc .vmem S64x1024 .f32) (f13 : Bf (F := F) c M13) : Bf (F := F) c M9 :=
  M9.view.writes (Elt F) M9.view.junk (kernelRun.sl.H9_8 c i M13 f13)

/-- The key scales' block afterwards. -/
def left9 (c : Dev nD) (i : grid0.Coords) (M10 : Memref sig .tc .vmem S4x8x256 .f32) (M13 : Memref sig .tc .vmem S64x1024 .f32) (f10 : Bf (F := F) c M10) (f13 : Bf (F := F) c M13) : Bf (F := F) c M10 :=
  M10.view.writes (Elt F) f10 (kernelRun.sl.H10_8 c i M13 f13)

/-- The values' block afterwards. -/
def left10 (c : Dev nD) (i : grid0.Coords) (M11 : Memref sig .tc .vmem S320x1024 .bf16) (M14 : Memref sig .tc .vmem S320x1024 .bf16) (f14 : Bf (F := F) c M14) : Bf (F := F) c M11 :=
  M11.view.writes (Elt F) M11.view.junk (kernelRun.sl.H11_1 c i M14 f14)

/-- The contents the run finds are the named ones. -/
theorem run_contents (c : Dev nD) (i : grid0.Coords) (M1 : Memref sig .tc .vmem S7680x1024 .i32) (h1 : M1.IsWhole) (M2 : Memref sig .tc .vmem S320x15360 .fp8e4m3) (h2 : M2.IsWhole) (M3 : Memref sig .tc .vmem S2x16x15360 .fp8e4m3) (h3 : M3.IsWhole) (M4 : Memref sig .tc .vmem S2x16x15360 .fp8e4m3) (h4 : M4.IsWhole) (M5 : Memref sig .tc .vmem S1x1x512 .f32) (h5 : M5.IsWhole) (M6 : Memref sig .tc .vmem S4x256x640 .bf16) (h6 : M6.IsWhole) (M7 : Memref sig .tc .vmem S4x2x16x256 .fp8e4m3) (h7 : M7.IsWhole) (M8 : Memref sig .tc .vmem S4x8x256 .f32) (h8 : M8.IsWhole) (M9 : Memref sig .tc .vmem S4x2x16x256 .fp8e4m3) (h9 : M9.IsWhole) (M10 : Memref sig .tc .vmem S4x8x256 .f32) (h10 : M10.IsWhole) (M11 : Memref sig .tc .vmem S320x1024 .bf16) (h11 : M11.IsWhole) (M12 : Memref sig .tc .vmem S384x1024 .f32) (h12 : M12.IsWhole) (M13 : Memref sig .tc .vmem S64x1024 .f32) (h13 : M13.IsWhole) (M14 : Memref sig .tc .vmem S320x1024 .bf16) (h14 : M14.IsWhole) (M15 : Memref sig .tc .vmem S384x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    (kernelRun c i M1 h1 M2 h2 M3 h3 M4 h4 M5 h5 M6 h6 M7 h7 M8 h8 M9 h9 M10 h10 M11 h11 M12 h12 M13 h13 M14 h14 M15 h15 f1 f2 f3 f4 f5 f6 f7 f8 f9 f10 f11 f12 f13 f14 f15).1 =
      (left5 c i M6 M13 M14 M15 f6 f13 f14 f15, left6 c i M7 M13 f13, left7 c i M8 M13 f8 f13, left8 c i M9 M13 f13, left9 c i M10 M13 f10 f13, left10 c i M11 M14 f14, leftA c M1 M2 M3 M4 M12 f1 f2 f3 f4, leftQK c M1 M2 M3 M4 M5 M12 M13 f1 f2 f3 f4 f5, leftV c M1 M2 M3 M4 M5 M12 M14 f1 f2 f3 f4 f5, leftY c i M13 M14 M15 f13 f14 f15) := by
  delta kernelRun left5 left6 left7 left8 left9 left10 leftA leftQK leftV leftY
  rfl

attribute [local irreducible] kernelRun
/-- The body's run, what it leaves named. -/
theorem body_run (c : Dev nD) (i : grid0.Coords) (M1 : Memref sig .tc .vmem S7680x1024 .i32) (h1 : M1.IsWhole) (M2 : Memref sig .tc .vmem S320x15360 .fp8e4m3) (h2 : M2.IsWhole) (M3 : Memref sig .tc .vmem S2x16x15360 .fp8e4m3) (h3 : M3.IsWhole) (M4 : Memref sig .tc .vmem S2x16x15360 .fp8e4m3) (h4 : M4.IsWhole) (M5 : Memref sig .tc .vmem S1x1x512 .f32) (h5 : M5.IsWhole) (M6 : Memref sig .tc .vmem S4x256x640 .bf16) (h6 : M6.IsWhole) (M7 : Memref sig .tc .vmem S4x2x16x256 .fp8e4m3) (h7 : M7.IsWhole) (M8 : Memref sig .tc .vmem S4x8x256 .f32) (h8 : M8.IsWhole) (M9 : Memref sig .tc .vmem S4x2x16x256 .fp8e4m3) (h9 : M9.IsWhole) (M10 : Memref sig .tc .vmem S4x8x256 .f32) (h10 : M10.IsWhole) (M11 : Memref sig .tc .vmem S320x1024 .bf16) (h11 : M11.IsWhole) (M12 : Memref sig .tc .vmem S384x1024 .f32) (h12 : M12.IsWhole) (M13 : Memref sig .tc .vmem S64x1024 .f32) (h13 : M13.IsWhole) (M14 : Memref sig .tc .vmem S320x1024 .bf16) (h14 : M14.IsWhole) (M15 : Memref sig .tc .vmem S384x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (K : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
        ∗ (iprop(pt c M1 f1 ∗ pt c M2 f2 ∗ pt c M3 f3 ∗ pt c M4 f4 ∗ pt c M5 f5
            ∗ pt c M6 (left5 c i M6 M13 M14 M15 f6 f13 f14 f15) ∗ pt c M7 (left6 c i M7 M13 f13) ∗ pt c M8 (left7 c i M8 M13 f8 f13) ∗ pt c M9 (left8 c i M9 M13 f13) ∗ pt c M10 (left9 c i M10 M13 f10 f13) ∗ pt c M11 (left10 c i M11 M14 f14) ∗ pt c M12 (leftA c M1 M2 M3 M4 M12 f1 f2 f3 f4) ∗ pt c M13 (leftQK c M1 M2 M3 M4 M5 M12 M13 f1 f2 f3 f4 f5) ∗ pt c M14 (leftV c M1 M2 M3 M4 M5 M12 M14 f1 f2 f3 f4 f5) ∗ pt c M15 (leftY c i M13 M14 M15 f13 f14 f15)) -∗ K ⟨⟩))
      ⊢ wp frame (wpE (defs₀ (F := F)) Variants.none c none) Set.univ
          (cc0_project_attend i M1 h1 M2 h2 M3 h3 M4 h4 M5 h5 M6 h6 M7 h7 M8 h8 M9 h9 M10 h10 M11 h11 M12 h12 M13 h13 M14 h14 M15 h15) K := by
  have h := (kernelRun c i M1 h1 M2 h2 M3 h3 M4 h4 M5 h5 M6 h6 M7 h7 M8 h8 M9 h9 M10 h10 M11 h11 M12 h12 M13 h13 M14 h14 M15 h15 f1 f2 f3 f4 f5 f6 f7 f8 f9 f10 f11 f12 f13 f14 f15).2 Set.univ K
  rw [run_contents] at h
  dsimp only at h
  exact h

/-- A whole memref owned at `X` is its buffer held at the contents reading `X`. -/
theorem owns_unread (c : Dev nD) {sp : Space} {S : Shape} {e : EltTy} (M : Memref sig .tc sp S e) (h : M.IsWhole) (X : S.Idx → Elt F e) :
    (owns (c : Thread nD τ) M fullShare X : sProp 𝕄) = pt c M (h.unread X) := by
  have hX := h.read_unread X
  revert hX
  generalize h.unread X = f
  rintro rfl
  obtain ⟨b, hsp, hsh, he, hb⟩ := h
  subst hsp hsh he
  cases hb
  exact owns_whole _ _ _ _

theorem owns_read (c : Dev nD) {sp : Space} {S : Shape} {e : EltTy} (M : Memref sig .tc sp S e) (h : M.IsWhole) (f : Bf (F := F) c M) :
    (owns (c : Thread nD τ) M fullShare (M.view.read (Elt F) f) : sProp 𝕄) = pt c M f := by
  rw [owns_unread c M h, h.unread_read]

/-- The body's run between owned staging memrefs. -/
theorem owned_run (c : Dev nD) (i : grid0.Coords) (M1 : Memref sig .tc .vmem S7680x1024 .i32) (h1 : M1.IsWhole) (M2 : Memref sig .tc .vmem S320x15360 .fp8e4m3) (h2 : M2.IsWhole) (M3 : Memref sig .tc .vmem S2x16x15360 .fp8e4m3) (h3 : M3.IsWhole) (M4 : Memref sig .tc .vmem S2x16x15360 .fp8e4m3) (h4 : M4.IsWhole) (M5 : Memref sig .tc .vmem S1x1x512 .f32) (h5 : M5.IsWhole) (M6 : Memref sig .tc .vmem S4x256x640 .bf16) (h6 : M6.IsWhole) (M7 : Memref sig .tc .vmem S4x2x16x256 .fp8e4m3) (h7 : M7.IsWhole) (M8 : Memref sig .tc .vmem S4x8x256 .f32) (h8 : M8.IsWhole) (M9 : Memref sig .tc .vmem S4x2x16x256 .fp8e4m3) (h9 : M9.IsWhole) (M10 : Memref sig .tc .vmem S4x8x256 .f32) (h10 : M10.IsWhole) (M11 : Memref sig .tc .vmem S320x1024 .bf16) (h11 : M11.IsWhole) (M12 : Memref sig .tc .vmem S384x1024 .f32) (h12 : M12.IsWhole) (M13 : Memref sig .tc .vmem S64x1024 .f32) (h13 : M13.IsWhole) (M14 : Memref sig .tc .vmem S320x1024 .bf16) (h14 : M14.IsWhole) (M15 : Memref sig .tc .vmem S384x1024 .bf16) (h15 : M15.IsWhole)
    (X1 : S7680x1024.Idx → Elt F .i32) (X2 : S320x15360.Idx → Elt F .fp8e4m3) (X3 : S2x16x15360.Idx → Elt F .fp8e4m3) (X4 : S2x16x15360.Idx → Elt F .fp8e4m3) (X5 : S1x1x512.Idx → Elt F .f32) (X6 : S4x256x640.Idx → Elt F .bf16) (X7 : S4x2x16x256.Idx → Elt F .fp8e4m3) (X8 : S4x8x256.Idx → Elt F .f32) (X9 : S4x2x16x256.Idx → Elt F .fp8e4m3) (X10 : S4x8x256.Idx → Elt F .f32) (X11 : S320x1024.Idx → Elt F .bf16)
    (f12 : Bf (F := F) c M12) (f13 : Bf (F := F) c M13) (f14 : Bf (F := F) c M14) (f15 : Bf (F := F) c M15) (K : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ pt c M12 f12 ∗ pt c M13 f13 ∗ pt c M14 f14 ∗ pt c M15 f15
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5
            ∗ owns (c : Thread nD τ) M6 fullShare (M6.view.read (Elt F) (left5 c i M6 M13 M14 M15 (h6.unread X6) f13 f14 f15)) ∗ owns (c : Thread nD τ) M7 fullShare (M7.view.read (Elt F) (left6 c i M7 M13 f13)) ∗ owns (c : Thread nD τ) M8 fullShare (M8.view.read (Elt F) (left7 c i M8 M13 (h8.unread X8) f13)) ∗ owns (c : Thread nD τ) M9 fullShare (M9.view.read (Elt F) (left8 c i M9 M13 f13)) ∗ owns (c : Thread nD τ) M10 fullShare (M10.view.read (Elt F) (left9 c i M10 M13 (h10.unread X10) f13)) ∗ owns (c : Thread nD τ) M11 fullShare (M11.view.read (Elt F) (left10 c i M11 M14 f14))
            ∗ pt c M12 (leftA c M1 M2 M3 M4 M12 (h1.unread X1) (h2.unread X2) (h3.unread X3) (h4.unread X4)) ∗ pt c M13 (leftQK c M1 M2 M3 M4 M5 M12 M13 (h1.unread X1) (h2.unread X2) (h3.unread X3) (h4.unread X4) (h5.unread X5)) ∗ pt c M14 (leftV c M1 M2 M3 M4 M5 M12 M14 (h1.unread X1) (h2.unread X2) (h3.unread X3) (h4.unread X4) (h5.unread X5)) ∗ pt c M15 (leftY c i M13 M14 M15 f13 f14 f15)) -∗ K ⟨⟩))
      ⊢ wp frame (wpE (defs₀ (F := F)) Variants.none c none) Set.univ
          (cc0_project_attend i M1 h1 M2 h2 M3 h3 M4 h4 M5 h5 M6 h6 M7 h7 M8 h8 M9 h9 M10 h10 M11 h11 M12 h12 M13 h13 M14 h14 M15 h15) K := by
  rw [owns_read c M6 h6, owns_read c M7 h7, owns_read c M8 h8, owns_read c M9 h9, owns_read c M10 h10, owns_read c M11 h11, owns_unread c M1 h1, owns_unread c M2 h2, owns_unread c M3 h3, owns_unread c M4 h4, owns_unread c M5 h5, owns_unread c M6 h6, owns_unread c M7 h7, owns_unread c M8 h8, owns_unread c M9 h9, owns_unread c M10 h10, owns_unread c M11 h11]
  exact body_run c i M1 h1 M2 h2 M3 h3 M4 h4 M5 h5 M6 h6 M7 h7 M8 h8 M9 h9 M10 h10 M11 h11 M12 h12 M13 h13 M14 h14 M15 h15 (h1.unread X1) (h2.unread X2) (h3.unread X3) (h4.unread X4) (h5.unread X5) (h6.unread X6) (h7.unread X7) (h8.unread X8) (h9.unread X9) (h10.unread X10) (h11.unread X11) f12 f13 f14 f15 K

end Cert.KernelIdeal.Hand

end
-- ==== Proof.Data.lean ====
/-
  The region of `project_attend`, run point by point with relational data: what the scratch holds before each
  point is described by the earlier points (`Reach`), and what a point leaves in each staging buffer is the
  body's own run (Run.lean) at it. From it the whole run of the program (`run_main`).
-/
module

public import proofs.«01_k».proof.Proof.Left
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

/-- Each window's staging memref at point `t`, and that it is whole. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)

/-- The four scratch buffers: the accumulator, the scaled queries and keys, the values, and the context rows. -/
abbrev scA := Memref.whole (sig := sig) cc0_scratch0
abbrev scQK := Memref.whole (sig := sig) cc0_scratch1
abbrev scV := Memref.whole (sig := sig) cc0_scratch2
abbrev scY := Memref.whole (sig := sig) cc0_scratch3

/-- The raw contents of each input's staging buffer at point `t`: the array's block there. -/
abbrev gin0 (c : Dev nD) (t : Fin cfg0.N) : Bf (F := F) c (ms0 t) := (hs0 t).unread (iblk m c 0 t)
abbrev gin1 (c : Dev nD) (t : Fin cfg0.N) : Bf (F := F) c (ms1 t) := (hs1 t).unread (iblk m c 1 t)
abbrev gin2 (c : Dev nD) (t : Fin cfg0.N) : Bf (F := F) c (ms2 t) := (hs2 t).unread (iblk m c 2 t)
abbrev gin3 (c : Dev nD) (t : Fin cfg0.N) : Bf (F := F) c (ms3 t) := (hs3 t).unread (iblk m c 3 t)
abbrev gin4 (c : Dev nD) (t : Fin cfg0.N) : Bf (F := F) c (ms4 t) := (hs4 t).unread (iblk m c 4 t)

/-! ## What a point leaves -/

/-- The accumulator the point leaves. -/
abbrev outA (c : Dev nD) (t : Fin cfg0.N) : Bf (F := F) c scA :=
  leftA c (ms0 t) (ms1 t) (ms2 t) (ms3 t) scA (gin0 m c t) (gin1 m c t) (gin2 m c t) (gin3 m c t)
/-- The scaled queries and keys the point leaves for the next one. -/
abbrev outQK (c : Dev nD) (t : Fin cfg0.N) : Bf (F := F) c scQK :=
  leftQK c (ms0 t) (ms1 t) (ms2 t) (ms3 t) (ms4 t) scA scQK (gin0 m c t) (gin1 m c t) (gin2 m c t) (gin3 m c t) (gin4 m c t)
/-- The scaled values the point leaves for the next one. -/
abbrev outV (c : Dev nD) (t : Fin cfg0.N) : Bf (F := F) c scV :=
  leftV c (ms0 t) (ms1 t) (ms2 t) (ms3 t) (ms4 t) scA scV (gin0 m c t) (gin1 m c t) (gin2 m c t) (gin3 m c t) (gin4 m c t)
/-- The context rows the point leaves, on what the scratch held. -/
abbrev outY (c : Dev nD) (t : Fin cfg0.N) (f13 : Bf (F := F) c scQK) (f14 : Bf (F := F) c scV) (f15 : Bf (F := F) c scY) : Bf (F := F) c scY :=
  leftY c (grid0.coords t) scQK scV scY f13 f14 f15
/-- The outputs' staging buffers after the point, on what they and the scratch held. -/
abbrev out5 (c : Dev nD) (t : Fin cfg0.N) (f6 : Bf (F := F) c (ms5 t)) (f13 : Bf (F := F) c scQK) (f14 : Bf (F := F) c scV) (f15 : Bf (F := F) c scY) : Bf (F := F) c (ms5 t) :=
  left5 c (grid0.coords t) (ms5 t) scQK scV scY f6 f13 f14 f15
abbrev out6 (c : Dev nD) (t : Fin cfg0.N) (f13 : Bf (F := F) c scQK) : Bf (F := F) c (ms6 t) :=
  left6 c (grid0.coords t) (ms6 t) scQK f13
abbrev out7 (c : Dev nD) (t : Fin cfg0.N) (f8 : Bf (F := F) c (ms7 t)) (f13 : Bf (F := F) c scQK) : Bf (F := F) c (ms7 t) :=
  left7 c (grid0.coords t) (ms7 t) scQK f8 f13
abbrev out8 (c : Dev nD) (t : Fin cfg0.N) (f13 : Bf (F := F) c scQK) : Bf (F := F) c (ms8 t) :=
  left8 c (grid0.coords t) (ms8 t) scQK f13
abbrev out9 (c : Dev nD) (t : Fin cfg0.N) (f10 : Bf (F := F) c (ms9 t)) (f13 : Bf (F := F) c scQK) : Bf (F := F) c (ms9 t) :=
  left9 c (grid0.coords t) (ms9 t) scQK f10 f13
abbrev out10 (c : Dev nD) (t : Fin cfg0.N) (f14 : Bf (F := F) c scV) : Bf (F := F) c (ms10 t) :=
  left10 c (grid0.coords t) (ms10 t) scV f14

/-- The scratch contents that can be found before point `n`: anything before the first, and before a later point
    what the point before left, from contents that could be found before it. -/
def Reach (c : Dev nD) : Nat → Bf (F := F) c scQK → Bf (F := F) c scV → Bf (F := F) c scY → Prop
  | 0, _, _, _ => True
  | n + 1, f13, f14, f15 => ∃ (hn : n < cfg0.N) (e13 : Bf (F := F) c scQK) (e14 : Bf (F := F) c scV) (e15 : Bf (F := F) c scY),
      Reach c n e13 e14 e15 ∧ f13 = outQK m c ⟨n, hn⟩ ∧ f14 = outV m c ⟨n, hn⟩ ∧ f15 = outY c ⟨n, hn⟩ e13 e14 e15

/-- What the body may leave in window `w`'s staging buffer at point `t`, given what it found there. -/
def afterOf (c : Dev nD) (w : Fin cfg0.W) (t : Fin cfg0.N) (Y X : (cfg0.win w).block.Idx → Elt F (cfg0.win w).elt) : Prop :=
  match w, Y, X with
  | ⟨5, _⟩, Y, X => ∃ f13 f14 f15, Reach m c t.val f13 f14 f15 ∧ X = (ms5 t).view.read (Elt F) (out5 c t ((hs5 t).unread Y) f13 f14 f15)
  | ⟨6, _⟩, Y, X => ∃ f13 f14 f15, Reach m c t.val f13 f14 f15 ∧ X = (ms6 t).view.read (Elt F) (out6 c t f13)
  | ⟨7, _⟩, Y, X => ∃ f13 f14 f15, Reach m c t.val f13 f14 f15 ∧ X = (ms7 t).view.read (Elt F) (out7 c t ((hs7 t).unread Y) f13)
  | ⟨8, _⟩, Y, X => ∃ f13 f14 f15, Reach m c t.val f13 f14 f15 ∧ X = (ms8 t).view.read (Elt F) (out8 c t f13)
  | ⟨9, _⟩, Y, X => ∃ f13 f14 f15, Reach m c t.val f13 f14 f15 ∧ X = (ms9 t).view.read (Elt F) (out9 c t ((hs9 t).unread Y) f13)
  | ⟨10, _⟩, Y, X => ∃ f13 f14 f15, Reach m c t.val f13 f14 f15 ∧ X = (ms10 t).view.read (Elt F) (out10 c t f14)
  | _, Y, X => X = Y

/-- The body's invariant before point `n`: the four scratch buffers held, the last three at contents that can be
    found there, and the generator register at some state. -/
def PhiAt (c : Dev nD) (n : Nat) : sProp 𝕄 :=
  iprop(∃ (f12 : Bf (F := F) c scA) (f13 : Bf (F := F) c scQK) (f14 : Bf (F := F) c scV) (f15 : Bf (F := F) c scY),
    ⌜Reach m c n f13 f14 f15⌝ ∗ pt c scA f12 ∗ pt c scQK f13 ∗ pt c scV f14 ∗ pt c scY f15 ∗ ∃ r, prngReg c r)

/-- The proof data on core `c`. -/
def rdat (c : Dev nD) : RDat τ (Elt F) Unit ℕ (UR sig nD τ) ℕ cfg0 c where
  A w := V m c (Pipeline.arrRef spec0 w)
  after w t Y X := afterOf m c w t Y X
  Φ n := PhiAt m c n.val
  q _ := fullShare
  owed _ := 0

/-! ## What the body finds in the inputs -/

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem after5 (c : Dev nD) (t : Fin cfg0.N) (Y : (cfg0.win 5).block.Idx → Elt F (cfg0.win 5).elt) {f13 f14 f15} (h : Reach m c t.val f13 f14 f15) :
    (rdat m c).after 5 t Y ((ms5 t).view.read (Elt F) (out5 c t ((hs5 t).unread Y) f13 f14 f15)) := ⟨f13, f14, f15, h, rfl⟩
theorem after6 (c : Dev nD) (t : Fin cfg0.N) (Y : (cfg0.win 6).block.Idx → Elt F (cfg0.win 6).elt) {f13 f14 f15} (h : Reach m c t.val f13 f14 f15) :
    (rdat m c).after 6 t Y ((ms6 t).view.read (Elt F) (out6 c t f13)) := ⟨f13, f14, f15, h, rfl⟩
theorem after7 (c : Dev nD) (t : Fin cfg0.N) (Y : (cfg0.win 7).block.Idx → Elt F (cfg0.win 7).elt) {f13 f14 f15} (h : Reach m c t.val f13 f14 f15) :
    (rdat m c).after 7 t Y ((ms7 t).view.read (Elt F) (out7 c t ((hs7 t).unread Y) f13)) := ⟨f13, f14, f15, h, rfl⟩
theorem after8 (c : Dev nD) (t : Fin cfg0.N) (Y : (cfg0.win 8).block.Idx → Elt F (cfg0.win 8).elt) {f13 f14 f15} (h : Reach m c t.val f13 f14 f15) :
    (rdat m c).after 8 t Y ((ms8 t).view.read (Elt F) (out8 c t f13)) := ⟨f13, f14, f15, h, rfl⟩
theorem after9 (c : Dev nD) (t : Fin cfg0.N) (Y : (cfg0.win 9).block.Idx → Elt F (cfg0.win 9).elt) {f13 f14 f15} (h : Reach m c t.val f13 f14 f15) :
    (rdat m c).after 9 t Y ((ms9 t).view.read (Elt F) (out9 c t ((hs9 t).unread Y) f13)) := ⟨f13, f14, f15, h, rfl⟩
theorem after10 (c : Dev nD) (t : Fin cfg0.N) (Y : (cfg0.win 10).block.Idx → Elt F (cfg0.win 10).elt) {f13 f14 f15} (h : Reach m c t.val f13 f14 f15) :
    (rdat m c).after 10 t Y ((ms10 t).view.read (Elt F) (out10 c t f14)) := ⟨f13, f14, f15, h, rfl⟩
theorem reach_succ (c : Dev nD) (t : Fin cfg0.N) {f13 f14 f15} (h : Reach m c t.val f13 f14 f15) :
    Reach m c (t.val + 1) (outQK m c t) (outV m c t) (outY c t f13 f14 f15) := ⟨t.isLt, f13, f14, f15, h, rfl, rfl, rfl⟩

end Cert.KernelIdeal.Hand

end
-- ==== Proof.Body.lean ====
/-
  The body obligation of `project_attend` at the data of Data.lean, and the whole run from it.
-/
module

public import proofs.«01_k».proof.Proof.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t` on staging contents `Y`, and what it returns. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X))

theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost
  rw [show (rdat m c).owesAt () t.succ = (rdat m c).owesAt () t.castSucc from rfl,
    show (rdat m c).Φ t.succ = PhiAt m c (t.val + 1) from rfl, show (rdat m c).Φ t.castSucc = PhiAt m c t.val from rfl]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  unfold PhiAt
  iintro ⟨⟨%f12, %f13, %f14, %f15, %hR, S12, S13, S14, S15, Hg⟩, HO, H0, H1, H2, H3, H4, H5, H6, H7, H8, H9, H10⟩
  iapply (owned_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scQK (Memref.isWhole_whole _) scV (Memref.isWhole_whole _) scY (Memref.isWhole_whole _)
    (iblk m c 0 t) (iblk m c 1 t) (iblk m c 2 t) (iblk m c 3 t) (iblk m c 4 t) (Y 5) (Y 6) (Y 7) (Y 8) (Y 9) (Y 10) f12 f13 f14 f15 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S12]; · iexact S12
  isplitl [S13]; · iexact S13
  isplitl [S14]; · iexact S14
  isplitl [S15]; · iexact S15
  iintro ⟨H0, H1, H2, H3, H4, H5, H6, H7, H8, H9, H10, S12, S13, S14, S15⟩
  isplitl [S12 S13 S14 S15 Hg]
  · iexists outA m c t, outQK m c t, outV m c t, outY c t f13 f14 f15
    isplitr; · ipureintro; exact reach_succ m c t hR
    isplitl [S12]; · iexact S12
    isplitl [S13]; · iexact S13
    isplitl [S14]; · iexact S14
    isplitl [S15]; · iexact S15
    iexact Hg
  isplitl [HO]; · iexact HO
  isplitl [H0]
  · iexists (iblk m c 0 t); isplitr; · ipureintro; exact rfl
    iexact H0
  isplitl [H1]
  · iexists (iblk m c 1 t); isplitr; · ipureintro; exact rfl
    iexact H1
  isplitl [H2]
  · iexists (iblk m c 2 t); isplitr; · ipureintro; exact rfl
    iexact H2
  isplitl [H3]
  · iexists (iblk m c 3 t); isplitr; · ipureintro; exact rfl
    iexact H3
  isplitl [H4]
  · iexists (iblk m c 4 t); isplitr; · ipureintro; exact rfl
    iexact H4
  isplitl [H5]
  · iexists ((ms5 t).view.read (Elt F) (out5 c t ((hs5 t).unread (Y 5)) f13 f14 f15)); isplitr; · ipureintro; exact after5 m c t _ hR
    iexact H5
  isplitl [H6]
  · iexists ((ms6 t).view.read (Elt F) (out6 c t f13)); isplitr; · ipureintro; exact after6 m c t _ hR
    iexact H6
  isplitl [H7]
  · iexists ((ms7 t).view.read (Elt F) (out7 c t ((hs7 t).unread (Y 7)) f13)); isplitr; · ipureintro; exact after7 m c t _ hR
    iexact H7
  isplitl [H8]
  · iexists ((ms8 t).view.read (Elt F) (out8 c t f13)); isplitr; · ipureintro; exact after8 m c t _ hR
    iexact H8
  isplitl [H9]
  · iexists ((ms9 t).view.read (Elt F) (out9 c t ((hs9 t).unread (Y 9)) f13)); isplitr; · ipureintro; exact after9 m c t _ hR
    iexact H9
  iexists ((ms10 t).view.read (Elt F) (out10 c t f14)); isplitr; · ipureintro; exact after10 m c t _ hR
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, defs₀_row]
  simp only [bigSep_W0]
  exact triple_restated (sound_body m c t Y hY) rfl .rfl fun _ => .rfl

/-! ## The launch -/

theorem phi_in (c : Dev nD) : (Pipeline.ΦA spec0 c : sProp 𝕄) ⊢ PhiAt m c 0 := by
  unfold Pipeline.ΦA PhiAt
  rw [scopedRest0_eq]
  iintro ⟨⟨⟨%f12, S12⟩, ⟨%f13, S13⟩, ⟨%f14, S14⟩, ⟨%f15, S15⟩⟩, Hg⟩
  iexists f12, f13, f14, f15
  isplitr; · ipureintro; exact trivial
  isplitl [S12]; · iexact S12
  isplitl [S13]; · iexact S13
  isplitl [S14]; · iexact S14
  isplitl [S15]; · iexact S15
  iexact Hg

theorem phi_out (c : Dev nD) (n : Nat) : PhiAt m c n ⊢ (Pipeline.ΦA spec0 c : sProp 𝕄) := by
  unfold Pipeline.ΦA PhiAt
  rw [scopedRest0_eq]
  iintro ⟨%f12, %f13, %f14, %f15, -, S12, S13, S14, S15, Hg⟩
  isplitl [S12 S13 S14 S15]
  · isplitl [S12]; · iexists f12; iexact S12
    isplitl [S13]; · iexists f13; iexact S13
    isplitl [S14]; · iexists f14; iexact S14
    iexists f15; iexact S15
  iexact Hg

set_option backward.isDefEq.respectTransparency.types false in
/-- From any memory with zero counters every execution of @main ends, the arrays described by the data above, every
    semaphore counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := Gen.hmain m Variants.none) (hA := fun _ _ => rfl)
    (hin := phi_in m) (hout := fun c => phi_out m c _)

/-- The argument arrays end holding what they held. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(RDat.FramePost.arr_in h.1 c 0 rfl).trans (V_main_arg0 m c),
      (RDat.FramePost.arr_in h.1 c 1 rfl).trans (V_main_arg1 m c), (RDat.FramePost.arr_in h.1 c 2 rfl).trans (V_main_arg2 m c),
      (RDat.FramePost.arr_in h.1 c 3 rfl).trans (V_main_arg3 m c), (RDat.FramePost.arr_in h.1 c 4 rfl).trans (V_main_arg4 m c)⟩, h.2⟩) (run_main m ρ)

end Cert.KernelIdeal.Hand

end
-- ==== Proof.BitsRun.lean ====
/-
  One grid point of `project_attend`, run once at symbolic buffers: from the fifteen buffers held whole the
  body runs to its return, and the run names what each of the ten buffers it writes holds then.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The word the body's one conditional tests: set at the first grid point only. -/
abbrev firstWord (i : grid0.Coords) : BitVec 1 :=
  Scalar.cmpi .ne (Scalar.extui (Scalar.cmpi .eq (BitVec.ofNat 32 (i 0).val) 0#32)) 0#32

/-- The grid point before this one, zero at the first: the group of heads the point attends on. -/
abbrev prv (i : grid0.Coords) : Nat := (i 0).val - 1
instance (i : grid0.Coords) : ClosedOff (k0_off1 i 0#32) := ⟨![0, prv i % 4 * 2 + 0, 0], (by decide +kernel : ∀ i : grid0.Coords, k0_off1 i 0#32 = ![0, prv i % 4 * 2 + 0, 0]) i⟩
instance (i : grid0.Coords) : ClosedOff (k0_off1 i 1#32) := ⟨![0, prv i % 4 * 2 + 1, 0], (by decide +kernel : ∀ i : grid0.Coords, k0_off1 i 1#32 = ![0, prv i % 4 * 2 + 1, 0]) i⟩
instance (i : grid0.Coords) : ClosedOff (k0_off2 i 0#32) := ⟨![prv i % 2 * 64 + 0, 0], (by decide +kernel : ∀ i : grid0.Coords, k0_off2 i 0#32 = ![prv i % 2 * 64 + 0, 0]) i⟩
instance (i : grid0.Coords) : ClosedOff (k0_off2 i 160#32) := ⟨![prv i % 2 * 64 + 160, 0], (by decide +kernel : ∀ i : grid0.Coords, k0_off2 i 160#32 = ![prv i % 2 * 64 + 160, 0]) i⟩
instance (i : grid0.Coords) : ClosedOff (k0_off3 i) := ⟨![0, 0, prv i % 2 * 256], (by decide +kernel : ∀ i : grid0.Coords, k0_off3 i = ![0, 0, prv i % 2 * 256]) i⟩
instance (i : grid0.Coords) : ClosedOff (k0_off4 i 0#32) := ⟨![1, prv i % 4 * 2 + 0, 0], (by decide +kernel : ∀ i : grid0.Coords, k0_off4 i 0#32 = ![1, prv i % 4 * 2 + 0, 0]) i⟩
instance (i : grid0.Coords) : ClosedOff (k0_off4 i 1#32) := ⟨![1, prv i % 4 * 2 + 1, 0], (by decide +kernel : ∀ i : grid0.Coords, k0_off4 i 1#32 = ![1, prv i % 4 * 2 + 1, 0]) i⟩
instance (i : grid0.Coords) : ClosedOff (k0_off5 i 0#32) := ⟨![prv i % 2 * 64 + 0, 256], (by decide +kernel : ∀ i : grid0.Coords, k0_off5 i 0#32 = ![prv i % 2 * 64 + 0, 256]) i⟩
instance (i : grid0.Coords) : ClosedOff (k0_off5 i 160#32) := ⟨![prv i % 2 * 64 + 160, 256], (by decide +kernel : ∀ i : grid0.Coords, k0_off5 i 160#32 = ![prv i % 2 * 64 + 160, 256]) i⟩
instance (i : grid0.Coords) : ClosedOff (k0_off6 i) := ⟨![1, 0, prv i % 2 * 256], (by decide +kernel : ∀ i : grid0.Coords, k0_off6 i = ![1, 0, prv i % 2 * 256]) i⟩
instance (i : grid0.Coords) : ClosedOff (k0_off7 i 0#32) := ⟨![2, prv i % 4 * 2 + 0, 0], (by decide +kernel : ∀ i : grid0.Coords, k0_off7 i 0#32 = ![2, prv i % 4 * 2 + 0, 0]) i⟩
instance (i : grid0.Coords) : ClosedOff (k0_off7 i 1#32) := ⟨![2, prv i % 4 * 2 + 1, 0], (by decide +kernel : ∀ i : grid0.Coords, k0_off7 i 1#32 = ![2, prv i % 4 * 2 + 1, 0]) i⟩
instance (i : grid0.Coords) : ClosedOff (k0_off8 i 0#32) := ⟨![prv i % 2 * 64 + 0, 512], (by decide +kernel : ∀ i : grid0.Coords, k0_off8 i 0#32 = ![prv i % 2 * 64 + 0, 512]) i⟩
instance (i : grid0.Coords) : ClosedOff (k0_off8 i 160#32) := ⟨![prv i % 2 * 64 + 160, 512], (by decide +kernel : ∀ i : grid0.Coords, k0_off8 i 160#32 = ![prv i % 2 * 64 + 160, 512]) i⟩
instance (i : grid0.Coords) : ClosedOff (k0_off9 i) := ⟨![2, 0, prv i % 2 * 256], (by decide +kernel : ∀ i : grid0.Coords, k0_off9 i = ![2, 0, prv i % 2 * 256]) i⟩
instance (i : grid0.Coords) : ClosedOff (k0_off10 i 0#32) := ⟨![3, prv i % 4 * 2 + 0, 0], (by decide +kernel : ∀ i : grid0.Coords, k0_off10 i 0#32 = ![3, prv i % 4 * 2 + 0, 0]) i⟩
instance (i : grid0.Coords) : ClosedOff (k0_off10 i 1#32) := ⟨![3, prv i % 4 * 2 + 1, 0], (by decide +kernel : ∀ i : grid0.Coords, k0_off10 i 1#32 = ![3, prv i % 4 * 2 + 1, 0]) i⟩
instance (i : grid0.Coords) : ClosedOff (k0_off11 i 0#32) := ⟨![prv i % 2 * 64 + 0, 768], (by decide +kernel : ∀ i : grid0.Coords, k0_off11 i 0#32 = ![prv i % 2 * 64 + 0, 768]) i⟩
instance (i : grid0.Coords) : ClosedOff (k0_off11 i 160#32) := ⟨![prv i % 2 * 64 + 160, 768], (by decide +kernel : ∀ i : grid0.Coords, k0_off11 i 160#32 = ![prv i % 2 * 64 + 160, 768]) i⟩
instance (i : grid0.Coords) : ClosedOff (k0_off12 i) := ⟨![3, 0, prv i % 2 * 256], (by decide +kernel : ∀ i : grid0.Coords, k0_off12 i = ![3, 0, prv i % 2 * 256]) i⟩

noncomputable def kernelRun (c : Dev nD) (i : grid0.Coords)
    (M1 : Memref sig .tc .vmem S7680x1024 .i32) (h1 : M1.IsWhole)
    (M2 : Memref sig .tc .vmem S320x15360 .fp8e4m3) (h2 : M2.IsWhole)
    (M3 : Memref sig .tc .vmem S2x16x15360 .fp8e4m3) (h3 : M3.IsWhole)
    (M4 : Memref sig .tc .vmem S2x16x15360 .fp8e4m3) (h4 : M4.IsWhole)
    (M5 : Memref sig .tc .vmem S1x1x512 .f32) (h5 : M5.IsWhole)
    (M6 : Memref sig .tc .vmem S4x256x640 .bf16) (h6 : M6.IsWhole)
    (M7 : Memref sig .tc .vmem S4x2x16x256 .fp8e4m3) (h7 : M7.IsWhole)
    (M8 : Memref sig .tc .vmem S4x8x256 .f32) (h8 : M8.IsWhole)
    (M9 : Memref sig .tc .vmem S4x2x16x256 .fp8e4m3) (h9 : M9.IsWhole)
    (M10 : Memref sig .tc .vmem S4x8x256 .f32) (h10 : M10.IsWhole)
    (M11 : Memref sig .tc .vmem S320x1024 .bf16) (h11 : M11.IsWhole)
    (M12 : Memref sig .tc .vmem S384x1024 .f32) (h12 : M12.IsWhole)
    (M13 : Memref sig .tc .vmem S64x1024 .f32) (h13 : M13.IsWhole)
    (M14 : Memref sig .tc .vmem S320x1024 .bf16) (h14 : M14.IsWhole)
    (M15 : Memref sig .tc .vmem S384x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M6 × Bf (F := F) c M7 × Bf (F := F) c M8 × Bf (F := F) c M9 × Bf (F := F) c M10 × Bf (F := F) c M11 × Bf (F := F) c M12 × Bf (F := F) c M13 × Bf (F := F) c M14 × Bf (F := F) c M15 //
      ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
          ∗ (iprop(pt c M1 f1 ∗ pt c M2 f2 ∗ pt c M3 f3 ∗ pt c M4 f4 ∗ pt c M5 f5 ∗ pt c M6 W.1 ∗ pt c M7 W.2.1 ∗ pt c M8 W.2.2.1 ∗ pt c M9 W.2.2.2.1 ∗ pt c M10 W.2.2.2.2.1 ∗ pt c M11 W.2.2.2.2.2.1 ∗ pt c M12 W.2.2.2.2.2.2.1 ∗ pt c M13 W.2.2.2.2.2.2.2.1 ∗ pt c M14 W.2.2.2.2.2.2.2.2.1 ∗ pt c M15 W.2.2.2.2.2.2.2.2.2) -∗ Q ⟨⟩))
        ⊢ wp frame (wpE (defs₀ (F := F)) Variants.none c none) E
            (cc0_project_attend i M1 h1 M2 h2 M3 h3 M4 h4 M5 h5 M6 h6 M7 h7 M8 h8 M9 h9 M10 h10 M11 h11 M12 h12 M13 h13 M14 h14 M15 h15) Q } := by
  refine ⟨⟨?_, ?_, ?_, ?_, ?_, ?_, ?_, ?_, ?_, ?_⟩, fun E Q => ?run⟩
  case run =>
    iintro ⟨H1, H2, H3, H4, H5, H6, H7, H8, H9, H10, H11, H12, H13, H14, H15, Hk⟩
    simp only [cc0_project_attend_eq_skeleton]; unfold cc0_project_attend_skel
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Kernel.Hand

end
-- ==== Proof.BitsLeft.lean ====
/-
  What one run of the `project_attend` body (Run.lean) leaves in each buffer, each given a name, and the run
  restated with those names.
-/
module

public import proofs.«01_k».proof.Proof.BitsRun

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator afterwards: fifteen chunks of the product summed. -/
def leftA (c : Dev nD) (M1 : Memref sig .tc .vmem S7680x1024 .i32) (M2 : Memref sig .tc .vmem S320x15360 .fp8e4m3) (M3 : Memref sig .tc .vmem S2x16x15360 .fp8e4m3) (M4 : Memref sig .tc .vmem S2x16x15360 .fp8e4m3) (M12 : Memref sig .tc .vmem S384x1024 .f32) (f1 : Bf (F := F) c M1) (f2 : Bf (F := F) c M2) (f3 : Bf (F := F) c M3) (f4 : Bf (F := F) c M4) : Bf (F := F) c M12 :=
  M12.view.writes (Elt F) M12.view.junk (kernelRun.sl.H12_15 c M1 M2 M3 M4 M12 f1 f2 f3 f4)

/-- The scaled queries and keys afterwards. -/
def leftQK (c : Dev nD) (M1 : Memref sig .tc .vmem S7680x1024 .i32) (M2 : Memref sig .tc .vmem S320x15360 .fp8e4m3) (M3 : Memref sig .tc .vmem S2x16x15360 .fp8e4m3) (M4 : Memref sig .tc .vmem S2x16x15360 .fp8e4m3) (M5 : Memref sig .tc .vmem S1x1x512 .f32) (M12 : Memref sig .tc .vmem S384x1024 .f32) (M13 : Memref sig .tc .vmem S64x1024 .f32) (f1 : Bf (F := F) c M1) (f2 : Bf (F := F) c M2) (f3 : Bf (F := F) c M3) (f4 : Bf (F := F) c M4) (f5 : Bf (F := F) c M5) : Bf (F := F) c M13 :=
  M13.view.writes (Elt F) M13.view.junk (kernelRun.sl.H13_2 c M1 M2 M3 M4 M5 M12 f1 f2 f3 f4 f5)

/-- The scaled values afterwards. -/
def leftV (c : Dev nD) (M1 : Memref sig .tc .vmem S7680x1024 .i32) (M2 : Memref sig .tc .vmem S320x15360 .fp8e4m3) (M3 : Memref sig .tc .vmem S2x16x15360 .fp8e4m3) (M4 : Memref sig .tc .vmem S2x16x15360 .fp8e4m3) (M5 : Memref sig .tc .vmem S1x1x512 .f32) (M12 : Memref sig .tc .vmem S384x1024 .f32) (M14 : Memref sig .tc .vmem S320x1024 .bf16) (f1 : Bf (F := F) c M1) (f2 : Bf (F := F) c M2) (f3 : Bf (F := F) c M3) (f4 : Bf (F := F) c M4) (f5 : Bf (F := F) c M5) : Bf (F := F) c M14 :=
  M14.view.writes (Elt F) M14.view.junk (kernelRun.sl.H14_1 c M1 M2 M3 M4 M5 M12 f1 f2 f3 f4 f5)

/-- The context rows afterwards, on what the buffer held. -/
def leftY (c : Dev nD) (i : grid0.Coords) (M13 : Memref sig .tc .vmem S64x1024 .f32) (M14 : Memref sig .tc .vmem S320x1024 .bf16) (M15 : Memref sig .tc .vmem S384x1024 .bf16) (f13 : Bf (F := F) c M13) (f14 : Bf (F := F) c M14) (f15 : Bf (F := F) c M15) : Bf (F := F) c M15 :=
  M15.view.writes (Elt F) (if hc : kernelRun.sl.v24 i = 1#1 then M15.view.writes (Elt F) f15 [⟨Rect.unit ![0, 0] S384x1024.size inb_S384x1024_S384x1024_0_0, k0_pay4⟩] else f15)
    (kernelRun.sl.H15_9 c i M13 M14 M15 f13 f14 f15)

/-- The attention output's block afterwards. -/
def left5 (c : Dev nD) (i : grid0.Coords) (M6 : Memref sig .tc .vmem S4x256x640 .bf16) (M13 : Memref sig .tc .vmem S64x1024 .f32) (M14 : Memref sig .tc .vmem S320x1024 .bf16) (M15 : Memref sig .tc .vmem S384x1024 .bf16) (f6 : Bf (F := F) c M6) (f13 : Bf (F := F) c M13) (f14 : Bf (F := F) c M14) (f15 : Bf (F := F) c M15) : Bf (F := F) c M6 :=
  M6.view.writes (Elt F) f6 (kernelRun.sl.H6_4 c i M13 M14 M15 f13 f14 f15)

/-- The query codes' block afterwards. -/
def left6 (c : Dev nD) (i : grid0.Coords) (M7 : Memref sig .tc .vmem S4x2x16x256 .fp8e4m3) (M13 : Memref sig .tc .vmem S64x1024 .f32) (f13 : Bf (F := F) c M13) : Bf (F := F) c M7 :=
  M7.view.writes (Elt F) M7.view.junk (kernelRun.sl.H7_8 c i M13 f13)

/-- The query scales' block afterwards. -/
def left7 (c : Dev nD) (i : grid0.Coords) (M8 : Memref sig .tc .vmem S4x8x256 .f32) (M13 : Memref sig .tc .vmem S64x1024 .f32) (f8 : Bf (F := F) c M8) (f13 : Bf (F := F) c M13) : Bf (F := F) c M8 :=
  M8.view.writes (Elt F) f8 (kernelRun.sl.H8_8 c i M13 f13)

/-- The key codes' block afterwards. -/
def left8 (c : Dev nD) (i : grid0.Coords) (M9 : Memref sig .tc .vmem S4x2x16x256 .fp8e4m3) (M13 : Memref sig .tc .vmem S64x1024 .f32) (f13 : Bf (F := F) c M13) : Bf (F := F) c M9 :=
  M9.view.writes (Elt F) M9.view.junk (kernelRun.sl.H9_8 c i M13 f13)

/-- The key scales' block afterwards. -/
def left9 (c : Dev nD) (i : grid0.Coords) (M10 : Memref sig .tc .vmem S4x8x256 .f32) (M13 : Memref sig .tc .vmem S64x1024 .f32) (f10 : Bf (F := F) c M10) (f13 : Bf (F := F) c M13) : Bf (F := F) c M10 :=
  M10.view.writes (Elt F) f10 (kernelRun.sl.H10_8 c i M13 f13)

/-- The values' block afterwards. -/
def left10 (c : Dev nD) (i : grid0.Coords) (M11 : Memref sig .tc .vmem S320x1024 .bf16) (M14 : Memref sig .tc .vmem S320x1024 .bf16) (f14 : Bf (F := F) c M14) : Bf (F := F) c M11 :=
  M11.view.writes (Elt F) M11.view.junk (kernelRun.sl.H11_1 c i M14 f14)

/-- The contents the run finds are the named ones. -/
theorem run_contents (c : Dev nD) (i : grid0.Coords) (M1 : Memref sig .tc .vmem S7680x1024 .i32) (h1 : M1.IsWhole) (M2 : Memref sig .tc .vmem S320x15360 .fp8e4m3) (h2 : M2.IsWhole) (M3 : Memref sig .tc .vmem S2x16x15360 .fp8e4m3) (h3 : M3.IsWhole) (M4 : Memref sig .tc .vmem S2x16x15360 .fp8e4m3) (h4 : M4.IsWhole) (M5 : Memref sig .tc .vmem S1x1x512 .f32) (h5 : M5.IsWhole) (M6 : Memref sig .tc .vmem S4x256x640 .bf16) (h6 : M6.IsWhole) (M7 : Memref sig .tc .vmem S4x2x16x256 .fp8e4m3) (h7 : M7.IsWhole) (M8 : Memref sig .tc .vmem S4x8x256 .f32) (h8 : M8.IsWhole) (M9 : Memref sig .tc .vmem S4x2x16x256 .fp8e4m3) (h9 : M9.IsWhole) (M10 : Memref sig .tc .vmem S4x8x256 .f32) (h10 : M10.IsWhole) (M11 : Memref sig .tc .vmem S320x1024 .bf16) (h11 : M11.IsWhole) (M12 : Memref sig .tc .vmem S384x1024 .f32) (h12 : M12.IsWhole) (M13 : Memref sig .tc .vmem S64x1024 .f32) (h13 : M13.IsWhole) (M14 : Memref sig .tc .vmem S320x1024 .bf16) (h14 : M14.IsWhole) (M15 : Memref sig .tc .vmem S384x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    (kernelRun c i M1 h1 M2 h2 M3 h3 M4 h4 M5 h5 M6 h6 M7 h7 M8 h8 M9 h9 M10 h10 M11 h11 M12 h12 M13 h13 M14 h14 M15 h15 f1 f2 f3 f4 f5 f6 f7 f8 f9 f10 f11 f12 f13 f14 f15).1 =
      (left5 c i M6 M13 M14 M15 f6 f13 f14 f15, left6 c i M7 M13 f13, left7 c i M8 M13 f8 f13, left8 c i M9 M13 f13, left9 c i M10 M13 f10 f13, left10 c i M11 M14 f14, leftA c M1 M2 M3 M4 M12 f1 f2 f3 f4, leftQK c M1 M2 M3 M4 M5 M12 M13 f1 f2 f3 f4 f5, leftV c M1 M2 M3 M4 M5 M12 M14 f1 f2 f3 f4 f5, leftY c i M13 M14 M15 f13 f14 f15) := by
  delta kernelRun left5 left6 left7 left8 left9 left10 leftA leftQK leftV leftY
  rfl

attribute [local irreducible] kernelRun
/-- The body's run, what it leaves named. -/
theorem body_run (c : Dev nD) (i : grid0.Coords) (M1 : Memref sig .tc .vmem S7680x1024 .i32) (h1 : M1.IsWhole) (M2 : Memref sig .tc .vmem S320x15360 .fp8e4m3) (h2 : M2.IsWhole) (M3 : Memref sig .tc .vmem S2x16x15360 .fp8e4m3) (h3 : M3.IsWhole) (M4 : Memref sig .tc .vmem S2x16x15360 .fp8e4m3) (h4 : M4.IsWhole) (M5 : Memref sig .tc .vmem S1x1x512 .f32) (h5 : M5.IsWhole) (M6 : Memref sig .tc .vmem S4x256x640 .bf16) (h6 : M6.IsWhole) (M7 : Memref sig .tc .vmem S4x2x16x256 .fp8e4m3) (h7 : M7.IsWhole) (M8 : Memref sig .tc .vmem S4x8x256 .f32) (h8 : M8.IsWhole) (M9 : Memref sig .tc .vmem S4x2x16x256 .fp8e4m3) (h9 : M9.IsWhole) (M10 : Memref sig .tc .vmem S4x8x256 .f32) (h10 : M10.IsWhole) (M11 : Memref sig .tc .vmem S320x1024 .bf16) (h11 : M11.IsWhole) (M12 : Memref sig .tc .vmem S384x1024 .f32) (h12 : M12.IsWhole) (M13 : Memref sig .tc .vmem S64x1024 .f32) (h13 : M13.IsWhole) (M14 : Memref sig .tc .vmem S320x1024 .bf16) (h14 : M14.IsWhole) (M15 : Memref sig .tc .vmem S384x1024 .bf16) (h15 : M15.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (K : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
        ∗ (iprop(pt c M1 f1 ∗ pt c M2 f2 ∗ pt c M3 f3 ∗ pt c M4 f4 ∗ pt c M5 f5
            ∗ pt c M6 (left5 c i M6 M13 M14 M15 f6 f13 f14 f15) ∗ pt c M7 (left6 c i M7 M13 f13) ∗ pt c M8 (left7 c i M8 M13 f8 f13) ∗ pt c M9 (left8 c i M9 M13 f13) ∗ pt c M10 (left9 c i M10 M13 f10 f13) ∗ pt c M11 (left10 c i M11 M14 f14) ∗ pt c M12 (leftA c M1 M2 M3 M4 M12 f1 f2 f3 f4) ∗ pt c M13 (leftQK c M1 M2 M3 M4 M5 M12 M13 f1 f2 f3 f4 f5) ∗ pt c M14 (leftV c M1 M2 M3 M4 M5 M12 M14 f1 f2 f3 f4 f5) ∗ pt c M15 (leftY c i M13 M14 M15 f13 f14 f15)) -∗ K ⟨⟩))
      ⊢ wp frame (wpE (defs₀ (F := F)) Variants.none c none) Set.univ
          (cc0_project_attend i M1 h1 M2 h2 M3 h3 M4 h4 M5 h5 M6 h6 M7 h7 M8 h8 M9 h9 M10 h10 M11 h11 M12 h12 M13 h13 M14 h14 M15 h15) K := by
  have h := (kernelRun c i M1 h1 M2 h2 M3 h3 M4 h4 M5 h5 M6 h6 M7 h7 M8 h8 M9 h9 M10 h10 M11 h11 M12 h12 M13 h13 M14 h14 M15 h15 f1 f2 f3 f4 f5 f6 f7 f8 f9 f10 f11 f12 f13 f14 f15).2 Set.univ K
  rw [run_contents] at h
  dsimp only at h
  exact h

/-- A whole memref owned at `X` is its buffer held at the contents reading `X`. -/
theorem owns_unread (c : Dev nD) {sp : Space} {S : Shape} {e : EltTy} (M : Memref sig .tc sp S e) (h : M.IsWhole) (X : S.Idx → Elt F e) :
    (owns (c : Thread nD τ) M fullShare X : sProp 𝕄) = pt c M (h.unread X) := by
  have hX := h.read_unread X
  revert hX
  generalize h.unread X = f
  rintro rfl
  obtain ⟨b, hsp, hsh, he, hb⟩ := h
  subst hsp hsh he
  cases hb
  exact owns_whole _ _ _ _

theorem owns_read (c : Dev nD) {sp : Space} {S : Shape} {e : EltTy} (M : Memref sig .tc sp S e) (h : M.IsWhole) (f : Bf (F := F) c M) :
    (owns (c : Thread nD τ) M fullShare (M.view.read (Elt F) f) : sProp 𝕄) = pt c M f := by
  rw [owns_unread c M h, h.unread_read]

/-- The body's run between owned staging memrefs. -/
theorem owned_run (c : Dev nD) (i : grid0.Coords) (M1 : Memref sig .tc .vmem S7680x1024 .i32) (h1 : M1.IsWhole) (M2 : Memref sig .tc .vmem S320x15360 .fp8e4m3) (h2 : M2.IsWhole) (M3 : Memref sig .tc .vmem S2x16x15360 .fp8e4m3) (h3 : M3.IsWhole) (M4 : Memref sig .tc .vmem S2x16x15360 .fp8e4m3) (h4 : M4.IsWhole) (M5 : Memref sig .tc .vmem S1x1x512 .f32) (h5 : M5.IsWhole) (M6 : Memref sig .tc .vmem S4x256x640 .bf16) (h6 : M6.IsWhole) (M7 : Memref sig .tc .vmem S4x2x16x256 .fp8e4m3) (h7 : M7.IsWhole) (M8 : Memref sig .tc .vmem S4x8x256 .f32) (h8 : M8.IsWhole) (M9 : Memref sig .tc .vmem S4x2x16x256 .fp8e4m3) (h9 : M9.IsWhole) (M10 : Memref sig .tc .vmem S4x8x256 .f32) (h10 : M10.IsWhole) (M11 : Memref sig .tc .vmem S320x1024 .bf16) (h11 : M11.IsWhole) (M12 : Memref sig .tc .vmem S384x1024 .f32) (h12 : M12.IsWhole) (M13 : Memref sig .tc .vmem S64x1024 .f32) (h13 : M13.IsWhole) (M14 : Memref sig .tc .vmem S320x1024 .bf16) (h14 : M14.IsWhole) (M15 : Memref sig .tc .vmem S384x1024 .bf16) (h15 : M15.IsWhole)
    (X1 : S7680x1024.Idx → Elt F .i32) (X2 : S320x15360.Idx → Elt F .fp8e4m3) (X3 : S2x16x15360.Idx → Elt F .fp8e4m3) (X4 : S2x16x15360.Idx → Elt F .fp8e4m3) (X5 : S1x1x512.Idx → Elt F .f32) (X6 : S4x256x640.Idx → Elt F .bf16) (X7 : S4x2x16x256.Idx → Elt F .fp8e4m3) (X8 : S4x8x256.Idx → Elt F .f32) (X9 : S4x2x16x256.Idx → Elt F .fp8e4m3) (X10 : S4x8x256.Idx → Elt F .f32) (X11 : S320x1024.Idx → Elt F .bf16)
    (f12 : Bf (F := F) c M12) (f13 : Bf (F := F) c M13) (f14 : Bf (F := F) c M14) (f15 : Bf (F := F) c M15) (K : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ pt c M12 f12 ∗ pt c M13 f13 ∗ pt c M14 f14 ∗ pt c M15 f15
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5
            ∗ owns (c : Thread nD τ) M6 fullShare (M6.view.read (Elt F) (left5 c i M6 M13 M14 M15 (h6.unread X6) f13 f14 f15)) ∗ owns (c : Thread nD τ) M7 fullShare (M7.view.read (Elt F) (left6 c i M7 M13 f13)) ∗ owns (c : Thread nD τ) M8 fullShare (M8.view.read (Elt F) (left7 c i M8 M13 (h8.unread X8) f13)) ∗ owns (c : Thread nD τ) M9 fullShare (M9.view.read (Elt F) (left8 c i M9 M13 f13)) ∗ owns (c : Thread nD τ) M10 fullShare (M10.view.read (Elt F) (left9 c i M10 M13 (h10.unread X10) f13)) ∗ owns (c : Thread nD τ) M11 fullShare (M11.view.read (Elt F) (left10 c i M11 M14 f14))
            ∗ pt c M12 (leftA c M1 M2 M3 M4 M12 (h1.unread X1) (h2.unread X2) (h3.unread X3) (h4.unread X4)) ∗ pt c M13 (leftQK c M1 M2 M3 M4 M5 M12 M13 (h1.unread X1) (h2.unread X2) (h3.unread X3) (h4.unread X4) (h5.unread X5)) ∗ pt c M14 (leftV c M1 M2 M3 M4 M5 M12 M14 (h1.unread X1) (h2.unread X2) (h3.unread X3) (h4.unread X4) (h5.unread X5)) ∗ pt c M15 (leftY c i M13 M14 M15 f13 f14 f15)) -∗ K ⟨⟩))
      ⊢ wp frame (wpE (defs₀ (F := F)) Variants.none c none) Set.univ
          (cc0_project_attend i M1 h1 M2 h2 M3 h3 M4 h4 M5 h5 M6 h6 M7 h7 M8 h8 M9 h9 M10 h10 M11 h11 M12 h12 M13 h13 M14 h14 M15 h15) K := by
  rw [owns_read c M6 h6, owns_read c M7 h7, owns_read c M8 h8, owns_read c M9 h9, owns_read c M10 h10, owns_read c M11 h11, owns_unread c M1 h1, owns_unread c M2 h2, owns_unread c M3 h3, owns_unread c M4 h4, owns_unread c M5 h5, owns_unread c M6 h6, owns_unread c M7 h7, owns_unread c M8 h8, owns_unread c M9 h9, owns_unread c M10 h10, owns_unread c M11 h11]
  exact body_run c i M1 h1 M2 h2 M3 h3 M4 h4 M5 h5 M6 h6 M7 h7 M8 h8 M9 h9 M10 h10 M11 h11 M12 h12 M13 h13 M14 h14 M15 h15 (h1.unread X1) (h2.unread X2) (h3.unread X3) (h4.unread X4) (h5.unread X5) (h6.unread X6) (h7.unread X7) (h8.unread X8) (h9.unread X9) (h10.unread X10) (h11.unread X11) f12 f13 f14 f15 K

end Cert.Kernel.Hand

end
-- ==== Proof.BitsData.lean ====
/-
  The region of `project_attend`, run point by point with relational data: what the scratch holds before each
  point is described by the earlier points (`Reach`), and what a point leaves in each staging buffer is the
  body's own run (Run.lean) at it. From it the whole run of the program (`run_main`).
-/
module

public import proofs.«01_k».proof.Proof.BitsLeft
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

/-- Each window's staging memref at point `t`, and that it is whole. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)

/-- The four scratch buffers: the accumulator, the scaled queries and keys, the values, and the context rows. -/
abbrev scA := Memref.whole (sig := sig) cc0_scratch0
abbrev scQK := Memref.whole (sig := sig) cc0_scratch1
abbrev scV := Memref.whole (sig := sig) cc0_scratch2
abbrev scY := Memref.whole (sig := sig) cc0_scratch3

/-- The raw contents of each input's staging buffer at point `t`: the array's block there. -/
abbrev gin0 (c : Dev nD) (t : Fin cfg0.N) : Bf (F := F) c (ms0 t) := (hs0 t).unread (iblk m c 0 t)
abbrev gin1 (c : Dev nD) (t : Fin cfg0.N) : Bf (F := F) c (ms1 t) := (hs1 t).unread (iblk m c 1 t)
abbrev gin2 (c : Dev nD) (t : Fin cfg0.N) : Bf (F := F) c (ms2 t) := (hs2 t).unread (iblk m c 2 t)
abbrev gin3 (c : Dev nD) (t : Fin cfg0.N) : Bf (F := F) c (ms3 t) := (hs3 t).unread (iblk m c 3 t)
abbrev gin4 (c : Dev nD) (t : Fin cfg0.N) : Bf (F := F) c (ms4 t) := (hs4 t).unread (iblk m c 4 t)

/-! ## What a point leaves -/

/-- The accumulator the point leaves. -/
abbrev outA (c : Dev nD) (t : Fin cfg0.N) : Bf (F := F) c scA :=
  leftA c (ms0 t) (ms1 t) (ms2 t) (ms3 t) scA (gin0 m c t) (gin1 m c t) (gin2 m c t) (gin3 m c t)
/-- The scaled queries and keys the point leaves for the next one. -/
abbrev outQK (c : Dev nD) (t : Fin cfg0.N) : Bf (F := F) c scQK :=
  leftQK c (ms0 t) (ms1 t) (ms2 t) (ms3 t) (ms4 t) scA scQK (gin0 m c t) (gin1 m c t) (gin2 m c t) (gin3 m c t) (gin4 m c t)
/-- The scaled values the point leaves for the next one. -/
abbrev outV (c : Dev nD) (t : Fin cfg0.N) : Bf (F := F) c scV :=
  leftV c (ms0 t) (ms1 t) (ms2 t) (ms3 t) (ms4 t) scA scV (gin0 m c t) (gin1 m c t) (gin2 m c t) (gin3 m c t) (gin4 m c t)
/-- The context rows the point leaves, on what the scratch held. -/
abbrev outY (c : Dev nD) (t : Fin cfg0.N) (f13 : Bf (F := F) c scQK) (f14 : Bf (F := F) c scV) (f15 : Bf (F := F) c scY) : Bf (F := F) c scY :=
  leftY c (grid0.coords t) scQK scV scY f13 f14 f15
/-- The outputs' staging buffers after the point, on what they and the scratch held. -/
abbrev out5 (c : Dev nD) (t : Fin cfg0.N) (f6 : Bf (F := F) c (ms5 t)) (f13 : Bf (F := F) c scQK) (f14 : Bf (F := F) c scV) (f15 : Bf (F := F) c scY) : Bf (F := F) c (ms5 t) :=
  left5 c (grid0.coords t) (ms5 t) scQK scV scY f6 f13 f14 f15
abbrev out6 (c : Dev nD) (t : Fin cfg0.N) (f13 : Bf (F := F) c scQK) : Bf (F := F) c (ms6 t) :=
  left6 c (grid0.coords t) (ms6 t) scQK f13
abbrev out7 (c : Dev nD) (t : Fin cfg0.N) (f8 : Bf (F := F) c (ms7 t)) (f13 : Bf (F := F) c scQK) : Bf (F := F) c (ms7 t) :=
  left7 c (grid0.coords t) (ms7 t) scQK f8 f13
abbrev out8 (c : Dev nD) (t : Fin cfg0.N) (f13 : Bf (F := F) c scQK) : Bf (F := F) c (ms8 t) :=
  left8 c (grid0.coords t) (ms8 t) scQK f13
abbrev out9 (c : Dev nD) (t : Fin cfg0.N) (f10 : Bf (F := F) c (ms9 t)) (f13 : Bf (F := F) c scQK) : Bf (F := F) c (ms9 t) :=
  left9 c (grid0.coords t) (ms9 t) scQK f10 f13
abbrev out10 (c : Dev nD) (t : Fin cfg0.N) (f14 : Bf (F := F) c scV) : Bf (F := F) c (ms10 t) :=
  left10 c (grid0.coords t) (ms10 t) scV f14

/-- The scratch contents that can be found before point `n`: anything before the first, and before a later point
    what the point before left, from contents that could be found before it. -/
def Reach (c : Dev nD) : Nat → Bf (F := F) c scQK → Bf (F := F) c scV → Bf (F := F) c scY → Prop
  | 0, _, _, _ => True
  | n + 1, f13, f14, f15 => ∃ (hn : n < cfg0.N) (e13 : Bf (F := F) c scQK) (e14 : Bf (F := F) c scV) (e15 : Bf (F := F) c scY),
      Reach c n e13 e14 e15 ∧ f13 = outQK m c ⟨n, hn⟩ ∧ f14 = outV m c ⟨n, hn⟩ ∧ f15 = outY c ⟨n, hn⟩ e13 e14 e15

/-- What the body may leave in window `w`'s staging buffer at point `t`, given what it found there. -/
def afterOf (c : Dev nD) (w : Fin cfg0.W) (t : Fin cfg0.N) (Y X : (cfg0.win w).block.Idx → Elt F (cfg0.win w).elt) : Prop :=
  match w, Y, X with
  | ⟨5, _⟩, Y, X => ∃ f13 f14 f15, Reach m c t.val f13 f14 f15 ∧ X = (ms5 t).view.read (Elt F) (out5 c t ((hs5 t).unread Y) f13 f14 f15)
  | ⟨6, _⟩, Y, X => ∃ f13 f14 f15, Reach m c t.val f13 f14 f15 ∧ X = (ms6 t).view.read (Elt F) (out6 c t f13)
  | ⟨7, _⟩, Y, X => ∃ f13 f14 f15, Reach m c t.val f13 f14 f15 ∧ X = (ms7 t).view.read (Elt F) (out7 c t ((hs7 t).unread Y) f13)
  | ⟨8, _⟩, Y, X => ∃ f13 f14 f15, Reach m c t.val f13 f14 f15 ∧ X = (ms8 t).view.read (Elt F) (out8 c t f13)
  | ⟨9, _⟩, Y, X => ∃ f13 f14 f15, Reach m c t.val f13 f14 f15 ∧ X = (ms9 t).view.read (Elt F) (out9 c t ((hs9 t).unread Y) f13)
  | ⟨10, _⟩, Y, X => ∃ f13 f14 f15, Reach m c t.val f13 f14 f15 ∧ X = (ms10 t).view.read (Elt F) (out10 c t f14)
  | _, Y, X => X = Y

/-- The body's invariant before point `n`: the four scratch buffers held, the last three at contents that can be
    found there, and the generator register at some state. -/
def PhiAt (c : Dev nD) (n : Nat) : sProp 𝕄 :=
  iprop(∃ (f12 : Bf (F := F) c scA) (f13 : Bf (F := F) c scQK) (f14 : Bf (F := F) c scV) (f15 : Bf (F := F) c scY),
    ⌜Reach m c n f13 f14 f15⌝ ∗ pt c scA f12 ∗ pt c scQK f13 ∗ pt c scV f14 ∗ pt c scY f15 ∗ ∃ r, prngReg c r)

/-- The proof data on core `c`. -/
def rdat (c : Dev nD) : RDat τ (Elt F) Unit ℕ (UR sig nD τ) ℕ cfg0 c where
  A w := V m c (Pipeline.arrRef spec0 w)
  after w t Y X := afterOf m c w t Y X
  Φ n := PhiAt m c n.val
  q _ := fullShare
  owed _ := 0

/-! ## What the body finds in the inputs -/

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl
theorem after5 (c : Dev nD) (t : Fin cfg0.N) (Y : (cfg0.win 5).block.Idx → Elt F (cfg0.win 5).elt) {f13 f14 f15} (h : Reach m c t.val f13 f14 f15) :
    (rdat m c).after 5 t Y ((ms5 t).view.read (Elt F) (out5 c t ((hs5 t).unread Y) f13 f14 f15)) := ⟨f13, f14, f15, h, rfl⟩
theorem after6 (c : Dev nD) (t : Fin cfg0.N) (Y : (cfg0.win 6).block.Idx → Elt F (cfg0.win 6).elt) {f13 f14 f15} (h : Reach m c t.val f13 f14 f15) :
    (rdat m c).after 6 t Y ((ms6 t).view.read (Elt F) (out6 c t f13)) := ⟨f13, f14, f15, h, rfl⟩
theorem after7 (c : Dev nD) (t : Fin cfg0.N) (Y : (cfg0.win 7).block.Idx → Elt F (cfg0.win 7).elt) {f13 f14 f15} (h : Reach m c t.val f13 f14 f15) :
    (rdat m c).after 7 t Y ((ms7 t).view.read (Elt F) (out7 c t ((hs7 t).unread Y) f13)) := ⟨f13, f14, f15, h, rfl⟩
theorem after8 (c : Dev nD) (t : Fin cfg0.N) (Y : (cfg0.win 8).block.Idx → Elt F (cfg0.win 8).elt) {f13 f14 f15} (h : Reach m c t.val f13 f14 f15) :
    (rdat m c).after 8 t Y ((ms8 t).view.read (Elt F) (out8 c t f13)) := ⟨f13, f14, f15, h, rfl⟩
theorem after9 (c : Dev nD) (t : Fin cfg0.N) (Y : (cfg0.win 9).block.Idx → Elt F (cfg0.win 9).elt) {f13 f14 f15} (h : Reach m c t.val f13 f14 f15) :
    (rdat m c).after 9 t Y ((ms9 t).view.read (Elt F) (out9 c t ((hs9 t).unread Y) f13)) := ⟨f13, f14, f15, h, rfl⟩
theorem after10 (c : Dev nD) (t : Fin cfg0.N) (Y : (cfg0.win 10).block.Idx → Elt F (cfg0.win 10).elt) {f13 f14 f15} (h : Reach m c t.val f13 f14 f15) :
    (rdat m c).after 10 t Y ((ms10 t).view.read (Elt F) (out10 c t f14)) := ⟨f13, f14, f15, h, rfl⟩
theorem reach_succ (c : Dev nD) (t : Fin cfg0.N) {f13 f14 f15} (h : Reach m c t.val f13 f14 f15) :
    Reach m c (t.val + 1) (outQK m c t) (outV m c t) (outY c t f13 f14 f15) := ⟨t.isLt, f13, f14, f15, h, rfl, rfl, rfl⟩

end Cert.Kernel.Hand

end
-- ==== Proof.BitsBody.lean ====
/-
  The body obligation of `project_attend` at the data of Data.lean, and the whole run from it.
-/
module

public import proofs.«01_k».proof.Proof.BitsData

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t` on staging contents `Y`, and what it returns. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10))
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X))

theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost
  rw [show (rdat m c).owesAt () t.succ = (rdat m c).owesAt () t.castSucc from rfl,
    show (rdat m c).Φ t.succ = PhiAt m c (t.val + 1) from rfl, show (rdat m c).Φ t.castSucc = PhiAt m c t.val from rfl]
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  rw [e0, e1, e2, e3, e4]
  unfold PhiAt
  iintro ⟨⟨%f12, %f13, %f14, %f15, %hR, S12, S13, S14, S15, Hg⟩, HO, H0, H1, H2, H3, H4, H5, H6, H7, H8, H9, H10⟩
  iapply (owned_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scQK (Memref.isWhole_whole _) scV (Memref.isWhole_whole _) scY (Memref.isWhole_whole _)
    (iblk m c 0 t) (iblk m c 1 t) (iblk m c 2 t) (iblk m c 3 t) (iblk m c 4 t) (Y 5) (Y 6) (Y 7) (Y 8) (Y 9) (Y 10) f12 f13 f14 f15 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S12]; · iexact S12
  isplitl [S13]; · iexact S13
  isplitl [S14]; · iexact S14
  isplitl [S15]; · iexact S15
  iintro ⟨H0, H1, H2, H3, H4, H5, H6, H7, H8, H9, H10, S12, S13, S14, S15⟩
  isplitl [S12 S13 S14 S15 Hg]
  · iexists outA m c t, outQK m c t, outV m c t, outY c t f13 f14 f15
    isplitr; · ipureintro; exact reach_succ m c t hR
    isplitl [S12]; · iexact S12
    isplitl [S13]; · iexact S13
    isplitl [S14]; · iexact S14
    isplitl [S15]; · iexact S15
    iexact Hg
  isplitl [HO]; · iexact HO
  isplitl [H0]
  · iexists (iblk m c 0 t); isplitr; · ipureintro; exact rfl
    iexact H0
  isplitl [H1]
  · iexists (iblk m c 1 t); isplitr; · ipureintro; exact rfl
    iexact H1
  isplitl [H2]
  · iexists (iblk m c 2 t); isplitr; · ipureintro; exact rfl
    iexact H2
  isplitl [H3]
  · iexists (iblk m c 3 t); isplitr; · ipureintro; exact rfl
    iexact H3
  isplitl [H4]
  · iexists (iblk m c 4 t); isplitr; · ipureintro; exact rfl
    iexact H4
  isplitl [H5]
  · iexists ((ms5 t).view.read (Elt F) (out5 c t ((hs5 t).unread (Y 5)) f13 f14 f15)); isplitr; · ipureintro; exact after5 m c t _ hR
    iexact H5
  isplitl [H6]
  · iexists ((ms6 t).view.read (Elt F) (out6 c t f13)); isplitr; · ipureintro; exact after6 m c t _ hR
    iexact H6
  isplitl [H7]
  · iexists ((ms7 t).view.read (Elt F) (out7 c t ((hs7 t).unread (Y 7)) f13)); isplitr; · ipureintro; exact after7 m c t _ hR
    iexact H7
  isplitl [H8]
  · iexists ((ms8 t).view.read (Elt F) (out8 c t f13)); isplitr; · ipureintro; exact after8 m c t _ hR
    iexact H8
  isplitl [H9]
  · iexists ((ms9 t).view.read (Elt F) (out9 c t ((hs9 t).unread (Y 9)) f13)); isplitr; · ipureintro; exact after9 m c t _ hR
    iexact H9
  iexists ((ms10 t).view.read (Elt F) (out10 c t f14)); isplitr; · ipureintro; exact after10 m c t _ hR
  iexact H10

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, defs₀_row]
  simp only [bigSep_W0]
  exact triple_restated (sound_body m c t Y hY) rfl .rfl fun _ => .rfl

/-! ## The launch -/

theorem phi_in (c : Dev nD) : (Pipeline.ΦA spec0 c : sProp 𝕄) ⊢ PhiAt m c 0 := by
  unfold Pipeline.ΦA PhiAt
  rw [scopedRest0_eq]
  iintro ⟨⟨⟨%f12, S12⟩, ⟨%f13, S13⟩, ⟨%f14, S14⟩, ⟨%f15, S15⟩⟩, Hg⟩
  iexists f12, f13, f14, f15
  isplitr; · ipureintro; exact trivial
  isplitl [S12]; · iexact S12
  isplitl [S13]; · iexact S13
  isplitl [S14]; · iexact S14
  isplitl [S15]; · iexact S15
  iexact Hg

theorem phi_out (c : Dev nD) (n : Nat) : PhiAt m c n ⊢ (Pipeline.ΦA spec0 c : sProp 𝕄) := by
  unfold Pipeline.ΦA PhiAt
  rw [scopedRest0_eq]
  iintro ⟨%f12, %f13, %f14, %f15, -, S12, S13, S14, S15, Hg⟩
  isplitl [S12 S13 S14 S15]
  · isplitl [S12]; · iexists f12; iexact S12
    isplitl [S13]; · iexists f13; iexact S13
    isplitl [S14]; · iexists f14; iexact S14
    iexists f15; iexact S15
  iexact Hg

set_option backward.isDefEq.respectTransparency.types false in
/-- From any memory with zero counters every execution of @main ends, the arrays described by the data above, every
    semaphore counter at zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := Gen.hmain m Variants.none) (hA := fun _ _ => rfl)
    (hin := phi_in m) (hout := fun c => phi_out m c _)

/-- The argument arrays end holding what they held. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(RDat.FramePost.arr_in h.1 c 0 rfl).trans (V_main_arg0 m c),
      (RDat.FramePost.arr_in h.1 c 1 rfl).trans (V_main_arg1 m c), (RDat.FramePost.arr_in h.1 c 2 rfl).trans (V_main_arg2 m c),
      (RDat.FramePost.arr_in h.1 c 3 rfl).trans (V_main_arg3 m c), (RDat.FramePost.arr_in h.1 c 4 rfl).trans (V_main_arg4 m c)⟩, h.2⟩) (run_main m ρ)

end Cert.Kernel.Hand

end
-- ==== Proof.RefRead.lean ====
/-
  The reference's run, read: the kernel has one grid point and every window's block is its whole array, so each result is the
  body's result of the argument arrays.
-/
module

public import proofs.«01_k».proof.Proof.Gen.ReferenceIdeal.Frame
public import Idealize.ShloMosaic.Lib.Pipeline.Value

@[expose] public section

noncomputable section

namespace Cert.ReferenceIdeal.Read

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x96x16x256.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- What point `t` writes back to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x96x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- What point `t` writes back to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- Block `t` of the final array, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x96x16x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- What point `t` writes back to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- Block `t` of the final array, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x96x256.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- What point `t` writes back to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- Block `t` of the final array, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S15360x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S7680x1024.Idx) : ((cfg0.win 0).blk t).view.emb j = j := by
  obtain ⟨e0, e1⟩ := idx_zero0 t
  funext a; apply Fin.ext
  match a with
  | ⟨0, _⟩ => show win0_0.index t (0 : Fin 2) * 7680 + 1 * (j 0).val = (j 0).val; omega
  | ⟨1, _⟩ => show win0_0.index t (1 : Fin 2) * 1024 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S15360x15360.Idx) : ((cfg0.win 1).blk t).view.emb j = j := by
  obtain ⟨e0, e1⟩ := idx_zero1 t
  funext a; apply Fin.ext
  match a with
  | ⟨0, _⟩ => show win0_1.index t (0 : Fin 2) * 15360 + 1 * (j 0).val = (j 0).val; omega
  | ⟨1, _⟩ => show win0_1.index t (1 : Fin 2) * 15360 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S96x16x15360.Idx) : ((cfg0.win 2).blk t).view.emb j = j := by
  obtain ⟨e0, e1, e2⟩ := idx_zero2 t
  funext a; apply Fin.ext
  match a with
  | ⟨0, _⟩ => show win0_2.index t (0 : Fin 3) * 96 + 1 * (j 0).val = (j 0).val; omega
  | ⟨1, _⟩ => show win0_2.index t (1 : Fin 3) * 16 + 1 * (j 1).val = (j 1).val; omega
  | ⟨2, _⟩ => show win0_2.index t (2 : Fin 3) * 15360 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S96x16x15360.Idx) : ((cfg0.win 3).blk t).view.emb j = j := by
  obtain ⟨e0, e1, e2⟩ := idx_zero3 t
  funext a; apply Fin.ext
  match a with
  | ⟨0, _⟩ => show win0_3.index t (0 : Fin 3) * 96 + 1 * (j 0).val = (j 0).val; omega
  | ⟨1, _⟩ => show win0_3.index t (1 : Fin 3) * 16 + 1 * (j 1).val = (j 1).val; omega
  | ⟨2, _⟩ => show win0_3.index t (2 : Fin 3) * 15360 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S48x1x512.Idx) : ((cfg0.win 4).blk t).view.emb j = j := by
  obtain ⟨e0, e1, e2⟩ := idx_zero4 t
  funext a; apply Fin.ext
  match a with
  | ⟨0, _⟩ => show win0_4.index t (0 : Fin 3) * 48 + 1 * (j 0).val = (j 0).val; omega
  | ⟨1, _⟩ => show win0_4.index t (1 : Fin 3) * 1 + 1 * (j 1).val = (j 1).val; omega
  | ⟨2, _⟩ => show win0_4.index t (2 : Fin 3) * 512 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S4x96x16x256.Idx) : ((cfg0.win 5).blk t).view.emb j = j := by
  obtain ⟨e0, e1, e2, e3⟩ := idx_zero5 t
  funext a; apply Fin.ext
  match a with
  | ⟨0, _⟩ => show win0_5.index t (0 : Fin 4) * 4 + 1 * (j 0).val = (j 0).val; omega
  | ⟨1, _⟩ => show win0_5.index t (1 : Fin 4) * 96 + 1 * (j 1).val = (j 1).val; omega
  | ⟨2, _⟩ => show win0_5.index t (2 : Fin 4) * 16 + 1 * (j 2).val = (j 2).val; omega
  | ⟨3, _⟩ => show win0_5.index t (3 : Fin 4) * 256 + 1 * (j 3).val = (j 3).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x96x256.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 96 + 1 * (j 1).val = (j 1).val; omega
  | ⟨2, _⟩ => show win0_6.index t (2 : Fin 3) * 256 + 1 * (j 2).val = (j 2).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S4x96x16x256.Idx) : ((cfg0.win 7).blk t).view.emb j = j := by
  obtain ⟨e0, e1, e2, e3⟩ := idx_zero7 t
  funext a; apply Fin.ext
  match a with
  | ⟨0, _⟩ => show win0_7.index t (0 : Fin 4) * 4 + 1 * (j 0).val = (j 0).val; omega
  | ⟨1, _⟩ => show win0_7.index t (1 : Fin 4) * 96 + 1 * (j 1).val = (j 1).val; omega
  | ⟨2, _⟩ => show win0_7.index t (2 : Fin 4) * 16 + 1 * (j 2).val = (j 2).val; omega
  | ⟨3, _⟩ => show win0_7.index t (3 : Fin 4) * 256 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S4x96x256.Idx) : ((cfg0.win 8).blk t).view.emb j = j := by
  obtain ⟨e0, e1, e2⟩ := idx_zero8 t
  funext a; apply Fin.ext
  match a with
  | ⟨0, _⟩ => show win0_8.index t (0 : Fin 3) * 4 + 1 * (j 0).val = (j 0).val; omega
  | ⟨1, _⟩ => show win0_8.index t (1 : Fin 3) * 96 + 1 * (j 1).val = (j 1).val; omega
  | ⟨2, _⟩ => show win0_8.index t (2 : Fin 3) * 256 + 1 * (j 2).val = (j 2).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S15360x1024.Idx) : ((cfg0.win 9).blk t).view.emb j = j := by
  obtain ⟨e0, e1⟩ := idx_zero9 t
  funext a; apply Fin.ext
  match a with
  | ⟨0, _⟩ => show win0_9.index t (0 : Fin 2) * 15360 + 1 * (j 0).val = (j 0).val; omega
  | ⟨1, _⟩ => show win0_9.index t (1 : Fin 2) * 1024 + 1 * (j 1).val = (j 1).val; omega

/-! ### Output window 5: the array after the run -/

/-- What the window's array ends holding: `out0_5` applied to the argument arrays in place of the input blocks (a value that the
    frame states apart, `kK_payN a…`, keeps its loads inside its own definition). -/
abbrev G5 (a0 : Vec F S7680x1024 .i32) (a1 : Vec F S15360x15360 .fp8e4m3) (a2 : Vec F S96x16x15360 .fp8e4m3) (a3 : Vec F S96x16x15360 .fp8e4m3) (a4 : Vec F S48x1x512 .f32) : Vec F S4x96x16x256 .fp8e4m3 :=
  View.canon [⟨r0_14, k0_pay24 (k0_pay36 a0 a1 a2 a3 a4)⟩,
    ⟨r0_12, k0_pay22 (k0_pay36 a0 a1 a2 a3 a4)⟩,
    ⟨r0_10, k0_pay20 (k0_pay36 a0 a1 a2 a3 a4)⟩,
    ⟨r0_8, k0_pay18 (k0_pay34 a0 a1 a2 a3 a4)⟩]

/-- `G5` is `out0_5`'s canon as the frame states it. -/
theorem out5_eq (a0 : Vec F S7680x1024 .i32) (a1 : Vec F S15360x15360 .fp8e4m3) (a2 : Vec F S96x16x15360 .fp8e4m3) (a3 : Vec F S96x16x15360 .fp8e4m3) (a4 : Vec F S48x1x512 .f32) : out0_5 (F := F) a0 a1 a2 a3 a4 = G5 a0 a1 a2 a3 a4 := by
  unfold out0_5
  rfl

/-- Cutting the point's block out of `X` and reading `X` through the block's view give the same. -/
theorem cut5_eq (t : Fin cfg0.N) (X : Vec F S4x96x16x256 .fp8e4m3) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S4x96x16x256.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S7680x1024 .i32) (a1 : Vec F S15360x15360 .fp8e4m3) (a2 : Vec F S96x16x15360 .fp8e4m3) (a3 : Vec F S96x16x15360 .fp8e4m3) (a4 : Vec F S48x1x512 .f32) : Vec F S4x96x256 .f32 :=
  View.canon [⟨r0_15, k0_pay25 (k0_pay37 a0 a1 a2 a3 a4)⟩,
    ⟨r0_13, k0_pay23 (k0_pay37 a0 a1 a2 a3 a4)⟩,
    ⟨r0_11, k0_pay21 (k0_pay37 a0 a1 a2 a3 a4)⟩,
    ⟨r0_9, k0_pay19 (k0_pay34 a0 a1 a2 a3 a4)⟩]

/-- `G6` is `out0_6`'s canon as the frame states it. -/
theorem out6_eq (a0 : Vec F S7680x1024 .i32) (a1 : Vec F S15360x15360 .fp8e4m3) (a2 : Vec F S96x16x15360 .fp8e4m3) (a3 : Vec F S96x16x15360 .fp8e4m3) (a4 : Vec F S48x1x512 .f32) : out0_6 (F := F) a0 a1 a2 a3 a4 = G6 a0 a1 a2 a3 a4 := by
  unfold out0_6
  rfl

/-- Cutting the point's block out of `X` and reading `X` through the block's view give the same. -/
theorem cut6_eq (t : Fin cfg0.N) (X : Vec F S4x96x256 .f32) :
    (cfg0.win 6).cut (grid0.coords t) X = ((cfg0.win 6).blk t).view.read (Elt F) X := by
  funext j
  show X j = X (((cfg0.win 6).blk t).view.emb j)
  rw [emb6]

/-- What the point writes back is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S4x96x256.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- The array after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S7680x1024 .i32) (a1 : Vec F S15360x15360 .fp8e4m3) (a2 : Vec F S96x16x15360 .fp8e4m3) (a3 : Vec F S96x16x15360 .fp8e4m3) (a4 : Vec F S48x1x512 .f32) : Vec F S4x96x16x256 .fp8e4m3 :=
  View.canon [⟨r0_14, k0_pay5 (k0_pay40 a0 a1 a2 a3 a4)⟩,
    ⟨r0_12, k0_pay3 (k0_pay40 a0 a1 a2 a3 a4)⟩,
    ⟨r0_10, k0_pay1 (k0_pay33 (k0_pay38 a0 a1 a2 a3 a4) (k0_pay39 a0 a1 a2 a3 a4))⟩,
    ⟨r0_8, k0_pay31 (k0_pay38 a0 a1 a2 a3 a4) (k0_pay39 a0 a1 a2 a3 a4)⟩]

/-- `G7` is `out0_7`'s canon as the frame states it. -/
theorem out7_eq (a0 : Vec F S7680x1024 .i32) (a1 : Vec F S15360x15360 .fp8e4m3) (a2 : Vec F S96x16x15360 .fp8e4m3) (a3 : Vec F S96x16x15360 .fp8e4m3) (a4 : Vec F S48x1x512 .f32) : out0_7 (F := F) a0 a1 a2 a3 a4 = G7 a0 a1 a2 a3 a4 := by
  unfold out0_7
  rfl

/-- Cutting the point's block out of `X` and reading `X` through the block's view give the same. -/
theorem cut7_eq (t : Fin cfg0.N) (X : Vec F S4x96x16x256 .fp8e4m3) :
    (cfg0.win 7).cut (grid0.coords t) X = ((cfg0.win 7).blk t).view.read (Elt F) X := by
  funext j
  show X j = X (((cfg0.win 7).blk t).view.emb j)
  rw [emb7]

/-- What the point writes back is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S4x96x16x256.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- The array after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S7680x1024 .i32) (a1 : Vec F S15360x15360 .fp8e4m3) (a2 : Vec F S96x16x15360 .fp8e4m3) (a3 : Vec F S96x16x15360 .fp8e4m3) (a4 : Vec F S48x1x512 .f32) : Vec F S4x96x256 .f32 :=
  View.canon [⟨r0_15, k0_pay6 (k0_pay41 a0 a1 a2 a3 a4)⟩,
    ⟨r0_13, k0_pay4 (k0_pay41 a0 a1 a2 a3 a4)⟩,
    ⟨r0_11, k0_pay2 (k0_pay41 a0 a1 a2 a3 a4)⟩,
    ⟨r0_9, k0_pay32 (k0_pay39 a0 a1 a2 a3 a4)⟩]

/-- `G8` is `out0_8`'s canon as the frame states it. -/
theorem out8_eq (a0 : Vec F S7680x1024 .i32) (a1 : Vec F S15360x15360 .fp8e4m3) (a2 : Vec F S96x16x15360 .fp8e4m3) (a3 : Vec F S96x16x15360 .fp8e4m3) (a4 : Vec F S48x1x512 .f32) : out0_8 (F := F) a0 a1 a2 a3 a4 = G8 a0 a1 a2 a3 a4 := by
  unfold out0_8
  rfl

/-- Cutting the point's block out of `X` and reading `X` through the block's view give the same. -/
theorem cut8_eq (t : Fin cfg0.N) (X : Vec F S4x96x256 .f32) :
    (cfg0.win 8).cut (grid0.coords t) X = ((cfg0.win 8).blk t).view.read (Elt F) X := by
  funext j
  show X j = X (((cfg0.win 8).blk t).view.emb j)
  rw [emb8]

/-- What the point writes back is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S4x96x256.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- The array after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ### Output window 9: the array after the run -/

/-- What the window's array ends holding: `out0_9` applied to the argument arrays in place of the input blocks (a value that the
    frame states apart, `kK_payN a…`, keeps its loads inside its own definition). -/
abbrev G9 (a0 : Vec F S7680x1024 .i32) (a1 : Vec F S15360x15360 .fp8e4m3) (a2 : Vec F S96x16x15360 .fp8e4m3) (a3 : Vec F S96x16x15360 .fp8e4m3) (a4 : Vec F S48x1x512 .f32) : Vec F S15360x1024 .bf16 :=
  k0_pay9 a0 (View.ld a4 r0_1) a1

/-- A load of the whole of a block reads the block, and the one store through the whole rectangle leaves its payload. -/
theorem out9_eq (a0 : Vec F S7680x1024 .i32) (a1 : Vec F S15360x15360 .fp8e4m3) (a2 : Vec F S96x16x15360 .fp8e4m3) (a3 : Vec F S96x16x15360 .fp8e4m3) (a4 : Vec F S48x1x512 .f32) : out0_9 (F := F) a0 a1 a2 a3 a4 = G9 a0 a1 a2 a3 a4 := by
  unfold out0_9
  rw [View.canon_unit_zero hz9, View.ld_unit_zero (S := S7680x1024) hz0 _ a0, View.ld_unit_zero (S := S15360x15360) hz1 _ a1]

/-- Cutting the point's block out of `X` and reading `X` through the block's view give the same. -/
theorem cut9_eq (t : Fin cfg0.N) (X : Vec F S15360x1024 .bf16) :
    (cfg0.win 9).cut (grid0.coords t) X = ((cfg0.win 9).blk t).view.read (Elt F) X := by
  funext j
  show X j = X (((cfg0.win 9).blk t).view.emb j)
  rw [emb9]

/-- What the point writes back is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4)) := by
  show (cfg0.win 9).cut (grid0.coords t) ((dats m 0 c).after 9 t) = _
  rw [after0_9, out9_eq, iblk0_eq, iblk1_eq, iblk2_eq, iblk3_eq, iblk4_eq]
  exact cut9_eq t _

/-- Every index of the array is in the point's block. -/
theorem covered9 (i : S15360x1024.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- The array after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 9 (G9 (V m c main_arg0) (V m c main_arg1) (V m c main_arg2) (V m c main_arg3) (V m c main_arg4)) (fun t _ => flushed9_eq m c t) covered9).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = G9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c⟩)
    (run_main m ρ)

end Cert.ReferenceIdeal.Read

end
-- ==== Proof.Proj.lean ====
/-
  The projection of a grid point: the accumulator, fifteen chunks of 1024 positions added one after another, is at each
  index the whole sum over the 15360 positions; and what the scratch of queries, keys and values then holds.
-/
module

public import proofs.«01_k».proof.Proof.Left
public import Idealize.ShloMosaic.Lib.MatmulPlain
public import Idealize.ShloMosaic.Lib.BitcastPair
public import Idealize.ShloMosaic.Lib.Pointwise
public import Idealize.ShloMosaic.Lib.Pointwise.Tactic
public import Idealize.ShloMosaic.Lib.Pipeline.ValueKit.Acc

@[expose] public section

noncomputable section

namespace Cert.KernelIdeal.Hand

open Cert.KernelIdeal Cert.KernelIdeal.Gen
open Idealize.ShloMosaic Idealize.ShloMosaic.TcCoe
open scoped BigOperators

/-- Thirty-two-bit words read at sixteen bits, at an index: row `k` is a half of row `k / 2`. -/
theorem bitcast_half {M K N : Nat} (hK : K = 2 * M) (x : (⟨2, ![M, N]⟩ : Shape).Idx → BitVec 32)
    (h : (⟨2, ![M, N]⟩ : Shape).Bitcasts 32 (⟨2, ![K, N]⟩ : Shape) 16) (k : Fin K) (s : Fin N) :
    bitcast (⟨2, ![K, N]⟩ : Shape) 16 x h (ix2 k s)
      = (x (ix2 (⟨k.val / 2, by omega⟩ : Fin M) s)).extractLsb' (16 * (k.val % 2)) 16 := by
  refine (bitcast_32_16 x h (ix2 k s)).trans ?_
  have hrow : Shape.row (⟨2, ![K, N]⟩ : Shape) (ix2 k s) = k.val := by rfl
  refine congrArg₂ (fun (p : Nat) (i : (⟨2, ![M, N]⟩ : Shape).Idx) => BitVec.extractLsb' (16 * (p % 2)) 16 (x i)) hrow ?_
  funext a
  apply Fin.ext
  match a with
  | ⟨0, _⟩ => exact h.srcIdx_row _ _ _ ⟨0, show 0 < 2 by decide⟩ (by rfl)
  | ⟨1, _⟩ => exact h.srcIdx_other _ _ _ ⟨1, show 1 < 2 by decide⟩ (show 1 + 2 ≠ 2 by decide)

/-- The activations at position `k` and column `s`: the half of the word at row `k / 2`. -/
def actAt (X : S7680x1024.Idx → BitVec 32) (k : Fin 15360) (s : Fin 1024) : Idealize.ShloMosaic.Ideal .bf16 :=
  FloatOps.ofBits (F := Idealize.ShloMosaic.Ideal) .bf16 ((X (ix2 (⟨k.val / 2, by omega⟩ : Fin 7680) s)).extractLsb' (16 * (k.val % 2)) 16)

/-- The 384 rows of weights a grid point projects with: 320 of values, 32 of queries, 32 of keys. -/
def weightAt (wv : S320x15360.Idx → Idealize.ShloMosaic.Ideal .fp8e4m3) (wq wk : S2x16x15360.Idx → Idealize.ShloMosaic.Ideal .fp8e4m3) (r : Fin 384) (k : Fin 15360) : EReal :=
  if h : r.val < 320 then wv (ix2 (⟨r.val, h⟩ : Fin 320) k)
  else if h' : r.val < 352 then wq (ix3 (⟨(r.val - 320) / 16, by omega⟩ : Fin 2) (⟨(r.val - 320) % 16, by omega⟩ : Fin 16) k)
  else wk (ix3 (⟨(r.val - 352) / 16, by omega⟩ : Fin 2) (⟨(r.val - 352) % 16, by omega⟩ : Fin 16) k)

/-- The term of the sum at position `j`. -/
def termAt (wv : S320x15360.Idx → Idealize.ShloMosaic.Ideal .fp8e4m3) (wq wk : S2x16x15360.Idx → Idealize.ShloMosaic.Ideal .fp8e4m3) (X : S7680x1024.Idx → BitVec 32)
    (r : Fin 384) (s : Fin 1024) (j : Nat) : EReal :=
  if h : j < 15360 then weightAt wv wq wk r ⟨j, h⟩ * actAt X ⟨j, h⟩ s else 0

section Chunk

variable {F : FTy → Type} [FloatOps F] (c : Dev nD) (M1 : Memref sig .tc .vmem S7680x1024 .i32)
  (M2 : Memref sig .tc .vmem S320x15360 .fp8e4m3) (M3 M4 : Memref sig .tc .vmem S2x16x15360 .fp8e4m3)
  (M5 : Memref sig .tc .vmem S1x1x512 .f32) (M12 : Memref sig .tc .vmem S384x1024 .f32)
  (f1 : Bf (F := F) c M1) (f2 : Bf (F := F) c M2) (f3 : Bf (F := F) c M3) (f4 : Bf (F := F) c M4) (f5 : Bf (F := F) c M5)

/-- The weights of a chunk, values above queries above keys. -/
def chunkW (w2 : Vec F S320x1024 .fp8e4m3) (w3 w4 : Vec F S2x16x1024 .fp8e4m3) : FVec F S384x1024 .bf16 :=
  concatenate S384x1024 0 [⟨S320x1024, extf .bf16 w2 bitsLt_fp8e4m3_bf16⟩, ⟨S32x1024, shapeCast S32x1024 (extf .bf16 w3 bitsLt_fp8e4m3_bf16) shapeCasts_S2x16x1024_S32x1024⟩,
    ⟨S32x1024, shapeCast S32x1024 (extf .bf16 w4 bitsLt_fp8e4m3_bf16) shapeCasts_S2x16x1024_S32x1024⟩] concatenates_S320x1024_S32x1024_S32x1024_S384x1024_d0

/-- A chunk's product. -/
def chunkOf (w2 : Vec F S320x1024 .fp8e4m3) (w3 w4 : Vec F S2x16x1024 .fp8e4m3) (x : Vec F S512x1024 .i32) : FVec F S384x1024 .f32 :=
  matmul dot_S384x1024_S1024x1024_S384x1024_1_0_0_1_n_n none (chunkW w2 w3 w4)
    (bitcastToFloat .bf16 (bitcast S1024x1024 16 x bitcasts_S512x1024_w32_S1024x1024_w16)) (constant S384x1024 .f32 0x00000000#32)

/-- The chunk of positions from `o`, whose words are the rows from `w`. -/
def chunk (o w : Nat) (h2 : ∀ a : Fin 2, ![0, o] a + S320x1024.size a ≤ S320x15360.size a)
    (h3 : ∀ a : Fin 3, ![0, 0, o] a + S2x16x1024.size a ≤ S2x16x15360.size a) (h1 : ∀ a : Fin 2, ![w, 0] a + S512x1024.size a ≤ S7680x1024.size a) :
    FVec F S384x1024 .f32 :=
  chunkOf (View.readAt (Elt F) M2.view (Rect.unit (s := S320x15360) ![0, o] S320x1024.size h2).toLoadRect f2)
    (View.readAt (Elt F) M3.view (Rect.unit (s := S2x16x15360) ![0, 0, o] S2x16x1024.size h3).toLoadRect f3)
    (View.readAt (Elt F) M4.view (Rect.unit (s := S2x16x15360) ![0, 0, o] S2x16x1024.size h3).toLoadRect f4)
    (View.readAt (Elt F) M1.view (Rect.unit (s := S7680x1024) ![w, 0] S512x1024.size h1).toLoadRect f1)

/-- What a chunk stores: the accumulator before, and the chunk's product. -/
def stepPay (prev chunk : FVec F S384x1024 .f32) : FVec F S384x1024 .f32 :=
  shapeCast S384x1024 (addf prev chunk) shapeCasts_S384x1024_S384x1024

theorem acc1 : kernelRun.sl.H12_1 c M1 M2 M3 M4 f1 f2 f3 f4
    = [⟨Rect.unit (s := S384x1024) ![0, 0] S384x1024.size inb_S384x1024_S384x1024_0_0,
        shapeCast S384x1024 (chunk c M1 M2 M3 M4 f1 f2 f3 f4 0 0 inb_S320x15360_S320x1024_0_0 inb_S2x16x15360_S2x16x1024_0_0_0 inb_S7680x1024_S512x1024_0_0)
          shapeCasts_S384x1024_S384x1024⟩] := rfl
theorem acc2 : kernelRun.sl.H12_2 c M1 M2 M3 M4 M12 f1 f2 f3 f4
    = ⟨Rect.unit (s := S384x1024) ![0, 0] S384x1024.size inb_S384x1024_S384x1024_0_0,
        stepPay (M12.view.readCov (kernelRun.sl.H12_1 c M1 M2 M3 M4 f1 f2 f3 f4) (Rect.unit (s := S384x1024) ![0, 0] S384x1024.size inb_S384x1024_S384x1024_0_0).toLoadRect)
          (chunk c M1 M2 M3 M4 f1 f2 f3 f4 1024 512 inb_S320x15360_S320x1024_0_1024 inb_S2x16x15360_S2x16x1024_0_0_1024 inb_S7680x1024_S512x1024_512_0)⟩
      :: kernelRun.sl.H12_1 c M1 M2 M3 M4 f1 f2 f3 f4 := rfl
theorem acc3 : kernelRun.sl.H12_3 c M1 M2 M3 M4 M12 f1 f2 f3 f4
    = ⟨Rect.unit (s := S384x1024) ![0, 0] S384x1024.size inb_S384x1024_S384x1024_0_0,
        stepPay (M12.view.readCov (kernelRun.sl.H12_2 c M1 M2 M3 M4 M12 f1 f2 f3 f4) (Rect.unit (s := S384x1024) ![0, 0] S384x1024.size inb_S384x1024_S384x1024_0_0).toLoadRect)
          (chunk c M1 M2 M3 M4 f1 f2 f3 f4 2048 1024 inb_S320x15360_S320x1024_0_2048 inb_S2x16x15360_S2x16x1024_0_0_2048 inb_S7680x1024_S512x1024_1024_0)⟩
      :: kernelRun.sl.H12_2 c M1 M2 M3 M4 M12 f1 f2 f3 f4 := rfl
theorem acc4 : kernelRun.sl.H12_4 c M1 M2 M3 M4 M12 f1 f2 f3 f4
    = ⟨Rect.unit (s := S384x1024) ![0, 0] S384x1024.size inb_S384x1024_S384x1024_0_0,
        stepPay (M12.view.readCov (kernelRun.sl.H12_3 c M1 M2 M3 M4 M12 f1 f2 f3 f4) (Rect.unit (s := S384x1024) ![0, 0] S384x1024.size inb_S384x1024_S384x1024_0_0).toLoadRect)
          (chunk c M1 M2 M3 M4 f1 f2 f3 f4 3072 1536 inb_S320x15360_S320x1024_0_3072 inb_S2x16x15360_S2x16x1024_0_0_3072 inb_S7680x1024_S512x1024_1536_0)⟩
      :: kernelRun.sl.H12_3 c M1 M2 M3 M4 M12 f1 f2 f3 f4 := rfl
theorem acc5 : kernelRun.sl.H12_5 c M1 M2 M3 M4 M12 f1 f2 f3 f4
    = ⟨Rect.unit (s := S384x1024) ![0, 0] S384x1024.size inb_S384x1024_S384x1024_0_0,
        stepPay (M12.view.readCov (kernelRun.sl.H12_4 c M1 M2 M3 M4 M12 f1 f2 f3 f4) (Rect.unit (s := S384x1024) ![0, 0] S384x1024.size inb_S384x1024_S384x1024_0_0).toLoadRect)
          (chunk c M1 M2 M3 M4 f1 f2 f3 f4 4096 2048 inb_S320x15360_S320x1024_0_4096 inb_S2x16x15360_S2x16x1024_0_0_4096 inb_S7680x1024_S512x1024_2048_0)⟩
      :: kernelRun.sl.H12_4 c M1 M2 M3 M4 M12 f1 f2 f3 f4 := rfl
theorem acc6 : kernelRun.sl.H12_6 c M1 M2 M3 M4 M12 f1 f2 f3 f4
    = ⟨Rect.unit (s := S384x1024) ![0, 0] S384x1024.size inb_S384x1024_S384x1024_0_0,
        stepPay (M12.view.readCov (kernelRun.sl.H12_5 c M1 M2 M3 M4 M12 f1 f2 f3 f4) (Rect.unit (s := S384x1024) ![0, 0] S384x1024.size inb_S384x1024_S384x1024_0_0).toLoadRect)
          (chunk c M1 M2 M3 M4 f1 f2 f3 f4 5120 2560 inb_S320x15360_S320x1024_0_5120 inb_S2x16x15360_S2x16x1024_0_0_5120 inb_S7680x1024_S512x1024_2560_0)⟩
      :: kernelRun.sl.H12_5 c M1 M2 M3 M4 M12 f1 f2 f3 f4 := rfl
theorem acc7 : kernelRun.sl.H12_7 c M1 M2 M3 M4 M12 f1 f2 f3 f4
    = ⟨Rect.unit (s := S384x1024) ![0, 0] S384x1024.size inb_S384x1024_S384x1024_0_0,
        stepPay (M12.view.readCov (kernelRun.sl.H12_6 c M1 M2 M3 M4 M12 f1 f2 f3 f4) (Rect.unit (s := S384x1024) ![0, 0] S384x1024.size inb_S384x1024_S384x1024_0_0).toLoadRect)
          (chunk c M1 M2 M3 M4 f1 f2 f3 f4 6144 3072 inb_S320x15360_S320x1024_0_6144 inb_S2x16x15360_S2x16x1024_0_0_6144 inb_S7680x1024_S512x1024_3072_0)⟩
      :: kernelRun.sl.H12_6 c M1 M2 M3 M4 M12 f1 f2 f3 f4 := rfl
theorem acc8 : kernelRun.sl.H12_8 c M1 M2 M3 M4 M12 f1 f2 f3 f4
    = ⟨Rect.unit (s := S384x1024) ![0, 0] S384x1024.size inb_S384x1024_S384x1024_0_0,
        stepPay (M12.view.readCov (kernelRun.sl.H12_7 c M1 M2 M3 M4 M12 f1 f2 f3 f4) (Rect.unit (s := S384x1024) ![0, 0] S384x1024.size inb_S384x1024_S384x1024_0_0).toLoadRect)
          (chunk c M1 M2 M3 M4 f1 f2 f3 f4 7168 3584 inb_S320x15360_S320x1024_0_7168 inb_S2x16x15360_S2x16x1024_0_0_7168 inb_S7680x1024_S512x1024_3584_0)⟩
      :: kernelRun.sl.H12_7 c M1 M2 M3 M4 M12 f1 f2 f3 f4 := rfl
theorem acc9 : kernelRun.sl.H12_9 c M1 M2 M3 M4 M12 f1 f2 f3 f4
    = ⟨Rect.unit (s := S384x1024) ![0, 0] S384x1024.size inb_S384x1024_S384x1024_0_0,
        stepPay (M12.view.readCov (kernelRun.sl.H12_8 c M1 M2 M3 M4 M12 f1 f2 f3 f4) (Rect.unit (s := S384x1024) ![0, 0] S384x1024.size inb_S384x1024_S384x1024_0_0).toLoadRect)
          (chunk c M1 M2 M3 M4 f1 f2 f3 f4 8192 4096 inb_S320x15360_S320x1024_0_8192 inb_S2x16x15360_S2x16x1024_0_0_8192 inb_S7680x1024_S512x1024_4096_0)⟩
      :: kernelRun.sl.H12_8 c M1 M2 M3 M4 M12 f1 f2 f3 f4 := rfl
theorem acc10 : kernelRun.sl.H12_10 c M1 M2 M3 M4 M12 f1 f2 f3 f4
    = ⟨Rect.unit (s := S384x1024) ![0, 0] S384x1024.size inb_S384x1024_S384x1024_0_0,
        stepPay (M12.view.readCov (kernelRun.sl.H12_9 c M1 M2 M3 M4 M12 f1 f2 f3 f4) (Rect.unit (s := S384x1024) ![0, 0] S384x1024.size inb_S384x1024_S384x1024_0_0).toLoadRect)
          (chunk c M1 M2 M3 M4 f1 f2 f3 f4 9216 4608 inb_S320x15360_S320x1024_0_9216 inb_S2x16x15360_S2x16x1024_0_0_9216 inb_S7680x1024_S512x1024_4608_0)⟩
      :: kernelRun.sl.H12_9 c M1 M2 M3 M4 M12 f1 f2 f3 f4 := rfl
theorem acc11 : kernelRun.sl.H12_11 c M1 M2 M3 M4 M12 f1 f2 f3 f4
    = ⟨Rect.unit (s := S384x1024) ![0, 0] S384x1024.size inb_S384x1024_S384x1024_0_0,
        stepPay (M12.view.readCov (kernelRun.sl.H12_10 c M1 M2 M3 M4 M12 f1 f2 f3 f4) (Rect.unit (s := S384x1024) ![0, 0] S384x1024.size inb_S384x1024_S384x1024_0_0).toLoadRect)
          (chunk c M1 M2 M3 M4 f1 f2 f3 f4 10240 5120 inb_S320x15360_S320x1024_0_10240 inb_S2x16x15360_S2x16x1024_0_0_10240 inb_S7680x1024_S512x1024_5120_0)⟩
      :: kernelRun.sl.H12_10 c M1 M2 M3 M4 M12 f1 f2 f3 f4 := rfl
theorem acc12 : kernelRun.sl.H12_12 c M1 M2 M3 M4 M12 f1 f2 f3 f4
    = ⟨Rect.unit (s := S384x1024) ![0, 0] S384x1024.size inb_S384x1024_S384x1024_0_0,
        stepPay (M12.view.readCov (kernelRun.sl.H12_11 c M1 M2 M3 M4 M12 f1 f2 f3 f4) (Rect.unit (s := S384x1024) ![0, 0] S384x1024.size inb_S384x1024_S384x1024_0_0).toLoadRect)
          (chunk c M1 M2 M3 M4 f1 f2 f3 f4 11264 5632 inb_S320x15360_S320x1024_0_11264 inb_S2x16x15360_S2x16x1024_0_0_11264 inb_S7680x1024_S512x1024_5632_0)⟩
      :: kernelRun.sl.H12_11 c M1 M2 M3 M4 M12 f1 f2 f3 f4 := rfl
theorem acc13 : kernelRun.sl.H12_13 c M1 M2 M3 M4 M12 f1 f2 f3 f4
    = ⟨Rect.unit (s := S384x1024) ![0, 0] S384x1024.size inb_S384x1024_S384x1024_0_0,
        stepPay (M12.view.readCov (kernelRun.sl.H12_12 c M1 M2 M3 M4 M12 f1 f2 f3 f4) (Rect.unit (s := S384x1024) ![0, 0] S384x1024.size inb_S384x1024_S384x1024_0_0).toLoadRect)
          (chunk c M1 M2 M3 M4 f1 f2 f3 f4 12288 6144 inb_S320x15360_S320x1024_0_12288 inb_S2x16x15360_S2x16x1024_0_0_12288 inb_S7680x1024_S512x1024_6144_0)⟩
      :: kernelRun.sl.H12_12 c M1 M2 M3 M4 M12 f1 f2 f3 f4 := rfl
theorem acc14 : kernelRun.sl.H12_14 c M1 M2 M3 M4 M12 f1 f2 f3 f4
    = ⟨Rect.unit (s := S384x1024) ![0, 0] S384x1024.size inb_S384x1024_S384x1024_0_0,
        stepPay (M12.view.readCov (kernelRun.sl.H12_13 c M1 M2 M3 M4 M12 f1 f2 f3 f4) (Rect.unit (s := S384x1024) ![0, 0] S384x1024.size inb_S384x1024_S384x1024_0_0).toLoadRect)
          (chunk c M1 M2 M3 M4 f1 f2 f3 f4 13312 6656 inb_S320x15360_S320x1024_0_13312 inb_S2x16x15360_S2x16x1024_0_0_13312 inb_S7680x1024_S512x1024_6656_0)⟩
      :: kernelRun.sl.H12_13 c M1 M2 M3 M4 M12 f1 f2 f3 f4 := rfl
theorem acc15 : kernelRun.sl.H12_15 c M1 M2 M3 M4 M12 f1 f2 f3 f4
    = ⟨Rect.unit (s := S384x1024) ![0, 0] S384x1024.size inb_S384x1024_S384x1024_0_0,
        stepPay (M12.view.readCov (kernelRun.sl.H12_14 c M1 M2 M3 M4 M12 f1 f2 f3 f4) (Rect.unit (s := S384x1024) ![0, 0] S384x1024.size inb_S384x1024_S384x1024_0_0).toLoadRect)
          (chunk c M1 M2 M3 M4 f1 f2 f3 f4 14336 7168 inb_S320x15360_S320x1024_0_14336 inb_S2x16x15360_S2x16x1024_0_0_14336 inb_S7680x1024_S512x1024_7168_0)⟩
      :: kernelRun.sl.H12_14 c M1 M2 M3 M4 M12 f1 f2 f3 f4 := rfl

end Chunk

section Sum

variable (c : Dev nD) (M1 : Memref sig .tc .vmem S7680x1024 .i32)
  (M2 : Memref sig .tc .vmem S320x15360 .fp8e4m3) (M3 M4 : Memref sig .tc .vmem S2x16x15360 .fp8e4m3)
  (M5 : Memref sig .tc .vmem S1x1x512 .f32) (M12 : Memref sig .tc .vmem S384x1024 .f32)
  (f1 : Bf (F := Idealize.ShloMosaic.Ideal) c M1) (f2 : Bf (F := Idealize.ShloMosaic.Ideal) c M2) (f3 : Bf (F := Idealize.ShloMosaic.Ideal) c M3) (f4 : Bf (F := Idealize.ShloMosaic.Ideal) c M4) (f5 : Bf (F := Idealize.ShloMosaic.Ideal) c M5)

theorem chunkW_apply (wv : S320x15360.Idx → Idealize.ShloMosaic.Ideal .fp8e4m3) (wq wk : S2x16x15360.Idx → Idealize.ShloMosaic.Ideal .fp8e4m3) (n : Nat) (hn : n < 15)
    (w2 : Vec Idealize.ShloMosaic.Ideal S320x1024 .fp8e4m3) (w3 w4 : Vec Idealize.ShloMosaic.Ideal S2x16x1024 .fp8e4m3)
    (e2 : ∀ (r : Fin 320) (k : Fin 1024), w2 (ix2 r k) = wv (ix2 r (⟨1024 * n + k.val, by omega⟩ : Fin 15360)))
    (e3 : ∀ (h : Fin 2) (r : Fin 16) (k : Fin 1024), w3 (ix3 h r k) = wq (ix3 h r (⟨1024 * n + k.val, by omega⟩ : Fin 15360)))
    (e4 : ∀ (h : Fin 2) (r : Fin 16) (k : Fin 1024), w4 (ix3 h r k) = wk (ix3 h r (⟨1024 * n + k.val, by omega⟩ : Fin 15360)))
    (r : Fin 384) (k : Fin 1024) :
    chunkW (F := Idealize.ShloMosaic.Ideal) w2 w3 w4 (ix2 r k) = weightAt wv wq wk r (⟨1024 * n + k.val, by omega⟩ : Fin 15360) := by
  unfold chunkW weightAt
  by_cases h : r.val < 320
  · rw [dif_pos h, ← e2]
    exact concatenate_apply_piece (t := S384x1024) 0 _ _ (ix2 r k) 0 (by show 0 < 3; decide) S320x1024 _ rfl rfl 0 rfl (ix2 (⟨r.val, h⟩ : Fin 320) k)
      (fun b hb => match b, hb with | ⟨0, _⟩, hb => absurd rfl hb | ⟨1, _⟩, _ => rfl) (Nat.zero_add _)
  · rw [dif_neg h]
    by_cases h' : r.val < 352
    · rw [dif_pos h', ← e3]
      refine (concatenate_apply_piece (t := S384x1024) 0 _ _ (ix2 r k) 1 (by show 1 < 3; decide) S32x1024 _ rfl rfl 320 rfl (ix2 (⟨r.val - 320, by omega⟩ : Fin 32) k)
        (fun b hb => match b, hb with | ⟨0, _⟩, hb => absurd rfl hb | ⟨1, _⟩, _ => rfl) (by show 320 + (r.val - 320) = r.val; omega)).trans ?_
      refine (shapeCast_apply _ _ (ix2 (⟨r.val - 320, by omega⟩ : Fin 32) k) (ix3 (⟨(r.val - 320) / 16, by omega⟩ : Fin 2) (⟨(r.val - 320) % 16, by omega⟩ : Fin 16) k) ?_).trans rfl
      simp only [Shape.rowMajor_val_two, Shape.rowMajor_val_three]
      show ((r.val - 320) / 16 * 16 + (r.val - 320) % 16) * 1024 + k.val = (r.val - 320) * 1024 + k.val
      omega
    · rw [dif_neg h', ← e4]
      refine (concatenate_apply_piece (t := S384x1024) 0 _ _ (ix2 r k) 2 (by show 2 < 3; decide) S32x1024 _ rfl rfl 352 rfl (ix2 (⟨r.val - 352, by omega⟩ : Fin 32) k)
        (fun b hb => match b, hb with | ⟨0, _⟩, hb => absurd rfl hb | ⟨1, _⟩, _ => rfl) (by show 352 + (r.val - 352) = r.val; omega)).trans ?_
      refine (shapeCast_apply _ _ (ix2 (⟨r.val - 352, by omega⟩ : Fin 32) k) (ix3 (⟨(r.val - 352) / 16, by omega⟩ : Fin 2) (⟨(r.val - 352) % 16, by omega⟩ : Fin 16) k) ?_).trans rfl
      simp only [Shape.rowMajor_val_two, Shape.rowMajor_val_three]
      show ((r.val - 352) / 16 * 16 + (r.val - 352) % 16) * 1024 + k.val = (r.val - 352) * 1024 + k.val
      omega

theorem chunkOf_apply (wv : S320x15360.Idx → Idealize.ShloMosaic.Ideal .fp8e4m3) (wq wk : S2x16x15360.Idx → Idealize.ShloMosaic.Ideal .fp8e4m3) (X : S7680x1024.Idx → BitVec 32) (n : Nat) (hn : n < 15)
    (w2 : Vec Idealize.ShloMosaic.Ideal S320x1024 .fp8e4m3) (w3 w4 : Vec Idealize.ShloMosaic.Ideal S2x16x1024 .fp8e4m3) (x : Vec Idealize.ShloMosaic.Ideal S512x1024 .i32)
    (e2 : ∀ (r : Fin 320) (k : Fin 1024), w2 (ix2 r k) = wv (ix2 r (⟨1024 * n + k.val, by omega⟩ : Fin 15360)))
    (e3 : ∀ (h : Fin 2) (r : Fin 16) (k : Fin 1024), w3 (ix3 h r k) = wq (ix3 h r (⟨1024 * n + k.val, by omega⟩ : Fin 15360)))
    (e4 : ∀ (h : Fin 2) (r : Fin 16) (k : Fin 1024), w4 (ix3 h r k) = wk (ix3 h r (⟨1024 * n + k.val, by omega⟩ : Fin 15360)))
    (e1 : ∀ (k : Fin 512) (s : Fin 1024), x (ix2 k s) = X (ix2 (⟨512 * n + k.val, by omega⟩ : Fin 7680) s))
    (r : Fin 384) (s : Fin 1024) :
    chunkOf (F := Idealize.ShloMosaic.Ideal) w2 w3 w4 x (ix2 r s) = ∑ k ∈ Finset.range 1024, termAt wv wq wk X r s (1024 * n + k) := by
  unfold chunkOf
  refine (Ideal.matmul_plain_apply (M := 384) (K := 1024) (N := 1024) none _ _ _ r s).trans ?_
  rw [Finset.sum_range]
  refine (congrArg (· + _) (show constant (F := Idealize.ShloMosaic.Ideal) S384x1024 .f32 0x00000000#32 (ix2 r s) = (0 : EReal) from Ideal.ofBits_zero .f32)).trans ?_
  rw [zero_add]
  refine Finset.sum_congr rfl fun k _ => ?_
  have hk : 1024 * n + k.val < 15360 := by omega
  unfold termAt
  rw [dif_pos hk]
  refine (congrArg (· * _) (chunkW_apply wv wq wk n hn w2 w3 w4 e2 e3 e4 r k)).trans ?_
  refine congrArg (fun z : EReal => weightAt wv wq wk r (⟨1024 * n + k.val, hk⟩ : Fin 15360) * z) ?_
  unfold actAt
  refine congrArg (FloatOps.ofBits (F := Idealize.ShloMosaic.Ideal) .bf16) ?_
  refine (bitcast_half (M := 512) (K := 1024) (N := 1024) rfl x bitcasts_S512x1024_w32_S1024x1024_w16 k s).trans ?_
  rw [e1]
  have h1 : (1024 * n + k.val) % 2 = k.val % 2 := by omega
  have h2 : (⟨512 * n + k.val / 2, by omega⟩ : Fin 7680) = ⟨(1024 * n + k.val) / 2, by omega⟩ := Fin.ext (by show 512 * n + k.val / 2 = (1024 * n + k.val) / 2; omega)
  show BitVec.extractLsb' (16 * (k.val % 2)) 16 (X (ix2 (⟨512 * n + k.val / 2, _⟩ : Fin 7680) s)) = _
  rw [h2]
  show _ = BitVec.extractLsb' (16 * ((1024 * n + k.val) % 2)) 16 _
  rw [h1]

/-- A chunk at an index: its 1024 terms. -/
theorem chunk_apply (n : Nat) (hn : n < 15) (o w : Nat) (ho : o = 1024 * n) (hw : w = 512 * n) (h2 : ∀ a : Fin 2, ![0, o] a + S320x1024.size a ≤ S320x15360.size a)
    (h3 : ∀ a : Fin 3, ![0, 0, o] a + S2x16x1024.size a ≤ S2x16x15360.size a) (h1 : ∀ a : Fin 2, ![w, 0] a + S512x1024.size a ≤ S7680x1024.size a)
    (r : Fin 384) (s : Fin 1024) :
    chunk (F := Idealize.ShloMosaic.Ideal) c M1 M2 M3 M4 f1 f2 f3 f4 o w h2 h3 h1 (ix2 r s)
      = ∑ k ∈ Finset.range 1024, termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s (1024 * n + k) := by
  subst ho hw
  unfold chunk
  refine chunkOf_apply _ _ _ _ n hn _ _ _ _ (fun r k => ?_) (fun h r k => ?_) (fun h r k => ?_) (fun k s => ?_) r s
  · refine congrArg (M2.view.read (Elt Idealize.ShloMosaic.Ideal) f2) (funext fun a => Fin.ext ?_)
    match a with
    | ⟨0, _⟩ => show 0 + 1 * r.val = r.val; omega
    | ⟨1, _⟩ => show 1024 * n + 1 * k.val = 1024 * n + k.val; omega
  · refine congrArg (M3.view.read (Elt Idealize.ShloMosaic.Ideal) f3) (funext fun a => Fin.ext ?_)
    match a with
    | ⟨0, _⟩ => show 0 + 1 * h.val = h.val; omega
    | ⟨1, _⟩ => show 0 + 1 * r.val = r.val; omega
    | ⟨2, _⟩ => show 1024 * n + 1 * k.val = 1024 * n + k.val; omega
  · refine congrArg (M4.view.read (Elt Idealize.ShloMosaic.Ideal) f4) (funext fun a => Fin.ext ?_)
    match a with
    | ⟨0, _⟩ => show 0 + 1 * h.val = h.val; omega
    | ⟨1, _⟩ => show 0 + 1 * r.val = r.val; omega
    | ⟨2, _⟩ => show 1024 * n + 1 * k.val = 1024 * n + k.val; omega
  · refine congrArg (M1.view.read (Elt Idealize.ShloMosaic.Ideal) f1) (funext fun a => Fin.ext ?_)
    match a with
    | ⟨0, _⟩ => show 512 * n + 1 * k.val = 512 * n + k.val; omega
    | ⟨1, _⟩ => show 0 + 1 * s.val = s.val; omega

theorem idx_whole (y : S384x1024.Idx) :
    (Rect.unit (s := S384x1024) ![0, 0] S384x1024.size inb_S384x1024_S384x1024_0_0).toLoadRect.idx y = y := by
  funext a
  apply Fin.ext
  match a with
  | ⟨0, _⟩ => show 0 + 1 * (y 0).val = (y 0).val; omega
  | ⟨1, _⟩ => show 0 + 1 * (y 1).val = (y 1).val; omega

theorem off0 : (![0, 0] : Fin 2 → Nat) = fun _ => 0 := by
  funext a
  match a with
  | ⟨0, _⟩ => rfl
  | ⟨1, _⟩ => rfl
theorem whole2 {M N : Nat} {Val : EltTy → Type} [∀ e, Nonempty (Val e)] {e : EltTy} (off : Fin 2 → Nat) (h : off = fun _ => 0) (inb : ∀ a : Fin 2, off a + (⟨2, ![M, N]⟩ : Shape).size a ≤ (⟨2, ![M, N]⟩ : Shape).size a)
   (w : (⟨2, ![M, N]⟩ : Shape).Idx → Val e) (L : List (View.Piece Val (⟨2, ![M, N]⟩ : Shape) e)) (y : (⟨2, ![M, N]⟩ : Shape).Idx) :
    View.canon ((⟨Rect.unit (s := ⟨2, ![M, N]⟩) off (⟨2, ![M, N]⟩ : Shape).size inb, w⟩ : View.Piece Val (⟨2, ![M, N]⟩ : Shape) e) :: L) y = w y := congrFun (View.canon_cons_unit_zero h inb w L) y
theorem canon_whole {Val : EltTy → Type} [∀ e, Nonempty (Val e)] (w : S384x1024.Idx → Val .f32) (L : List (View.Piece Val S384x1024 .f32)) (y : S384x1024.Idx) :
    View.canon ((⟨Rect.unit (s := S384x1024) ![0, 0] S384x1024.size inb_S384x1024_S384x1024_0_0, w⟩ : View.Piece Val S384x1024 .f32) :: L) y = w y :=
  whole2 (M := 384) (N := 1024) ![0, 0] off0 inb_S384x1024_S384x1024_0_0 w L y

theorem cast_self (v : FVec Idealize.ShloMosaic.Ideal S384x1024 .f32) (y : S384x1024.Idx) : shapeCast S384x1024 v shapeCasts_S384x1024_S384x1024 y = v y :=
  shapeCast_apply _ _ y y rfl

theorem canon_step (L : List (View.Piece (Elt Idealize.ShloMosaic.Ideal) S384x1024 .f32)) (w : FVec Idealize.ShloMosaic.Ideal S384x1024 .f32) (y : S384x1024.Idx) (a b : EReal)
    (ha : View.canon L y = a) (hb : w y = b) :
    View.canon ((⟨Rect.unit (s := S384x1024) ![0, 0] S384x1024.size inb_S384x1024_S384x1024_0_0,
        stepPay (M12.view.readCov L (Rect.unit (s := S384x1024) ![0, 0] S384x1024.size inb_S384x1024_S384x1024_0_0).toLoadRect) w⟩ : View.Piece (Elt Idealize.ShloMosaic.Ideal) S384x1024 .f32) :: L) y
      = a + b := by
  refine (canon_whole (Val := Elt Idealize.ShloMosaic.Ideal) _ L y).trans ((cast_self _ y).trans ?_)
  rw [addf_apply, View.readCov_eq_canon']
  exact congrArg₂ (fun p q : EReal => p + q) ((congrArg (View.canon L) (idx_whole y)).trans ha) hb

variable (r : Fin 384) (s : Fin 1024)

theorem sum1 : View.canon (kernelRun.sl.H12_1 c M1 M2 M3 M4 f1 f2 f3 f4) (ix2 r s) = ∑ j ∈ Finset.range 1024, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc1]
  refine (canon_whole (Val := Elt Idealize.ShloMosaic.Ideal) _ [] (ix2 r s)).trans ((cast_self _ (ix2 r s)).trans ?_)
  refine (chunk_apply c M1 M2 M3 M4 f1 f2 f3 f4 0 (by decide) 0 0 rfl rfl inb_S320x15360_S320x1024_0_0 inb_S2x16x15360_S2x16x1024_0_0_0 inb_S7680x1024_S512x1024_0_0 r s).trans ?_
  exact Finset.sum_congr rfl fun k _ => congrArg (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) (by omega)
theorem sum2 : View.canon (kernelRun.sl.H12_2 c M1 M2 M3 M4 M12 f1 f2 f3 f4) (ix2 r s) = ∑ j ∈ Finset.range 2048, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc2]
  refine (canon_step M12 _ _ (ix2 r s) _ _ (sum1 c M1 M2 M3 M4 f1 f2 f3 f4 r s) (chunk_apply c M1 M2 M3 M4 f1 f2 f3 f4 1 (by decide) 1024 512 rfl rfl inb_S320x15360_S320x1024_0_1024 inb_S2x16x15360_S2x16x1024_0_0_1024 inb_S7680x1024_S512x1024_512_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 1024 1024).symm
theorem sum3 : View.canon (kernelRun.sl.H12_3 c M1 M2 M3 M4 M12 f1 f2 f3 f4) (ix2 r s) = ∑ j ∈ Finset.range 3072, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc3]
  refine (canon_step M12 _ _ (ix2 r s) _ _ (sum2 c M1 M2 M3 M4 M12 f1 f2 f3 f4 r s) (chunk_apply c M1 M2 M3 M4 f1 f2 f3 f4 2 (by decide) 2048 1024 rfl rfl inb_S320x15360_S320x1024_0_2048 inb_S2x16x15360_S2x16x1024_0_0_2048 inb_S7680x1024_S512x1024_1024_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 2048 1024).symm
theorem sum4 : View.canon (kernelRun.sl.H12_4 c M1 M2 M3 M4 M12 f1 f2 f3 f4) (ix2 r s) = ∑ j ∈ Finset.range 4096, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc4]
  refine (canon_step M12 _ _ (ix2 r s) _ _ (sum3 c M1 M2 M3 M4 M12 f1 f2 f3 f4 r s) (chunk_apply c M1 M2 M3 M4 f1 f2 f3 f4 3 (by decide) 3072 1536 rfl rfl inb_S320x15360_S320x1024_0_3072 inb_S2x16x15360_S2x16x1024_0_0_3072 inb_S7680x1024_S512x1024_1536_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 3072 1024).symm
theorem sum5 : View.canon (kernelRun.sl.H12_5 c M1 M2 M3 M4 M12 f1 f2 f3 f4) (ix2 r s) = ∑ j ∈ Finset.range 5120, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc5]
  refine (canon_step M12 _ _ (ix2 r s) _ _ (sum4 c M1 M2 M3 M4 M12 f1 f2 f3 f4 r s) (chunk_apply c M1 M2 M3 M4 f1 f2 f3 f4 4 (by decide) 4096 2048 rfl rfl inb_S320x15360_S320x1024_0_4096 inb_S2x16x15360_S2x16x1024_0_0_4096 inb_S7680x1024_S512x1024_2048_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 4096 1024).symm
theorem sum6 : View.canon (kernelRun.sl.H12_6 c M1 M2 M3 M4 M12 f1 f2 f3 f4) (ix2 r s) = ∑ j ∈ Finset.range 6144, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc6]
  refine (canon_step M12 _ _ (ix2 r s) _ _ (sum5 c M1 M2 M3 M4 M12 f1 f2 f3 f4 r s) (chunk_apply c M1 M2 M3 M4 f1 f2 f3 f4 5 (by decide) 5120 2560 rfl rfl inb_S320x15360_S320x1024_0_5120 inb_S2x16x15360_S2x16x1024_0_0_5120 inb_S7680x1024_S512x1024_2560_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 5120 1024).symm
theorem sum7 : View.canon (kernelRun.sl.H12_7 c M1 M2 M3 M4 M12 f1 f2 f3 f4) (ix2 r s) = ∑ j ∈ Finset.range 7168, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc7]
  refine (canon_step M12 _ _ (ix2 r s) _ _ (sum6 c M1 M2 M3 M4 M12 f1 f2 f3 f4 r s) (chunk_apply c M1 M2 M3 M4 f1 f2 f3 f4 6 (by decide) 6144 3072 rfl rfl inb_S320x15360_S320x1024_0_6144 inb_S2x16x15360_S2x16x1024_0_0_6144 inb_S7680x1024_S512x1024_3072_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 6144 1024).symm
theorem sum8 : View.canon (kernelRun.sl.H12_8 c M1 M2 M3 M4 M12 f1 f2 f3 f4) (ix2 r s) = ∑ j ∈ Finset.range 8192, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc8]
  refine (canon_step M12 _ _ (ix2 r s) _ _ (sum7 c M1 M2 M3 M4 M12 f1 f2 f3 f4 r s) (chunk_apply c M1 M2 M3 M4 f1 f2 f3 f4 7 (by decide) 7168 3584 rfl rfl inb_S320x15360_S320x1024_0_7168 inb_S2x16x15360_S2x16x1024_0_0_7168 inb_S7680x1024_S512x1024_3584_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 7168 1024).symm
theorem sum9 : View.canon (kernelRun.sl.H12_9 c M1 M2 M3 M4 M12 f1 f2 f3 f4) (ix2 r s) = ∑ j ∈ Finset.range 9216, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc9]
  refine (canon_step M12 _ _ (ix2 r s) _ _ (sum8 c M1 M2 M3 M4 M12 f1 f2 f3 f4 r s) (chunk_apply c M1 M2 M3 M4 f1 f2 f3 f4 8 (by decide) 8192 4096 rfl rfl inb_S320x15360_S320x1024_0_8192 inb_S2x16x15360_S2x16x1024_0_0_8192 inb_S7680x1024_S512x1024_4096_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 8192 1024).symm
theorem sum10 : View.canon (kernelRun.sl.H12_10 c M1 M2 M3 M4 M12 f1 f2 f3 f4) (ix2 r s) = ∑ j ∈ Finset.range 10240, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc10]
  refine (canon_step M12 _ _ (ix2 r s) _ _ (sum9 c M1 M2 M3 M4 M12 f1 f2 f3 f4 r s) (chunk_apply c M1 M2 M3 M4 f1 f2 f3 f4 9 (by decide) 9216 4608 rfl rfl inb_S320x15360_S320x1024_0_9216 inb_S2x16x15360_S2x16x1024_0_0_9216 inb_S7680x1024_S512x1024_4608_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 9216 1024).symm
theorem sum11 : View.canon (kernelRun.sl.H12_11 c M1 M2 M3 M4 M12 f1 f2 f3 f4) (ix2 r s) = ∑ j ∈ Finset.range 11264, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc11]
  refine (canon_step M12 _ _ (ix2 r s) _ _ (sum10 c M1 M2 M3 M4 M12 f1 f2 f3 f4 r s) (chunk_apply c M1 M2 M3 M4 f1 f2 f3 f4 10 (by decide) 10240 5120 rfl rfl inb_S320x15360_S320x1024_0_10240 inb_S2x16x15360_S2x16x1024_0_0_10240 inb_S7680x1024_S512x1024_5120_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 10240 1024).symm
theorem sum12 : View.canon (kernelRun.sl.H12_12 c M1 M2 M3 M4 M12 f1 f2 f3 f4) (ix2 r s) = ∑ j ∈ Finset.range 12288, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc12]
  refine (canon_step M12 _ _ (ix2 r s) _ _ (sum11 c M1 M2 M3 M4 M12 f1 f2 f3 f4 r s) (chunk_apply c M1 M2 M3 M4 f1 f2 f3 f4 11 (by decide) 11264 5632 rfl rfl inb_S320x15360_S320x1024_0_11264 inb_S2x16x15360_S2x16x1024_0_0_11264 inb_S7680x1024_S512x1024_5632_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 11264 1024).symm
theorem sum13 : View.canon (kernelRun.sl.H12_13 c M1 M2 M3 M4 M12 f1 f2 f3 f4) (ix2 r s) = ∑ j ∈ Finset.range 13312, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc13]
  refine (canon_step M12 _ _ (ix2 r s) _ _ (sum12 c M1 M2 M3 M4 M12 f1 f2 f3 f4 r s) (chunk_apply c M1 M2 M3 M4 f1 f2 f3 f4 12 (by decide) 12288 6144 rfl rfl inb_S320x15360_S320x1024_0_12288 inb_S2x16x15360_S2x16x1024_0_0_12288 inb_S7680x1024_S512x1024_6144_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 12288 1024).symm
theorem sum14 : View.canon (kernelRun.sl.H12_14 c M1 M2 M3 M4 M12 f1 f2 f3 f4) (ix2 r s) = ∑ j ∈ Finset.range 14336, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc14]
  refine (canon_step M12 _ _ (ix2 r s) _ _ (sum13 c M1 M2 M3 M4 M12 f1 f2 f3 f4 r s) (chunk_apply c M1 M2 M3 M4 f1 f2 f3 f4 13 (by decide) 13312 6656 rfl rfl inb_S320x15360_S320x1024_0_13312 inb_S2x16x15360_S2x16x1024_0_0_13312 inb_S7680x1024_S512x1024_6656_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 13312 1024).symm
theorem sum15 : View.canon (kernelRun.sl.H12_15 c M1 M2 M3 M4 M12 f1 f2 f3 f4) (ix2 r s) = ∑ j ∈ Finset.range 15360, (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) j := by
  rw [acc15]
  refine (canon_step M12 _ _ (ix2 r s) _ _ (sum14 c M1 M2 M3 M4 M12 f1 f2 f3 f4 r s) (chunk_apply c M1 M2 M3 M4 f1 f2 f3 f4 14 (by decide) 14336 7168 rfl rfl inb_S320x15360_S320x1024_0_14336 inb_S2x16x15360_S2x16x1024_0_0_14336 inb_S7680x1024_S512x1024_7168_0 r s)).trans ?_
  exact (Finset.sum_range_add (termAt (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) r s) 14336 1024).symm

/-- The accumulator after its fifteen chunks, at an index: the sum over all positions. -/
theorem acc_apply : View.canon (kernelRun.sl.H12_15 c M1 M2 M3 M4 M12 f1 f2 f3 f4) (ix2 r s)
    = ∑ k : Fin 15360, weightAt (M2.view.read (Elt Idealize.ShloMosaic.Ideal) f2) (M3.view.read (Elt Idealize.ShloMosaic.Ideal) f3) (M4.view.read (Elt Idealize.ShloMosaic.Ideal) f4) r k * actAt (M1.view.read (Elt Idealize.ShloMosaic.Ideal) f1) k s := by
  rw [sum15, Finset.sum_range]
  refine Finset.sum_congr rfl fun k _ => ?_
  unfold termAt
  rw [dif_pos k.isLt]

end Sum

end Cert.KernelIdeal.Hand

end
-- ==== Proof.Pieces.lean ====
/-
  What the body writes into the code and scale blocks, in one form: every piece is the same quantiser applied to a
  16 by 256 slice of the scaled queries or keys.
-/
module

public import proofs.«01_k».proof.Proof.Left

@[expose] public section

noncomputable section

namespace Cert.KernelIdeal.Hand

open Cert.KernelIdeal Cert.KernelIdeal.Gen
open Idealize.ShloMosaic Idealize.ShloMosaic.TcCoe

variable {F : FTy → Type} [FloatOps F]

/-- The quantiser's codes and scale of sixteen rows, as the body computes them. -/
def quantCodes (v : Vec F S16x256 .f32) : FVec F S16x256 .fp8e4m3 :=
  k0_pay19 v (k0_pay14 v) (k0_pay15 v) (k0_pay16 v) (k0_pay17 v)
def quantScale (v : Vec F S16x256 .f32) : FVec F S1x256 .f32 :=
  k0_pay20 (k0_pay14 v) (k0_pay15 v) (k0_pay16 v) (k0_pay17 v)

/-- The scratch as the quantisers read it: the launch's first point clears it. -/
def start13 (c : Dev nD) (i : grid0.Coords) (M13 : Memref sig .tc .vmem S64x1024 .f32) (f13 : Bf (F := F) c M13) : Bf (F := F) c M13 :=
  if hc : kernelRun.sl.v24 i = 1#1 then
    M13.view.writes (Elt F) f13 [⟨Rect.unit ![0, 0] S64x1024.size inb_S64x1024_S64x1024_0_0, k0_pay2⟩]
  else f13

/-- The pieces of the query codes' block. -/
theorem codes7 (c : Dev nD) (i : grid0.Coords) (M13 : Memref sig .tc .vmem S64x1024 .f32) (f13 : Bf (F := F) c M13) :
    kernelRun.sl.H7_8 c i M13 f13 = [⟨Rect.unit ![3, 1, 0, 0] S1x1x16x256.size inb_S4x2x16x256_S1x1x16x256_3_1_0_0, k0_pay21 (quantCodes (View.readAt (Elt F) M13.view (Rect.unit (s := S64x1024) ![16, 768] S16x256.size inb_S64x1024_S16x256_16_768).toLoadRect (start13 c i M13 f13)))⟩,
    ⟨Rect.unit ![3, 0, 0, 0] S1x1x16x256.size inb_S4x2x16x256_S1x1x16x256_3_0_0_0, k0_pay21 (quantCodes (View.readAt (Elt F) M13.view (Rect.unit (s := S64x1024) ![0, 768] S16x256.size inb_S64x1024_S16x256_0_768).toLoadRect (start13 c i M13 f13)))⟩,
    ⟨Rect.unit ![2, 1, 0, 0] S1x1x16x256.size inb_S4x2x16x256_S1x1x16x256_2_1_0_0, k0_pay21 (quantCodes (View.readAt (Elt F) M13.view (Rect.unit (s := S64x1024) ![16, 512] S16x256.size inb_S64x1024_S16x256_16_512).toLoadRect (start13 c i M13 f13)))⟩,
    ⟨Rect.unit ![2, 0, 0, 0] S1x1x16x256.size inb_S4x2x16x256_S1x1x16x256_2_0_0_0, k0_pay21 (quantCodes (View.readAt (Elt F) M13.view (Rect.unit (s := S64x1024) ![0, 512] S16x256.size inb_S64x1024_S16x256_0_512).toLoadRect (start13 c i M13 f13)))⟩,
    ⟨Rect.unit ![1, 1, 0, 0] S1x1x16x256.size inb_S4x2x16x256_S1x1x16x256_1_1_0_0, k0_pay21 (quantCodes (View.readAt (Elt F) M13.view (Rect.unit (s := S64x1024) ![16, 256] S16x256.size inb_S64x1024_S16x256_16_256).toLoadRect (start13 c i M13 f13)))⟩,
    ⟨Rect.unit ![1, 0, 0, 0] S1x1x16x256.size inb_S4x2x16x256_S1x1x16x256_1_0_0_0, k0_pay21 (quantCodes (View.readAt (Elt F) M13.view (Rect.unit (s := S64x1024) ![0, 256] S16x256.size inb_S64x1024_S16x256_0_256).toLoadRect (start13 c i M13 f13)))⟩,
    ⟨Rect.unit ![0, 1, 0, 0] S1x1x16x256.size inb_S4x2x16x256_S1x1x16x256_0_1_0_0, k0_pay21 (quantCodes (View.readAt (Elt F) M13.view (Rect.unit (s := S64x1024) ![16, 0] S16x256.size inb_S64x1024_S16x256_16_0).toLoadRect (start13 c i M13 f13)))⟩,
    ⟨Rect.unit ![0, 0, 0, 0] S1x1x16x256.size inb_S4x2x16x256_S1x1x16x256_0_0_0_0, k0_pay21 (quantCodes (View.readAt (Elt F) M13.view (Rect.unit (s := S64x1024) ![0, 0] S16x256.size inb_S64x1024_S16x256_0_0).toLoadRect (start13 c i M13 f13)))⟩] := by
  rfl

/-- The pieces of the key codes' block. -/
theorem codes9 (c : Dev nD) (i : grid0.Coords) (M13 : Memref sig .tc .vmem S64x1024 .f32) (f13 : Bf (F := F) c M13) :
    kernelRun.sl.H9_8 c i M13 f13 = [⟨Rect.unit ![3, 1, 0, 0] S1x1x16x256.size inb_S4x2x16x256_S1x1x16x256_3_1_0_0, k0_pay21 (quantCodes (View.readAt (Elt F) M13.view (Rect.unit (s := S64x1024) ![48, 768] S16x256.size inb_S64x1024_S16x256_48_768).toLoadRect (start13 c i M13 f13)))⟩,
    ⟨Rect.unit ![3, 0, 0, 0] S1x1x16x256.size inb_S4x2x16x256_S1x1x16x256_3_0_0_0, k0_pay21 (quantCodes (View.readAt (Elt F) M13.view (Rect.unit (s := S64x1024) ![32, 768] S16x256.size inb_S64x1024_S16x256_32_768).toLoadRect (start13 c i M13 f13)))⟩,
    ⟨Rect.unit ![2, 1, 0, 0] S1x1x16x256.size inb_S4x2x16x256_S1x1x16x256_2_1_0_0, k0_pay21 (quantCodes (View.readAt (Elt F) M13.view (Rect.unit (s := S64x1024) ![48, 512] S16x256.size inb_S64x1024_S16x256_48_512).toLoadRect (start13 c i M13 f13)))⟩,
    ⟨Rect.unit ![2, 0, 0, 0] S1x1x16x256.size inb_S4x2x16x256_S1x1x16x256_2_0_0_0, k0_pay21 (quantCodes (View.readAt (Elt F) M13.view (Rect.unit (s := S64x1024) ![32, 512] S16x256.size inb_S64x1024_S16x256_32_512).toLoadRect (start13 c i M13 f13)))⟩,
    ⟨Rect.unit ![1, 1, 0, 0] S1x1x16x256.size inb_S4x2x16x256_S1x1x16x256_1_1_0_0, k0_pay21 (quantCodes (View.readAt (Elt F) M13.view (Rect.unit (s := S64x1024) ![48, 256] S16x256.size inb_S64x1024_S16x256_48_256).toLoadRect (start13 c i M13 f13)))⟩,
    ⟨Rect.unit ![1, 0, 0, 0] S1x1x16x256.size inb_S4x2x16x256_S1x1x16x256_1_0_0_0, k0_pay21 (quantCodes (View.readAt (Elt F) M13.view (Rect.unit (s := S64x1024) ![32, 256] S16x256.size inb_S64x1024_S16x256_32_256).toLoadRect (start13 c i M13 f13)))⟩,
    ⟨Rect.unit ![0, 1, 0, 0] S1x1x16x256.size inb_S4x2x16x256_S1x1x16x256_0_1_0_0, k0_pay21 (quantCodes (View.readAt (Elt F) M13.view (Rect.unit (s := S64x1024) ![48, 0] S16x256.size inb_S64x1024_S16x256_48_0).toLoadRect (start13 c i M13 f13)))⟩,
    ⟨Rect.unit ![0, 0, 0, 0] S1x1x16x256.size inb_S4x2x16x256_S1x1x16x256_0_0_0_0, k0_pay21 (quantCodes (View.readAt (Elt F) M13.view (Rect.unit (s := S64x1024) ![32, 0] S16x256.size inb_S64x1024_S16x256_32_0).toLoadRect (start13 c i M13 f13)))⟩] := by
  rfl

/-- The pieces of the query scales' block. -/
theorem scales8 (c : Dev nD) (i : grid0.Coords) (M13 : Memref sig .tc .vmem S64x1024 .f32) (f13 : Bf (F := F) c M13) : ∃ e1 e2 e3 e4 e5 e6 e7 e8,
    kernelRun.sl.H8_8 c i M13 f13 = [⟨Rect.unit (k0_off10 i 1#32) S1x1x256.size e1, k0_pay23 (quantScale (View.readAt (Elt F) M13.view (Rect.unit (s := S64x1024) ![16, 768] S16x256.size inb_S64x1024_S16x256_16_768).toLoadRect (start13 c i M13 f13)))⟩,
    ⟨Rect.unit (k0_off10 i 0#32) S1x1x256.size e2, k0_pay23 (quantScale (View.readAt (Elt F) M13.view (Rect.unit (s := S64x1024) ![0, 768] S16x256.size inb_S64x1024_S16x256_0_768).toLoadRect (start13 c i M13 f13)))⟩,
    ⟨Rect.unit (k0_off7 i 1#32) S1x1x256.size e3, k0_pay23 (quantScale (View.readAt (Elt F) M13.view (Rect.unit (s := S64x1024) ![16, 512] S16x256.size inb_S64x1024_S16x256_16_512).toLoadRect (start13 c i M13 f13)))⟩,
    ⟨Rect.unit (k0_off7 i 0#32) S1x1x256.size e4, k0_pay23 (quantScale (View.readAt (Elt F) M13.view (Rect.unit (s := S64x1024) ![0, 512] S16x256.size inb_S64x1024_S16x256_0_512).toLoadRect (start13 c i M13 f13)))⟩,
    ⟨Rect.unit (k0_off4 i 1#32) S1x1x256.size e5, k0_pay23 (quantScale (View.readAt (Elt F) M13.view (Rect.unit (s := S64x1024) ![16, 256] S16x256.size inb_S64x1024_S16x256_16_256).toLoadRect (start13 c i M13 f13)))⟩,
    ⟨Rect.unit (k0_off4 i 0#32) S1x1x256.size e6, k0_pay23 (quantScale (View.readAt (Elt F) M13.view (Rect.unit (s := S64x1024) ![0, 256] S16x256.size inb_S64x1024_S16x256_0_256).toLoadRect (start13 c i M13 f13)))⟩,
    ⟨Rect.unit (k0_off1 i 1#32) S1x1x256.size e7, k0_pay23 (quantScale (View.readAt (Elt F) M13.view (Rect.unit (s := S64x1024) ![16, 0] S16x256.size inb_S64x1024_S16x256_16_0).toLoadRect (start13 c i M13 f13)))⟩,
    ⟨Rect.unit (k0_off1 i 0#32) S1x1x256.size e8, k0_pay23 (quantScale (View.readAt (Elt F) M13.view (Rect.unit (s := S64x1024) ![0, 0] S16x256.size inb_S64x1024_S16x256_0_0).toLoadRect (start13 c i M13 f13)))⟩] := by
  exact ⟨_, _, _, _, _, _, _, _, rfl⟩

/-- The pieces of the key scales' block. -/
theorem scales10 (c : Dev nD) (i : grid0.Coords) (M13 : Memref sig .tc .vmem S64x1024 .f32) (f13 : Bf (F := F) c M13) : ∃ e1 e2 e3 e4 e5 e6 e7 e8,
    kernelRun.sl.H10_8 c i M13 f13 = [⟨Rect.unit (k0_off10 i 1#32) S1x1x256.size e1, k0_pay23 (quantScale (View.readAt (Elt F) M13.view (Rect.unit (s := S64x1024) ![48, 768] S16x256.size inb_S64x1024_S16x256_48_768).toLoadRect (start13 c i M13 f13)))⟩,
    ⟨Rect.unit (k0_off10 i 0#32) S1x1x256.size e2, k0_pay23 (quantScale (View.readAt (Elt F) M13.view (Rect.unit (s := S64x1024) ![32, 768] S16x256.size inb_S64x1024_S16x256_32_768).toLoadRect (start13 c i M13 f13)))⟩,
    ⟨Rect.unit (k0_off7 i 1#32) S1x1x256.size e3, k0_pay23 (quantScale (View.readAt (Elt F) M13.view (Rect.unit (s := S64x1024) ![48, 512] S16x256.size inb_S64x1024_S16x256_48_512).toLoadRect (start13 c i M13 f13)))⟩,
    ⟨Rect.unit (k0_off7 i 0#32) S1x1x256.size e4, k0_pay23 (quantScale (View.readAt (Elt F) M13.view (Rect.unit (s := S64x1024) ![32, 512] S16x256.size inb_S64x1024_S16x256_32_512).toLoadRect (start13 c i M13 f13)))⟩,
    ⟨Rect.unit (k0_off4 i 1#32) S1x1x256.size e5, k0_pay23 (quantScale (View.readAt (Elt F) M13.view (Rect.unit (s := S64x1024) ![48, 256] S16x256.size inb_S64x1024_S16x256_48_256).toLoadRect (start13 c i M13 f13)))⟩,
    ⟨Rect.unit (k0_off4 i 0#32) S1x1x256.size e6, k0_pay23 (quantScale (View.readAt (Elt F) M13.view (Rect.unit (s := S64x1024) ![32, 256] S16x256.size inb_S64x1024_S16x256_32_256).toLoadRect (start13 c i M13 f13)))⟩,
    ⟨Rect.unit (k0_off1 i 1#32) S1x1x256.size e7, k0_pay23 (quantScale (View.readAt (Elt F) M13.view (Rect.unit (s := S64x1024) ![48, 0] S16x256.size inb_S64x1024_S16x256_48_0).toLoadRect (start13 c i M13 f13)))⟩,
    ⟨Rect.unit (k0_off1 i 0#32) S1x1x256.size e8, k0_pay23 (quantScale (View.readAt (Elt F) M13.view (Rect.unit (s := S64x1024) ![32, 0] S16x256.size inb_S64x1024_S16x256_32_0).toLoadRect (start13 c i M13 f13)))⟩] := by
  exact ⟨_, _, _, _, _, _, _, _, rfl⟩

end Cert.KernelIdeal.Hand

end
-- ==== Proof.Scalar.lean ====
/-
  The quantiser's scale, number by number. The kernel finds the scale's exponent by comparing against powers of two
  given by their bit patterns, eight comparisons, and builds the scale and its reciprocal from bit patterns; the
  reference takes the floor of a base-two logarithm and `exp2`. On the extended reals the two are equal.
-/
module

public import Idealize.ShloMosaic.PureOps.Ideal
public import Idealize.ShloMosaic.Lib.IdealHost
public import Idealize.ShloMosaic.PureOps.Ideal.Laws

@[expose] public section

noncomputable section

namespace Cert.Quantiser

open Idealize.ShloMosaic

/-- The float whose exponent field is `f`, its other bits zero. -/
abbrev fieldFloat (f : BitVec 32) : Ideal .f32 := FloatOps.ofBits (F := Ideal) .f32 (f <<< (23#32 : BitVec 32))

/-- One comparison of the search: keep `f`, or add `w` to it where the float with that field is at most `m`. -/
def tryBit (m : Ideal .f32) (f w : BitVec 32) : BitVec 32 :=
  Scalar.select (FloatOps.cmpf (F := Ideal) .olt m (fieldFloat (f + w))) f (f + w)

/-- The search: the largest field whose float is at most `m`, zero if none is. -/
def search (m : Ideal .f32) : BitVec 32 :=
  tryBit m (tryBit m (tryBit m (tryBit m (tryBit m (tryBit m (tryBit m (tryBit m 0#32 128#32) 64#32) 32#32) 16#32) 8#32) 4#32) 2#32) 1#32

/-- The kernel's exponent: the field found, at most 246, less 126; zero where no field was found. -/
def kernelExp (m : Ideal .f32) : BitVec 32 :=
  Scalar.select (Scalar.cmpi .eq (Scalar.minsi (search m) 246#32) 0#32) 0#32 (Scalar.minsi (search m) 246#32 - 126#32)

/-- The kernel's scale and its reciprocal. -/
def kernelUp (m : Ideal .f32) : Ideal .f32 := fieldFloat (kernelExp m + 127#32)
def kernelDown (m : Ideal .f32) : Ideal .f32 := fieldFloat (0#32 - kernelExp m + 127#32)

/-- The reference's exponent. -/
def plainExp (m : Ideal .f32) : Ideal .f32 :=
  Scalar.select (FloatOps.cmpf (F := Ideal) .olt m (FloatOps.ofBits (F := Ideal) .f32 0x00800000#32))
    (FloatOps.ofBits (F := Ideal) .f32 0x00000000#32)
    (FloatOps.minimumf (F := Ideal) (FloatOps.addf (FloatOps.floor (FloatOps.divf (FloatOps.log m) (FloatOps.log (FloatOps.ofBits (F := Ideal) .f32 0x40000000#32))))
      (FloatOps.ofBits (F := Ideal) .f32 0x3F800000#32)) (FloatOps.ofBits (F := Ideal) .f32 0x42F00000#32))

theorem ofBits_ieee (b : BitVec 32) : FloatOps.ofBits (F := Ideal) .f32 b = Ideal.ieee 8 23 b := rfl

/-- The float of field `n`, for `n` in 1 to 254, is the power of two `n - 127`. -/
theorem fieldFloat_ofNat (n : ℕ) (h1 : 1 ≤ n) (h2 : n ≤ 254) :
    fieldFloat (BitVec.ofNat 32 n) = (((2 : ℝ) ^ ((n : ℤ) - 127) : ℝ) : EReal) := by
  have key : ∀ n : Fin 255, ((BitVec.ofNat 32 n.val <<< (23#32 : BitVec 32)).extractLsb' 31 1 == 1#1) = false
      ∧ ((BitVec.ofNat 32 n.val <<< (23#32 : BitVec 32)).extractLsb' 23 8).toNat = n.val
      ∧ ((BitVec.ofNat 32 n.val <<< (23#32 : BitVec 32)).extractLsb' 0 23).toNat = 0 := by decide +kernel
  obtain ⟨a, b, c⟩ := key ⟨n, by omega⟩
  unfold fieldFloat
  rw [ofBits_ieee]
  unfold Ideal.ieee
  simp only [a, b, c, Nat.reduceAdd]
  rw [if_neg (by norm_num; omega), if_neg (by omega)]
  refine congrArg Real.toEReal ?_
  norm_num
  rw [show (8388608:ℝ) = (2:ℝ)^(23:ℤ) by norm_num]
  rw [← zpow_add₀ (by norm_num : (2:ℝ) ≠ 0)]
  exact congrArg (fun z : ℤ => (2 : ℝ) ^ z) (by ring)

theorem fieldFloat_255 : fieldFloat (BitVec.ofNat 32 255) = (⊤ : EReal) := by
  have a : ((BitVec.ofNat 32 255 <<< (23#32 : BitVec 32)).extractLsb' 31 1 == 1#1) = false := by decide +kernel
  have b : ((BitVec.ofNat 32 255 <<< (23#32 : BitVec 32)).extractLsb' 23 8).toNat = 255 := by decide +kernel
  have c : ((BitVec.ofNat 32 255 <<< (23#32 : BitVec 32)).extractLsb' 0 23).toNat = 0 := by decide +kernel
  unfold fieldFloat
  rw [ofBits_ieee]
  unfold Ideal.ieee
  simp only [a, b, c, Nat.reduceAdd]
  norm_num

/-- One comparison, where the comparisons are against a number `N`. -/
theorem tryBit_eq (m : Ideal .f32) (N : ℕ)
    (hN : ∀ n, 1 ≤ n → n ≤ 255 → (FloatOps.cmpf (F := Ideal) .olt m (fieldFloat (BitVec.ofNat 32 n)) = if N < n then 1#1 else 0#1))
    (f w g : ℕ) (hw : 1 ≤ w) (hf : f + w ≤ 255) (hg : (if N < f + w then f else f + w) = g) :
    tryBit m (BitVec.ofNat 32 f) (BitVec.ofNat 32 w) = BitVec.ofNat 32 g := by
  unfold tryBit
  rw [← BitVec.ofNat_add, hN _ (by omega) hf]
  split at hg <;> rename_i h
  · subst hg; simp [h, Scalar.select]
  · subst hg; simp [h, Scalar.select]

theorem search_eq (m : Ideal .f32) (N : ℕ) (hb : N ≤ 255)
    (hN : ∀ n, 1 ≤ n → n ≤ 255 → (FloatOps.cmpf (F := Ideal) .olt m (fieldFloat (BitVec.ofNat 32 n)) = if N < n then 1#1 else 0#1)) :
    search m = BitVec.ofNat 32 N := by
  have s (f w g : ℕ) (hw : 1 ≤ w) (hf : f + w ≤ 255) (hg : (if N < f + w then f else f + w) = g) := tryBit_eq m N hN f w g hw hf hg
  unfold search
  rw [show (0#32 : BitVec 32) = BitVec.ofNat 32 0 from rfl, s 0 128 (N / 128 * 128) (by omega) (by omega) (by split <;> omega),
    s (N / 128 * 128) 64 (N / 64 * 64) (by omega) (by omega) (by split <;> omega),
    s (N / 64 * 64) 32 (N / 32 * 32) (by omega) (by omega) (by split <;> omega),
    s (N / 32 * 32) 16 (N / 16 * 16) (by omega) (by omega) (by split <;> omega),
    s (N / 16 * 16) 8 (N / 8 * 8) (by omega) (by omega) (by split <;> omega),
    s (N / 8 * 8) 4 (N / 4 * 4) (by omega) (by omega) (by split <;> omega),
    s (N / 4 * 4) 2 (N / 2 * 2) (by omega) (by omega) (by split <;> omega),
    s (N / 2 * 2) 1 N (by omega) (by omega) (by split <;> omega)]

/-- The exponent from the field found. -/
theorem kernel_of_field (m : Ideal .f32) (N : ℕ) (hb : N ≤ 255) (hs : search m = BitVec.ofNat 32 N) :
    kernelExp m + 127#32 = BitVec.ofNat 32 (if N = 0 then 127 else min N 246 + 1)
      ∧ 0#32 - kernelExp m + 127#32 = BitVec.ofNat 32 (if N = 0 then 127 else 253 - min N 246) := by
  unfold kernelExp
  rw [hs]
  have key : ∀ N : Fin 256,
      Scalar.select (Scalar.cmpi .eq (Scalar.minsi (BitVec.ofNat 32 N.val) 246#32) 0#32) 0#32 (Scalar.minsi (BitVec.ofNat 32 N.val) 246#32 - 126#32) + 127#32
        = BitVec.ofNat 32 (if N.val = 0 then 127 else min N.val 246 + 1)
      ∧ 0#32 - Scalar.select (Scalar.cmpi .eq (Scalar.minsi (BitVec.ofNat 32 N.val) 246#32) 0#32) 0#32 (Scalar.minsi (BitVec.ofNat 32 N.val) 246#32 - 126#32) + 127#32
        = BitVec.ofNat 32 (if N.val = 0 then 127 else 253 - min N.val 246) := by decide +kernel
  exact key ⟨N, by omega⟩

/-- Every extended real lies below the field floats from some field on, and what the reference's exponent is there. -/
theorem field_exists (m : Ideal .f32) : ∃ N : ℕ, N ≤ 255
    ∧ (∀ n, 1 ≤ n → n ≤ 255 → (FloatOps.cmpf (F := Ideal) .olt m (fieldFloat (BitVec.ofNat 32 n)) = if N < n then 1#1 else 0#1))
    ∧ plainExp m = ((if N = 0 then 0 else (min N 246 : ℕ) - 126 : ℝ) : EReal) := by
  have hcmp (n N : ℕ) (h : (m < fieldFloat (BitVec.ofNat 32 n)) ↔ N < n) :
      (FloatOps.cmpf (F := Ideal) .olt m (fieldFloat (BitVec.ofNat 32 n)) = if N < n then 1#1 else 0#1) := by
    rw [Ideal.cmpf_def]
    unfold Ideal.cmp
    by_cases h' : N < n
    · rw [if_pos h', decide_eq_true (h.2 h')]; rfl
    · rw [if_neg h', decide_eq_false (fun c => h' (h.1 c))]; rfl
  have e1 : FloatOps.ofBits (F := Ideal) .f32 0x00800000#32 = fieldFloat (BitVec.ofNat 32 1) := rfl
  have e0 : FloatOps.ofBits (F := Ideal) .f32 0x00000000#32 = ((0 : ℝ) : EReal) := Ideal.ofBits_zero_f32
  have e2 : FloatOps.ofBits (F := Ideal) .f32 0x40000000#32 = (((2 : ℝ) : ℝ) : EReal) := by
    rw [show FloatOps.ofBits (F := Ideal) .f32 0x40000000#32 = fieldFloat (BitVec.ofNat 32 128) from rfl, fieldFloat_ofNat 128 (by omega) (by omega)]
    norm_num
  have e3 : FloatOps.ofBits (F := Ideal) .f32 0x3F800000#32 = (((1 : ℝ) : ℝ) : EReal) := by
    rw [show FloatOps.ofBits (F := Ideal) .f32 0x3F800000#32 = fieldFloat (BitVec.ofNat 32 127) from rfl, fieldFloat_ofNat 127 (by omega) (by omega)]
    norm_num
  have e4 : FloatOps.ofBits (F := Ideal) .f32 0x42F00000#32 = (((120 : ℝ) : ℝ) : EReal) := by
    rw [ofBits_ieee]
    have a : ((0x42F00000#32 : BitVec 32).extractLsb' 31 1 == 1#1) = false := by decide +kernel
    have b : ((0x42F00000#32 : BitVec 32).extractLsb' 23 8).toNat = 133 := by decide +kernel
    have c : ((0x42F00000#32 : BitVec 32).extractLsb' 0 23).toNat = 7340032 := by decide +kernel
    unfold Ideal.ieee
    simp only [a, b, c, Nat.reduceAdd]
    norm_num
  have l2 : FloatOps.log (F := Ideal) (φ := .f32) (((2 : ℝ) : ℝ) : EReal) = ((Real.log 2 : ℝ) : EReal) := by
    show (if (2:ℝ) ≤ 0 then ⊥ else ((Real.log 2 : ℝ) : EReal)) = _
    rw [if_neg (by norm_num)]
  have hl : 0 < Real.log 2 := Real.log_pos (by norm_num)
  unfold plainExp
  rw [e0, e1, e2, e3, e4, l2]
  by_cases h0 : m < fieldFloat (BitVec.ofNat 32 1)
  · refine ⟨0, by omega, fun n h1 h2 => hcmp n 0 ⟨fun _ => h1, fun _ => lt_of_lt_of_le h0 ?_⟩, ?_⟩
    · rcases Nat.lt_or_ge n 255 with h | h
      · rw [fieldFloat_ofNat 1 (by omega) (by omega), fieldFloat_ofNat n h1 (by omega)]
        exact EReal.coe_le_coe_iff.2 (zpow_le_zpow_right₀ (by norm_num) (by omega))
      · rw [show n = 255 by omega, fieldFloat_255]; exact le_top
    · rw [hcmp 1 0 ⟨fun _ => by omega, fun _ => h0⟩]
      simp [Scalar.select]
  · induction m using EReal.rec with
    | bot => exact absurd (by rw [fieldFloat_ofNat 1 (by omega) (by omega)]; exact EReal.bot_lt_coe _) h0
    | top =>
      refine ⟨255, le_refl _, fun n h1 h2 => hcmp n 255 ⟨fun h => absurd h not_top_lt, fun h => by omega⟩, ?_⟩
      rw [hcmp 1 255 ⟨fun h => absurd h not_top_lt, fun h => by omega⟩]
      have hd : FloatOps.divf (F := Ideal) (φ := .f32) (FloatOps.log (F := Ideal) (φ := .f32) (⊤ : EReal)) ((Real.log 2 : ℝ) : EReal) = (⊤ : EReal) := by
        show Ideal.div ⊤ _ = _
        unfold Ideal.div
        rw [if_neg (by exact_mod_cast hl.ne'), ← EReal.coe_inv]
        exact EReal.top_mul_coe_of_pos (inv_pos.2 hl)
      rw [hd]
      show min ((⊤ : EReal) + ((1 : ℝ) : EReal)) ((120 : ℝ) : EReal) = _
      rw [EReal.top_add_coe, min_eq_right le_top]
      norm_num
    | coe r =>
      rw [fieldFloat_ofNat 1 (by omega) (by omega)] at h0
      have hr : (2:ℝ) ^ ((1:ℤ) - 127) ≤ r := by
        have := not_lt.1 h0; exact_mod_cast EReal.coe_le_coe_iff.1 this
      have hr0 : 0 < r := lt_of_lt_of_le (by positivity) hr
      set L : ℤ := ⌊Real.log r / Real.log 2⌋ with hL
      have hpow (k : ℤ) : (2:ℝ) ^ k ≤ r ↔ k ≤ L := by
        rw [hL, Int.le_floor, le_div_iff₀ hl, ← Real.log_zpow]
        exact (Real.log_le_log_iff (by positivity) hr0).symm
      have hL1 : -126 ≤ L := (hpow _).1 (by simpa using hr)
      have hc (n : ℕ) (h1 : 1 ≤ n) (h2 : n ≤ 255) : (((r : ℝ) : EReal) < fieldFloat (BitVec.ofNat 32 n)) ↔ (min (L + 127) 254).toNat < n := by
        rcases Nat.lt_or_ge n 255 with h | h
        · rw [fieldFloat_ofNat n h1 (by omega), EReal.coe_lt_coe_iff, ← not_le, hpow]
          omega
        · rw [show n = 255 by omega, fieldFloat_255]
          exact ⟨fun _ => by omega, fun _ => EReal.coe_lt_top _⟩
      refine ⟨(min (L + 127) 254).toNat, by omega, fun n h1 h2 => hcmp n _ (hc n h1 h2), ?_⟩
      rw [hcmp 1 _ (hc 1 (by omega) (by omega)), if_neg (by omega)]
      have hd : FloatOps.floor (F := Ideal) (φ := .f32) (FloatOps.divf (F := Ideal) (φ := .f32) (FloatOps.log (F := Ideal) (φ := .f32) ((r : ℝ) : EReal)) ((Real.log 2 : ℝ) : EReal)) = ((L : ℝ) : EReal) := by
        show Ideal.liftRound Int.floor (Ideal.div (if r ≤ 0 then ⊥ else ((Real.log r : ℝ) : EReal)) _) = _
        unfold Ideal.div
        rw [if_neg (not_le.2 hr0), if_neg (by exact_mod_cast hl.ne'), ← EReal.coe_inv, ← EReal.coe_mul, ← div_eq_mul_inv]
        rfl
      rw [hd]
      show min (((L : ℝ) : EReal) + ((1 : ℝ) : EReal)) ((120 : ℝ) : EReal) = _
      rw [← EReal.coe_add, ← EReal.coe_strictMono.monotone.map_min, if_neg (by omega)]
      congr 1
      have : (((min (min (L + 127) 254).toNat 246 : ℕ) : ℤ) : ℝ) - 126 = min ((L : ℝ) + 1) 120 := by
        rw [show (((min (min (L + 127) 254).toNat 246 : ℕ) : ℤ)) = min (L + 1) 120 + 126 by omega]
        push_cast
        ring
      rw [← this]
      norm_cast

theorem exp2_coe (r : ℝ) : FloatOps.exp2 (F := Ideal) (φ := .f32) ((r : ℝ) : EReal) = ((Real.rpow 2 r : ℝ) : EReal) := rfl

/-- The kernel's scale is the reference's. -/
theorem kernelUp_eq (m : Ideal .f32) : kernelUp m = FloatOps.exp2 (F := Ideal) (plainExp m) := by
  obtain ⟨N, hb, hN, he⟩ := field_exists m
  unfold kernelUp
  rw [(kernel_of_field m N hb (search_eq m N hb hN)).1, he, exp2_coe, fieldFloat_ofNat _ (by split <;> omega) (by split <;> omega)]
  congr 1
  show _ = (2:ℝ) ^ (_ : ℝ)
  split
  · norm_num
  · rw [← Real.rpow_intCast]
    congr 1
    push_cast
    ring

/-- The kernel's reciprocal scale is the reference's. -/
theorem kernelDown_eq (m : Ideal .f32) :
    kernelDown m = FloatOps.exp2 (F := Ideal) (FloatOps.subf (FloatOps.ofBits (F := Ideal) .f32 0x00000000#32) (plainExp m)) := by
  obtain ⟨N, hb, hN, he⟩ := field_exists m
  unfold kernelDown
  have e0 : FloatOps.ofBits (F := Ideal) .f32 0x00000000#32 = ((0 : ℝ) : EReal) := Ideal.ofBits_zero_f32
  rw [(kernel_of_field m N hb (search_eq m N hb hN)).2, he, e0]
  rw [show FloatOps.subf (F := Ideal) (φ := .f32) ((0 : ℝ) : EReal) ((if N = 0 then 0 else (min N 246 : ℕ) - 126 : ℝ) : EReal)
    = ((0 - (if N = 0 then 0 else (min N 246 : ℕ) - 126 : ℝ) : ℝ) : EReal) from (EReal.coe_sub _ _).symm]
  rw [exp2_coe, fieldFloat_ofNat _ (by split <;> omega) (by split <;> omega)]
  congr 1
  show _ = (2:ℝ) ^ (_ : ℝ)
  split
  · norm_num
  · rw [← Real.rpow_intCast]
    congr 1
    have h : ((253 - min N 246 : ℕ) : ℤ) = 253 - (min N 246 : ℕ) := by omega
    rw [h]
    push_cast
    ring

end Cert.Quantiser

end
-- ==== Proof.Quant.lean ====
/-
  The quantiser at one number: on the extended reals the body's codes and scales of sixteen rows are the reference's.
-/
module

public import proofs.«01_k».proof.Proof.Pieces
public import proofs.«01_k».proof.Proof.Scalar
public import Idealize.ShloMosaic.Lib.Pointwise
public import Idealize.ShloMosaic.Lib.Pointwise.Tactic

@[expose] public section

noncomputable section

namespace Cert.Quantiser

open Cert.KernelIdeal Cert.KernelIdeal.Gen Cert.KernelIdeal.Hand
open Idealize.ShloMosaic

/-- The quantity a column's scale is found from: its greatest absolute value times one over 448, rounded. -/
def rowMax (f : Fin 16 → Ideal .f32) : Ideal .f32 :=
  FloatOps.mulf ((Finset.univ : Finset (Fin 16)).fold max (FloatOps.ofBits (F := Ideal) .f32 0xFF800000#32) (fun k => FloatOps.absf (f k)))
    (FloatOps.ofBits (F := Ideal) .f32 0x3B124925#32)

/-- The code of `x`, and the scale, of a column with `m`. -/
def codeOf (m x : Ideal .f32) : Ideal .fp8e4m3 :=
  FloatOps.truncf .fp8e4m3 bitsLt_fp8e4m3_f32 (FloatOps.minimumf (FloatOps.ofBits (F := Ideal) .f32 0x43E00000#32)
    (FloatOps.maximumf (FloatOps.ofBits (F := Ideal) .f32 0xC3E00000#32)
      (FloatOps.mulf x (FloatOps.exp2 (FloatOps.subf (FloatOps.ofBits (F := Ideal) .f32 0x00000000#32) (plainExp m))))))
def scaleOf (m : Ideal .f32) : Ideal .f32 := FloatOps.exp2 (plainExp m)

theorem pay14_apply (v : Vec Ideal S16x256 .f32) (s : Fin 256) :
    k0_pay14 v (ix2 (0 : Fin 1) s) = rowMax fun k => v (ix2 k s) := by
  unfold k0_pay14 rowMax
  dsimp only
  rw [mulf_apply]
  refine congrArg₂ FloatOps.mulf ?_ rfl
  refine (shapeCast_apply _ _ (ix2 (0 : Fin 1) s) (ix1 s) (by simp [Shape.rowMajor_val_two, Shape.rowMajor_val_one])).trans ?_
  refine (Ideal.multiReduction_maximumf_single _ _ _ _ _ _).trans ?_
  refine congrArg (Finset.fold max _ · _) ?_
  funext k
  refine congrArg (fun i : S16x256.Idx => (FloatOps.absf (F := Ideal) (φ := .f32) (v i))) ?_
  funext a
  apply Fin.ext
  match a with
  | ⟨0, _⟩ => rfl
  | ⟨1, _⟩ => rfl

theorem quantScale_apply (v : Vec Ideal S16x256 .f32) (s : Fin 256) :
    quantScale v (ix2 (0 : Fin 1) s) = scaleOf (rowMax fun k => v (ix2 k s)) := by
  rw [← pay14_apply]
  exact (kernelUp_eq (k0_pay14 v (ix2 (0 : Fin 1) s)))

theorem quantCodes_apply (v : Vec Ideal S16x256 .f32) (r : Fin 16) (s : Fin 256) :
    quantCodes v (ix2 r s) = codeOf (rowMax fun k => v (ix2 k s)) (v (ix2 r s)) := by
  rw [← pay14_apply]
  unfold codeOf
  rw [← kernelDown_eq]
  rfl

end Cert.Quantiser

end
-- ==== Proof.RefVal.lean ====
/-
  What the reference computes, at an index: its products, its scaled rows, and the codes and scales of its quantiser.
-/
module

public import proofs.«01_k».proof.Proof.RefRead
public import proofs.«01_k».proof.Proof.Proj
public import proofs.«01_k».proof.Proof.Quant
public import Idealize.ShloMosaic.Lib.WritesUnit

@[expose] public section

noncomputable section

namespace Cert.ReferenceIdeal.Read

open Cert.ReferenceIdeal Cert.ReferenceIdeal.Gen
open Cert.KernelIdeal.Hand (actAt bitcast_half)
open Cert.Quantiser (plainExp rowMax codeOf scaleOf)
open Idealize.ShloMosaic Idealize.ShloMosaic.TcCoe
open scoped BigOperators

/-- The activations. -/
theorem act_apply (X : Vec Idealize.ShloMosaic.Ideal S7680x1024 .i32) (k : Fin 15360) (s : Fin 1024) : k0_pay7 X (ix2 k s) = actAt X k s := by
  unfold k0_pay7 actAt
  try dsimp only
  refine congrArg (FloatOps.ofBits (F := Idealize.ShloMosaic.Ideal) .bf16) ?_
  exact bitcast_half (M := 7680) (K := 15360) (N := 1024) rfl X bitcasts_S7680x1024_w32_S15360x1024_w16 k s

/-- A column of scales, one of `L` lanes of each of `B` blocks to a row, spread over the columns. -/
theorem lanes_apply {B L R N : Nat} (hL : R = B * L) (v : (⟨3, ![B, 1, L]⟩ : Shape).Idx → EReal)
    (h1 : (⟨3, ![B, 1, L]⟩ : Shape).ShapeCasts (⟨2, ![B, L]⟩ : Shape)) (h2 : (⟨2, ![B, L]⟩ : Shape).ShapeCasts (⟨2, ![R, 1]⟩ : Shape))
    (h3 : (⟨2, ![R, 1]⟩ : Shape).Broadcasts (⟨2, ![R, N]⟩ : Shape)) (b : Fin B) (l : Fin L) (r : Fin R) (s : Fin N) (hr : r.val = b.val * L + l.val) :
    broadcastTo (⟨2, ![R, N]⟩ : Shape) (shapeCast (⟨2, ![R, 1]⟩ : Shape) (shapeCast (⟨2, ![B, L]⟩ : Shape) v h1) h2) h3 (ix2 r s)
      = v (ix3 b (0 : Fin 1) l) := by
  refine (broadcastTo_apply _ _ (ix2 r s) (ix2 r (0 : Fin 1)) (fun a => match a with | ⟨0, _⟩ => (by show r.val = if R = 1 then 0 else r.val; split <;> omega) | ⟨1, _⟩ => rfl)).trans ?_
  refine (shapeCast_apply _ _ (ix2 r (0 : Fin 1)) (ix2 b l) ?_).trans ?_
  · simp only [Shape.rowMajor_val_two]
    show b.val * L + l.val = r.val * 1 + 0
    omega
  · refine shapeCast_apply _ _ (ix2 b l) (ix3 b (0 : Fin 1) l) ?_
    simp only [Shape.rowMajor_val_two, Shape.rowMajor_val_three]
    show (b.val * 1 + 0) * L + l.val = b.val * L + l.val
    rw [Nat.mul_one, Nat.add_zero]

/-- A row of queries or keys against a column of activations. -/
def headSum (w : S96x16x15360.Idx → Idealize.ShloMosaic.Ideal .fp8e4m3) (X : S7680x1024.Idx → BitVec 32) (r : Fin 1536) (s : Fin 1024) : EReal :=
  ∑ k : Fin 15360, w (ix3 (⟨r.val / 16, by omega⟩ : Fin 96) (⟨r.val % 16, by omega⟩ : Fin 16) k) * actAt X k s

/-- The scaled queries. -/
def queryAt (w : S96x16x15360.Idx → Idealize.ShloMosaic.Ideal .fp8e4m3) (X : S7680x1024.Idx → BitVec 32) (a4 : S48x1x512.Idx → Idealize.ShloMosaic.Ideal .f32) (r : Fin 1536) (s : Fin 1024) : EReal :=
  headSum w X r s * a4 (ix3 (⟨r.val / 32, by omega⟩ : Fin 48) (0 : Fin 1) (⟨320 + r.val % 32, by omega⟩ : Fin 512))

/-- The scaled and shifted keys. -/
def keyAt (w : S96x16x15360.Idx → Idealize.ShloMosaic.Ideal .fp8e4m3) (X : S7680x1024.Idx → BitVec 32) (a4 : S48x1x512.Idx → Idealize.ShloMosaic.Ideal .f32) (r : Fin 1536) (s : Fin 1024) : EReal :=
  headSum w X r s * a4 (ix3 (⟨r.val / 32, by omega⟩ : Fin 48) (0 : Fin 1) (⟨352 + r.val % 32, by omega⟩ : Fin 512))
    + a4 (ix3 (⟨r.val / 32, by omega⟩ : Fin 48) (0 : Fin 1) (⟨384 + r.val % 32, by omega⟩ : Fin 512))

/-- The scaled values. -/
def valueAt (w : S15360x15360.Idx → Idealize.ShloMosaic.Ideal .fp8e4m3) (X : S7680x1024.Idx → BitVec 32) (a4 : S48x1x512.Idx → Idealize.ShloMosaic.Ideal .f32) (r : Fin 15360) (s : Fin 1024) : EReal :=
  (∑ k : Fin 15360, w (ix2 r k) * actAt X k s) * a4 (ix3 (⟨r.val / 320, by omega⟩ : Fin 48) (0 : Fin 1) (⟨r.val % 320, by omega⟩ : Fin 512))

/-- A load of some lanes. -/
theorem lane_idx {o L : Nat} (inb : ∀ a : Fin 3, ![0, 0, o] a + (⟨3, ![48, 1, L]⟩ : Shape).size a ≤ S48x1x512.size a) (x : S48x1x512.Idx → Idealize.ShloMosaic.Ideal .f32)
    (b : Fin 48) (l : Fin L) (j : Fin 512) (hj : j.val = o + l.val) :
    View.ld (Val := Elt Idealize.ShloMosaic.Ideal) (e' := .f32) x (Rect.unit (s := S48x1x512) ![0, 0, o] (⟨3, ![48, 1, L]⟩ : Shape).size inb) (ix3 b (0 : Fin 1) l) = x (ix3 b (0 : Fin 1) j) := by
  refine congrArg x (funext fun a => Fin.ext ?_)
  match a with
  | ⟨0, _⟩ => show 0 + 1 * b.val = b.val; omega
  | ⟨1, _⟩ => rfl
  | ⟨2, _⟩ => show o + 1 * l.val = j.val; omega

theorem heads_apply (w : Vec Idealize.ShloMosaic.Ideal S96x16x15360 .fp8e4m3) (X : Vec Idealize.ShloMosaic.Ideal S7680x1024 .i32) (r : Fin 1536) (s : Fin 1024) :
    k0_pay11 X w (ix2 r s) = headSum w X r s := by
  unfold k0_pay11 headSum
  try dsimp only
  refine (Ideal.matmul_plain_apply (M := 1536) (K := 15360) (N := 1024) none _ _ _ r s).trans ?_
  refine (congrArg (· + _) (show constant (F := Idealize.ShloMosaic.Ideal) S1536x1024 .f32 0x00000000#32 (ix2 r s) = (0 : EReal) from Ideal.ofBits_zero .f32)).trans ?_
  rw [zero_add]
  refine Finset.sum_congr rfl fun k _ => ?_
  refine congrArg₂ (fun p z : EReal => p * z) ?_ (act_apply X k s)
  refine shapeCast_apply _ _ (ix2 r k) (ix3 (⟨r.val / 16, by omega⟩ : Fin 96) (⟨r.val % 16, by omega⟩ : Fin 16) k) ?_
  simp only [Shape.rowMajor_val_two, Shape.rowMajor_val_three]
  show (r.val / 16 * 16 + r.val % 16) * 15360 + k.val = r.val * 15360 + k.val
  omega

theorem query_apply (a0 : Vec Idealize.ShloMosaic.Ideal S7680x1024 .i32) (a1 : Vec Idealize.ShloMosaic.Ideal S15360x15360 .fp8e4m3) (a2 a3 : Vec Idealize.ShloMosaic.Ideal S96x16x15360 .fp8e4m3) (a4 : Vec Idealize.ShloMosaic.Ideal S48x1x512 .f32) (r : Fin 1536) (s : Fin 1024) :
    k0_pay34 a0 a1 a2 a3 a4 (ix2 r s) = queryAt a2 a0 a4 r s := by
  unfold k0_pay34 queryAt
  rw [View.ld_unit_zero (S := S7680x1024) (Cert.KernelIdeal.Hand.off0) _ a0, View.ld_unit_zero (S := S96x16x15360) (by funext a; match a with | ⟨0, _⟩ => rfl | ⟨1, _⟩ => rfl | ⟨2, _⟩ => rfl) _ a2]
  unfold k0_pay10
  try dsimp only
  refine congrArg₂ (fun p z : EReal => p * z) (heads_apply a2 a0 r s) ?_
  refine (lanes_apply (B := 48) (L := 32) (R := 1536) (N := 1024) rfl _ _ _ _ (⟨r.val / 32, by omega⟩ : Fin 48) (⟨r.val % 32, by omega⟩ : Fin 32) r s (by show r.val = r.val / 32 * 32 + r.val % 32; omega)).trans ?_
  exact lane_idx (o := 320) (L := 32) _ a4 _ _ _ rfl

theorem key_apply (a0 : Vec Idealize.ShloMosaic.Ideal S7680x1024 .i32) (a1 : Vec Idealize.ShloMosaic.Ideal S15360x15360 .fp8e4m3) (a2 a3 : Vec Idealize.ShloMosaic.Ideal S96x16x15360 .fp8e4m3) (a4 : Vec Idealize.ShloMosaic.Ideal S48x1x512 .f32) (r : Fin 1536) (s : Fin 1024) :
    k0_pay35 a0 a1 a2 a3 a4 (ix2 r s) = keyAt a3 a0 a4 r s := by
  unfold k0_pay35 keyAt
  rw [View.ld_unit_zero (S := S7680x1024) (Cert.KernelIdeal.Hand.off0) _ a0, View.ld_unit_zero (S := S96x16x15360) (by funext a; match a with | ⟨0, _⟩ => rfl | ⟨1, _⟩ => rfl | ⟨2, _⟩ => rfl) _ a3]
  unfold k0_pay13 k0_pay12 k0_pay8
  try dsimp only
  refine congrArg₂ (fun p z : EReal => p + z) (congrArg₂ (fun p z : EReal => p * z) (heads_apply a3 a0 r s) ?_) ?_
  · refine (lanes_apply (B := 48) (L := 32) (R := 1536) (N := 1024) rfl _ _ _ _ (⟨r.val / 32, by omega⟩ : Fin 48) (⟨r.val % 32, by omega⟩ : Fin 32) r s (by show r.val = r.val / 32 * 32 + r.val % 32; omega)).trans ?_
    exact lane_idx (o := 352) (L := 32) _ a4 _ _ _ rfl
  · refine (lanes_apply (B := 48) (L := 32) (R := 1536) (N := 1024) rfl _ _ _ _ (⟨r.val / 32, by omega⟩ : Fin 48) (⟨r.val % 32, by omega⟩ : Fin 32) r s (by show r.val = r.val / 32 * 32 + r.val % 32; omega)).trans ?_
    exact lane_idx (o := 384) (L := 32) _ a4 _ _ _ rfl

theorem value_apply (a0 : Vec Idealize.ShloMosaic.Ideal S7680x1024 .i32) (a1 : Vec Idealize.ShloMosaic.Ideal S15360x15360 .fp8e4m3) (a2 a3 : Vec Idealize.ShloMosaic.Ideal S96x16x15360 .fp8e4m3) (a4 : Vec Idealize.ShloMosaic.Ideal S48x1x512 .f32) (r : Fin 15360) (s : Fin 1024) :
    G9 a0 a1 a2 a3 a4 (ix2 r s) = valueAt a1 a0 a4 r s := by
  unfold G9 k0_pay9 valueAt
  try dsimp only
  refine congrArg₂ (fun p z : EReal => p * z) ?_ ?_
  · refine (Ideal.matmul_plain_apply (M := 15360) (K := 15360) (N := 1024) none _ _ _ r s).trans ?_
    refine (congrArg (· + _) (show constant (F := Idealize.ShloMosaic.Ideal) S15360x1024 .f32 0x00000000#32 (ix2 r s) = (0 : EReal) from Ideal.ofBits_zero .f32)).trans ?_
    rw [zero_add]
    exact Finset.sum_congr rfl fun k _ => congrArg (fun z : EReal => (a1 (ix2 r k) : EReal) * z) (act_apply a0 k s)
  · refine (lanes_apply (B := 48) (L := 320) (R := 15360) (N := 1024) rfl _ _ _ _ (⟨r.val / 320, by omega⟩ : Fin 48) (⟨r.val % 320, by omega⟩ : Fin 320) r s (by show r.val = r.val / 320 * 320 + r.val % 320; omega)).trans ?_
    exact lane_idx (o := 0) (L := 320) _ a4 _ _ _ (Nat.zero_add _).symm

/-! ### The quantiser -/

theorem rows_apply (v : FVec Idealize.ShloMosaic.Ideal S1536x1024 .f32) (h : Fin 96) (r : Fin 16) (s : Fin 1024) :
    k0_pay14 v (ix3 h r s) = v (ix2 (⟨16 * h.val + r.val, by omega⟩ : Fin 1536) s) := by
  unfold k0_pay14
  try dsimp only
  refine shapeCast_apply _ _ (ix3 h r s) (ix2 (⟨16 * h.val + r.val, by omega⟩ : Fin 1536) s) ?_
  simp only [Shape.rowMajor_val_two, Shape.rowMajor_val_three]
  show (16 * h.val + r.val) * 1024 + s.val = (h.val * 16 + r.val) * 1024 + s.val
  omega

/-- The largest magnitude of a head's column, over the largest code. -/
def headMax (v : S1536x1024.Idx → Idealize.ShloMosaic.Ideal .f32) (h : Fin 96) (s : Fin 1024) : Idealize.ShloMosaic.Ideal .f32 :=
  rowMax fun k => v (ix2 (⟨16 * h.val + k.val, by omega⟩ : Fin 1536) s)

theorem amax_apply (v : FVec Idealize.ShloMosaic.Ideal S1536x1024 .f32) (h : Fin 96) (s : Fin 1024) :
    FloatOps.mulf (k0_pay27 v (ix3 h (0 : Fin 1) s)) (FloatOps.ofBits (F := Idealize.ShloMosaic.Ideal) .f32 0x3B124925#32) = headMax v h s := by
  unfold headMax rowMax
  refine congrArg₂ FloatOps.mulf ?_ rfl
  unfold k0_pay27
  try dsimp only
  refine (shapeCast_apply _ _ (ix3 h (0 : Fin 1) s) (ix2 h s) ?_).trans ?_
  · simp only [Shape.rowMajor_val_two, Shape.rowMajor_val_three]
    show h.val * 1024 + s.val = (h.val * 1 + 0) * 1024 + s.val
    omega
  refine (Ideal.multiReduction_maximumf_single _ _ _ _ _ _).trans ?_
  refine congrArg (Finset.fold max _ · _) ?_
  funext k
  refine (congrArg (fun i : S96x16x1024.Idx => (FloatOps.absf (F := Idealize.ShloMosaic.Ideal) (φ := .f32) (k0_pay14 v i))) (?_ : _ = ix3 h k s)).trans ?_
  · funext a
    apply Fin.ext
    match a with
    | ⟨0, _⟩ => rfl
    | ⟨1, _⟩ => rfl
    | ⟨2, _⟩ => rfl
  · exact congrArg (FloatOps.absf (F := Idealize.ShloMosaic.Ideal) (φ := .f32)) (rows_apply v h k s)

theorem exp_eq (v : FVec Idealize.ShloMosaic.Ideal S1536x1024 .f32) : k0_pay15 v = k0_pay28 (k0_pay27 v) := by
  unfold k0_pay15 k0_pay28 k0_pay27 k0_pay26 k0_pay14
  rfl

theorem chain_apply (x : FVec Idealize.ShloMosaic.Ideal S96x1x1024 .f32) (i : S96x1x1024.Idx) :
    k0_pay28 x i = plainExp (FloatOps.mulf (x i) (FloatOps.ofBits (F := Idealize.ShloMosaic.Ideal) .f32 0x3B124925#32)) := by
  unfold k0_pay28 plainExp
  rfl

theorem exp_apply (v : FVec Idealize.ShloMosaic.Ideal S1536x1024 .f32) (h : Fin 96) (s : Fin 1024) :
    k0_pay28 (k0_pay27 v) (ix3 h (0 : Fin 1) s) = plainExp (headMax v h s) :=
  (chain_apply _ _).trans (congrArg plainExp (amax_apply v h s))

theorem up_apply (x : FVec Idealize.ShloMosaic.Ideal S96x1x1024 .f32) (i : S96x1x1024.Idx) : k0_pay30 x i = FloatOps.exp2 (F := Idealize.ShloMosaic.Ideal) (φ := .f32) (k0_pay28 x i) := by
  unfold k0_pay30
  rfl

/-- The factor the codes are multiplied by. -/
def downOf (x : FVec Idealize.ShloMosaic.Ideal S96x1x1024 .f32) : FVec Idealize.ShloMosaic.Ideal S96x1x1024 .f32 :=
  exp2 (subf (broadcast S96x1x1024 (Scalar.ofBits .f32 0x00000000#32 : Idealize.ShloMosaic.Ideal .f32)) x)

theorem downOf_apply (x : FVec Idealize.ShloMosaic.Ideal S96x1x1024 .f32) (i : S96x1x1024.Idx) :
    downOf x i = FloatOps.exp2 (F := Idealize.ShloMosaic.Ideal) (φ := .f32) (FloatOps.subf (FloatOps.ofBits (F := Idealize.ShloMosaic.Ideal) .f32 0x00000000#32) (x i)) := rfl

theorem down_apply (y : FVec Idealize.ShloMosaic.Ideal S96x16x1024 .f32) (x : FVec Idealize.ShloMosaic.Ideal S96x1x1024 .f32) (i : S96x16x1024.Idx) :
    k0_pay29 y x i = FloatOps.truncf (F := Idealize.ShloMosaic.Ideal) .fp8e4m3 bitsLt_fp8e4m3_f32 (FloatOps.minimumf (FloatOps.ofBits (F := Idealize.ShloMosaic.Ideal) .f32 0x43E00000#32)
      (FloatOps.maximumf (FloatOps.ofBits (F := Idealize.ShloMosaic.Ideal) .f32 0xC3E00000#32) (FloatOps.mulf (y i)
        (broadcastTo S96x16x1024 (downOf (k0_pay28 x)) broadcasts_S96x1x1024_S96x16x1024 i)))) := by
  unfold k0_pay29 downOf
  rfl

theorem spread_apply (x : FVec Idealize.ShloMosaic.Ideal S96x1x1024 .f32) (h : Fin 96) (r : Fin 16) (s : Fin 1024) :
    broadcastTo S96x16x1024 x broadcasts_S96x1x1024_S96x16x1024 (ix3 h r s) = x (ix3 h (0 : Fin 1) s) :=
  broadcastTo_apply _ _ (ix3 h r s) (ix3 h (0 : Fin 1) s) (fun a => match a with | ⟨0, _⟩ => rfl | ⟨1, _⟩ => rfl | ⟨2, _⟩ => rfl)

theorem codes_eq (v : FVec Idealize.ShloMosaic.Ideal S1536x1024 .f32) : k0_pay16 v = k0_pay29 (k0_pay26 v) (k0_pay27 v) := by
  unfold k0_pay16 k0_pay29
  rw [exp_eq]
  rfl

theorem scales_eq (v : FVec Idealize.ShloMosaic.Ideal S1536x1024 .f32) : k0_pay17 v = k0_pay30 (k0_pay27 v) := by
  unfold k0_pay17 k0_pay30
  rw [exp_eq]

theorem scales_apply (v : FVec Idealize.ShloMosaic.Ideal S1536x1024 .f32) (h : Fin 96) (s : Fin 1024) :
    k0_pay30 (k0_pay27 v) (ix3 h (0 : Fin 1) s) = scaleOf (headMax v h s) :=
  (up_apply _ _).trans (congrArg (FloatOps.exp2 (F := Idealize.ShloMosaic.Ideal) (φ := .f32)) (exp_apply v h s))

theorem codes_apply (v : FVec Idealize.ShloMosaic.Ideal S1536x1024 .f32) (h : Fin 96) (r : Fin 16) (s : Fin 1024) :
    k0_pay29 (k0_pay26 v) (k0_pay27 v) (ix3 h r s) = codeOf (headMax v h s) (v (ix2 (⟨16 * h.val + r.val, by omega⟩ : Fin 1536) s)) := by
  unfold codeOf
  refine (down_apply _ _ _).trans ?_
  refine congrArg₂ (fun p z : Idealize.ShloMosaic.Ideal .f32 => FloatOps.truncf (F := Idealize.ShloMosaic.Ideal) .fp8e4m3 bitsLt_fp8e4m3_f32 (FloatOps.minimumf (FloatOps.ofBits (F := Idealize.ShloMosaic.Ideal) .f32 0x43E00000#32)
    (FloatOps.maximumf (FloatOps.ofBits (F := Idealize.ShloMosaic.Ideal) .f32 0xC3E00000#32) (FloatOps.mulf p z)))) (rows_apply v h r s) ?_
  refine (spread_apply _ h r s).trans ((downOf_apply _ _).trans ?_)
  exact congrArg (fun z : Idealize.ShloMosaic.Ideal .f32 => FloatOps.exp2 (F := Idealize.ShloMosaic.Ideal) (φ := .f32) (FloatOps.subf (FloatOps.ofBits (F := Idealize.ShloMosaic.Ideal) .f32 0x00000000#32) z)) (exp_apply v h s)

/-! ### The blocks of each batch -/

theorem piece4 {α : Type} (o : Nat) (b : Fin 4) (ho : o = 256 * b.val) (v : S96x16x1024.Idx → α) (h1 : S96x16x1024.Slices ![0, 0, o] S96x16x256) (h2 : S96x16x256.ShapeCasts S1x96x16x256)
    (inb : ∀ a : Fin 4, ![b.val, 0, 0, 0] a + S1x96x16x256.size a ≤ S4x96x16x256.size a) (x : S1x96x16x256.Idx) :
    shapeCast S1x96x16x256 (extractStridedSlice S96x16x256 ![0, 0, o] v h1) h2 x
      = (fun y : S4x96x16x256.Idx => v (ix3 (y 1) (y 2) (⟨256 * (y 0).val + (y 3).val, by have h0 : (y 0).val < 4 := (y 0).isLt; have h3 : (y 3).val < 256 := (y 3).isLt; omega⟩ : Fin 1024)))
        ((Rect.unit (s := S4x96x16x256) ![b.val, 0, 0, 0] S1x96x16x256.size inb).emb x) := by
  have hx : (x 0).val = 0 := by have : (x 0).val < 1 := (x 0).isLt; omega
  refine (shapeCast_apply _ _ x (ix3 (x 1) (x 2) (x 3)) ?_).trans ?_
  · simp only [Shape.rowMajor_val_four, Shape.rowMajor_val_three]
    show ((x 1).val * 16 + (x 2).val) * 256 + (x 3).val = (((x 0).val * 96 + (x 1).val) * 16 + (x 2).val) * 256 + (x 3).val
    rw [hx]; omega
  · refine extractStridedSlice_apply (s := S96x16x1024) ![0, 0, o] _ _ (ix3 (x 1) (x 2) (x 3)) _ (fun a => ?_)
    match a with
    | ⟨0, _⟩ => show 0 + 1 * (x 1).val = 0 + (x 1).val; omega
    | ⟨1, _⟩ => show 0 + 1 * (x 2).val = 0 + (x 2).val; omega
    | ⟨2, _⟩ => show 256 * (b.val + 1 * (x 0).val) + (0 + 1 * (x 3).val) = o + (x 3).val; omega

theorem piece3 {α : Type} (o : Nat) (b : Fin 4) (ho : o = 256 * b.val) (v : S96x1x1024.Idx → α) (h1 : S96x1x1024.Slices ![0, 0, o] S96x1x256) (h2 : S96x1x256.ShapeCasts S96x256)
    (h3 : S96x256.ShapeCasts S1x96x256) (inb : ∀ a : Fin 3, ![b.val, 0, 0] a + S1x96x256.size a ≤ S4x96x256.size a) (x : S1x96x256.Idx) :
    shapeCast S1x96x256 (shapeCast S96x256 (extractStridedSlice S96x1x256 ![0, 0, o] v h1) h2) h3 x
      = (fun y : S4x96x256.Idx => v (ix3 (y 1) (0 : Fin 1) (⟨256 * (y 0).val + (y 2).val, by have h0 : (y 0).val < 4 := (y 0).isLt; have h3 : (y 2).val < 256 := (y 2).isLt; omega⟩ : Fin 1024)))
        ((Rect.unit (s := S4x96x256) ![b.val, 0, 0] S1x96x256.size inb).emb x) := by
  have hx : (x 0).val = 0 := by have : (x 0).val < 1 := (x 0).isLt; omega
  refine (shapeCast_apply _ _ x (ix2 (x 1) (x 2)) ?_).trans ?_
  · simp only [Shape.rowMajor_val_two, Shape.rowMajor_val_three]
    show (x 1).val * 256 + (x 2).val = ((x 0).val * 96 + (x 1).val) * 256 + (x 2).val
    rw [hx]; omega
  refine (shapeCast_apply _ _ (ix2 (x 1) (x 2)) (ix3 (x 1) (0 : Fin 1) (x 2)) ?_).trans ?_
  · simp only [Shape.rowMajor_val_two, Shape.rowMajor_val_three]
    show ((x 1).val * 1 + 0) * 256 + (x 2).val = (x 1).val * 256 + (x 2).val
    omega
  · refine extractStridedSlice_apply (s := S96x1x1024) ![0, 0, o] _ _ (ix3 (x 1) (0 : Fin 1) (x 2)) _ (fun a => ?_)
    match a with
    | ⟨0, _⟩ => show 0 + 1 * (x 1).val = 0 + (x 1).val; omega
    | ⟨1, _⟩ => rfl
    | ⟨2, _⟩ => show 256 * (b.val + 1 * (x 0).val) + (0 + 1 * (x 2).val) = o + (x 2).val; omega

/-- Rows of codes, cut into one block per batch. -/
theorem canon4 (v : FVec Idealize.ShloMosaic.Ideal S96x16x1024 .fp8e4m3) (y : S4x96x16x256.Idx) :
    View.canon (Val := Elt Idealize.ShloMosaic.Ideal) (e := .fp8e4m3) [⟨r0_14, k0_pay24 v⟩, ⟨r0_12, k0_pay22 v⟩, ⟨r0_10, k0_pay20 v⟩,
      ⟨r0_8, shapeCast S1x96x16x256 (extractStridedSlice S96x16x256 ![0, 0, 0] v slices_S96x16x1024_o0_0_0_S96x16x256) shapeCasts_S96x16x256_S1x96x16x256⟩] y
      = v (ix3 (y 1) (y 2) (⟨256 * (y 0).val + (y 3).val, by have h0 : (y 0).val < 4 := (y 0).isLt; have h3 : (y 3).val < 256 := (y 3).isLt; omega⟩ : Fin 1024)) := by
  refine View.canon_apply_of_pieces (Val := Elt Idealize.ShloMosaic.Ideal) (e := .fp8e4m3) (fun y : S4x96x16x256.Idx => v (ix3 (y 1) (y 2) (⟨256 * (y 0).val + (y 3).val, by have h0 : (y 0).val < 4 := (y 0).isLt; have h3 : (y 3).val < 256 := (y 3).isLt; omega⟩ : Fin 1024))) _ ?_ y
    (View.cover_of_tiled _ ![1, 96, 16, 256] (by rfl) y)
  intro p hp
  simp only [List.mem_cons, List.not_mem_nil, or_false] at hp
  rcases hp with rfl | rfl | rfl | rfl
  · exact fun x => piece4 768 3 rfl v slices_S96x16x1024_o0_0_768_S96x16x256 shapeCasts_S96x16x256_S1x96x16x256 inb_S4x96x16x256_S1x96x16x256_3_0_0_0 x
  · exact fun x => piece4 512 2 rfl v slices_S96x16x1024_o0_0_512_S96x16x256 shapeCasts_S96x16x256_S1x96x16x256 inb_S4x96x16x256_S1x96x16x256_2_0_0_0 x
  · exact fun x => piece4 256 1 rfl v slices_S96x16x1024_o0_0_256_S96x16x256 shapeCasts_S96x16x256_S1x96x16x256 inb_S4x96x16x256_S1x96x16x256_1_0_0_0 x
  · exact fun x => piece4 0 0 rfl v slices_S96x16x1024_o0_0_0_S96x16x256 shapeCasts_S96x16x256_S1x96x16x256 inb_S4x96x16x256_S1x96x16x256_0_0_0_0 x

/-- Rows of scales, cut into one block per batch. -/
theorem canon3 (v : FVec Idealize.ShloMosaic.Ideal S96x1x1024 .f32) (y : S4x96x256.Idx) :
    View.canon (Val := Elt Idealize.ShloMosaic.Ideal) (e := .f32) [⟨r0_15, k0_pay25 v⟩, ⟨r0_13, k0_pay23 v⟩, ⟨r0_11, k0_pay21 v⟩,
      ⟨r0_9, shapeCast S1x96x256 (shapeCast S96x256 (extractStridedSlice S96x1x256 ![0, 0, 0] v slices_S96x1x1024_o0_0_0_S96x1x256) shapeCasts_S96x1x256_S96x256) shapeCasts_S96x256_S1x96x256⟩] y
      = v (ix3 (y 1) (0 : Fin 1) (⟨256 * (y 0).val + (y 2).val, by have h0 : (y 0).val < 4 := (y 0).isLt; have h3 : (y 2).val < 256 := (y 2).isLt; omega⟩ : Fin 1024)) := by
  refine View.canon_apply_of_pieces (Val := Elt Idealize.ShloMosaic.Ideal) (e := .f32) (fun y : S4x96x256.Idx => v (ix3 (y 1) (0 : Fin 1) (⟨256 * (y 0).val + (y 2).val, by have h0 : (y 0).val < 4 := (y 0).isLt; have h3 : (y 2).val < 256 := (y 2).isLt; omega⟩ : Fin 1024))) _ ?_ y
    (View.cover_of_tiled _ ![1, 96, 256] (by rfl) y)
  intro p hp
  simp only [List.mem_cons, List.not_mem_nil, or_false] at hp
  rcases hp with rfl | rfl | rfl | rfl
  · exact fun x => piece3 768 3 rfl v slices_S96x1x1024_o0_0_768_S96x1x256 shapeCasts_S96x1x256_S96x256 shapeCasts_S96x256_S1x96x256 inb_S4x96x256_S1x96x256_3_0_0 x
  · exact fun x => piece3 512 2 rfl v slices_S96x1x1024_o0_0_512_S96x1x256 shapeCasts_S96x1x256_S96x256 shapeCasts_S96x256_S1x96x256 inb_S4x96x256_S1x96x256_2_0_0 x
  · exact fun x => piece3 256 1 rfl v slices_S96x1x1024_o0_0_256_S96x1x256 shapeCasts_S96x1x256_S96x256 shapeCasts_S96x256_S1x96x256 inb_S4x96x256_S1x96x256_1_0_0 x
  · exact fun x => piece3 0 0 rfl v slices_S96x1x1024_o0_0_0_S96x1x256 shapeCasts_S96x1x256_S96x256 shapeCasts_S96x256_S1x96x256 inb_S4x96x256_S1x96x256_0_0_0 x

section Results

variable (a0 : Vec Idealize.ShloMosaic.Ideal S7680x1024 .i32) (a1 : Vec Idealize.ShloMosaic.Ideal S15360x15360 .fp8e4m3) (a2 a3 : Vec Idealize.ShloMosaic.Ideal S96x16x15360 .fp8e4m3) (a4 : Vec Idealize.ShloMosaic.Ideal S48x1x512 .f32)

/-- The column of the flattened batch and position. -/
abbrev col (b : Fin 4) (s : Fin 256) : Fin 1024 := ⟨256 * b.val + s.val, by omega⟩

/-- The codes of rows `P`, and their scales. -/
def codesOf (P : Fin 1536 → Fin 1024 → EReal) (b : Fin 4) (h : Fin 96) (r : Fin 16) (s : Fin 256) : Idealize.ShloMosaic.Ideal .fp8e4m3 :=
  codeOf (rowMax fun k => P (⟨16 * h.val + k.val, by omega⟩ : Fin 1536) (col b s)) (P (⟨16 * h.val + r.val, by omega⟩ : Fin 1536) (col b s))
def scalesOf (P : Fin 1536 → Fin 1024 → EReal) (b : Fin 4) (h : Fin 96) (s : Fin 256) : Idealize.ShloMosaic.Ideal .f32 :=
  scaleOf (rowMax fun k => P (⟨16 * h.val + k.val, by omega⟩ : Fin 1536) (col b s))

theorem codesOf_eq (v : FVec Idealize.ShloMosaic.Ideal S1536x1024 .f32) (P : Fin 1536 → Fin 1024 → EReal) (hv : ∀ r s, v (ix2 r s) = P r s) (b : Fin 4) (h : Fin 96) (r : Fin 16) (s : Fin 256) :
    k0_pay29 (k0_pay26 v) (k0_pay27 v) (ix3 h r (col b s)) = codesOf P b h r s := by
  refine (codes_apply v h r (col b s)).trans ?_
  unfold codesOf headMax
  simp only [hv]

theorem scalesOf_eq (v : FVec Idealize.ShloMosaic.Ideal S1536x1024 .f32) (P : Fin 1536 → Fin 1024 → EReal) (hv : ∀ r s, v (ix2 r s) = P r s) (b : Fin 4) (h : Fin 96) (s : Fin 256) :
    k0_pay30 (k0_pay27 v) (ix3 h (0 : Fin 1) (col b s)) = scalesOf P b h s := by
  refine (scales_apply v h (col b s)).trans ?_
  unfold scalesOf headMax
  simp only [hv]

theorem G5_apply (y : S4x96x16x256.Idx) : G5 a0 a1 a2 a3 a4 y = codesOf (queryAt a2 a0 a4) (y 0) (y 1) (y 2) (y 3) := by
  refine Eq.trans ?_ ((canon4 (k0_pay29 (k0_pay26 (k0_pay34 a0 a1 a2 a3 a4)) (k0_pay27 (k0_pay34 a0 a1 a2 a3 a4))) y).trans (codesOf_eq _ _ (query_apply a0 a1 a2 a3 a4) _ _ _ _))
  rw [← codes_eq]
  unfold G5 k0_pay36 k0_pay18
  rfl

theorem G6_apply (y : S4x96x256.Idx) : G6 a0 a1 a2 a3 a4 y = scalesOf (queryAt a2 a0 a4) (y 0) (y 1) (y 2) := by
  refine Eq.trans ?_ ((canon3 (k0_pay30 (k0_pay27 (k0_pay34 a0 a1 a2 a3 a4))) y).trans (scalesOf_eq _ _ (query_apply a0 a1 a2 a3 a4) _ _ _))
  rw [← scales_eq]
  unfold G6 k0_pay37 k0_pay19
  rfl

theorem G7_apply (y : S4x96x16x256.Idx) : G7 a0 a1 a2 a3 a4 y = codesOf (keyAt a3 a0 a4) (y 0) (y 1) (y 2) (y 3) := by
  refine Eq.trans ?_ ((canon4 (k0_pay29 (k0_pay26 (k0_pay35 a0 a1 a2 a3 a4)) (k0_pay27 (k0_pay35 a0 a1 a2 a3 a4))) y).trans (codesOf_eq _ _ (key_apply a0 a1 a2 a3 a4) _ _ _ _))
  unfold G7 k0_pay40 k0_pay38 k0_pay39 k0_pay31 k0_pay33 k0_pay1 k0_pay3 k0_pay5 k0_pay20 k0_pay22 k0_pay24
  rfl

theorem G8_apply (y : S4x96x256.Idx) : G8 a0 a1 a2 a3 a4 y = scalesOf (keyAt a3 a0 a4) (y 0) (y 1) (y 2) := by
  refine Eq.trans ?_ ((canon3 (k0_pay30 (k0_pay27 (k0_pay35 a0 a1 a2 a3 a4))) y).trans (scalesOf_eq _ _ (key_apply a0 a1 a2 a3 a4) _ _ _))
  unfold G8 k0_pay41 k0_pay39 k0_pay32 k0_pay2 k0_pay4 k0_pay6 k0_pay21 k0_pay23 k0_pay25
  rfl

end Results

end Cert.ReferenceIdeal.Read

end
-- ==== Proof.Scaled.lean ====
/-
  The scaled queries, keys and values a grid point leaves in scratch, at an index: the row's sum over the 15360 positions
  times the row's scale, and for keys plus the row's bias.
-/
module

public import proofs.«01_k».proof.Proof.Proj

@[expose] public section

noncomputable section

namespace Cert.KernelIdeal.Hand

open Cert.KernelIdeal Cert.KernelIdeal.Gen
open Idealize.ShloMosaic Idealize.ShloMosaic.TcCoe
open scoped BigOperators

/-- A store into rows `o` to `o + m` read in those rows. -/
theorem canon_rows {M N m o : Nat} {Val : EltTy → Type} [∀ e, Nonempty (Val e)] {e : EltTy} (inb : ∀ a : Fin 2, ![o, 0] a + (⟨2, ![m, N]⟩ : Shape).size a ≤ (⟨2, ![M, N]⟩ : Shape).size a)
    (w : (⟨2, ![m, N]⟩ : Shape).Idx → Val e) (L : List (View.Piece Val (⟨2, ![M, N]⟩ : Shape) e)) (q : Fin m) (s : Fin N) (r : Fin M) (hr : r.val = o + q.val) :
    View.canon ((⟨Rect.unit (s := ⟨2, ![M, N]⟩) ![o, 0] (⟨2, ![m, N]⟩ : Shape).size inb, w⟩ : View.Piece Val (⟨2, ![M, N]⟩ : Shape) e) :: L) (ix2 r s) = w (ix2 q s) := by
  have he : (Rect.unit (s := ⟨2, ![M, N]⟩) ![o, 0] (⟨2, ![m, N]⟩ : Shape).size inb).emb (ix2 q s) = ix2 r s := by
    funext a
    apply Fin.ext
    match a with
    | ⟨0, _⟩ => show o + 1 * q.val = r.val; omega
    | ⟨1, _⟩ => show 0 + 1 * s.val = s.val; omega
  rw [← he]
  exact View.canon_cons_emb (Rect.unit (s := ⟨2, ![M, N]⟩) ![o, 0] (⟨2, ![m, N]⟩ : Shape).size inb) w L (ix2 q s)

/-- The same store read outside those rows. -/
theorem canon_rows_off {M N m o : Nat} {Val : EltTy → Type} [∀ e, Nonempty (Val e)] {e : EltTy} (inb : ∀ a : Fin 2, ![o, 0] a + (⟨2, ![m, N]⟩ : Shape).size a ≤ (⟨2, ![M, N]⟩ : Shape).size a)
    (w : (⟨2, ![m, N]⟩ : Shape).Idx → Val e) (L : List (View.Piece Val (⟨2, ![M, N]⟩ : Shape) e)) (s : Fin N) (r : Fin M) (hr : r.val < o) :
    View.canon ((⟨Rect.unit (s := ⟨2, ![M, N]⟩) ![o, 0] (⟨2, ![m, N]⟩ : Shape).size inb, w⟩ : View.Piece Val (⟨2, ![M, N]⟩ : Shape) e) :: L) (ix2 r s) = View.canon L (ix2 r s) := by
  refine View.canon_cons_of_not_mem _ L fun h => ?_
  have := ((Rect.mem_set_unit (inb := inb)).1 h) 0
  exact absurd this.1 (by show ¬ o ≤ r.val; omega)

/-- A read of rows `o` to `o + m`. -/
theorem idx_rows {M N m o : Nat} (inb : ∀ a : Fin 2, ![o, 0] a + (⟨2, ![m, N]⟩ : Shape).size a ≤ (⟨2, ![M, N]⟩ : Shape).size a)
    (q : Fin m) (s : Fin N) (r : Fin M) (hr : r.val = o + q.val) :
    (Rect.unit (s := ⟨2, ![M, N]⟩) ![o, 0] (⟨2, ![m, N]⟩ : Shape).size inb).toLoadRect.idx (ix2 q s) = ix2 r s := by
  funext a
  apply Fin.ext
  match a with
  | ⟨0, _⟩ => show o + 1 * q.val = r.val; omega
  | ⟨1, _⟩ => show 0 + 1 * s.val = s.val; omega

/-- Eight copies side by side, at an index. -/
theorem concat8 {α : Type} {R : Nat} (x : (⟨2, ![R, 128]⟩ : Shape).Idx → α)
    (h : Shape.Concatenates [(⟨2, ![R, 128]⟩ : Shape), ⟨2, ![R, 128]⟩, ⟨2, ![R, 128]⟩, ⟨2, ![R, 128]⟩, ⟨2, ![R, 128]⟩, ⟨2, ![R, 128]⟩, ⟨2, ![R, 128]⟩, ⟨2, ![R, 128]⟩] (⟨2, ![R, 1024]⟩ : Shape) 1)
    (r : Fin R) (s : Fin 1024) :
    concatenate (⟨2, ![R, 1024]⟩ : Shape) 1 [⟨⟨2, ![R, 128]⟩, x⟩, ⟨⟨2, ![R, 128]⟩, x⟩, ⟨⟨2, ![R, 128]⟩, x⟩, ⟨⟨2, ![R, 128]⟩, x⟩, ⟨⟨2, ![R, 128]⟩, x⟩, ⟨⟨2, ![R, 128]⟩, x⟩, ⟨⟨2, ![R, 128]⟩, x⟩, ⟨⟨2, ![R, 128]⟩, x⟩] h (ix2 r s)
      = x (ix2 r (⟨s.val % 128, Nat.mod_lt _ (by decide)⟩ : Fin 128)) := by
  have hs : s.val / 128 = 0 ∨ s.val / 128 = 1 ∨ s.val / 128 = 2 ∨ s.val / 128 = 3 ∨ s.val / 128 = 4 ∨ s.val / 128 = 5 ∨ s.val / 128 = 6 ∨ s.val / 128 = 7 := by omega
  rcases hs with hs | hs | hs | hs | hs | hs | hs | hs
  · exact concatenate_apply_piece (t := (⟨2, ![R, 1024]⟩ : Shape)) 1 _ _ (ix2 r s) 0 (by show 0 < 8; decide) (⟨2, ![R, 128]⟩ : Shape) x rfl rfl 0 rfl (ix2 r (⟨s.val % 128, Nat.mod_lt _ (by decide)⟩ : Fin 128))
      (fun b hb => match b, hb with | ⟨0, _⟩, _ => rfl | ⟨1, _⟩, hb => absurd rfl hb) (by show 0 + s.val % 128 = s.val; omega)
  · exact concatenate_apply_piece (t := (⟨2, ![R, 1024]⟩ : Shape)) 1 _ _ (ix2 r s) 1 (by show 1 < 8; decide) (⟨2, ![R, 128]⟩ : Shape) x rfl rfl 128 rfl (ix2 r (⟨s.val % 128, Nat.mod_lt _ (by decide)⟩ : Fin 128))
      (fun b hb => match b, hb with | ⟨0, _⟩, _ => rfl | ⟨1, _⟩, hb => absurd rfl hb) (by show 128 + s.val % 128 = s.val; omega)
  · exact concatenate_apply_piece (t := (⟨2, ![R, 1024]⟩ : Shape)) 1 _ _ (ix2 r s) 2 (by show 2 < 8; decide) (⟨2, ![R, 128]⟩ : Shape) x rfl rfl 256 rfl (ix2 r (⟨s.val % 128, Nat.mod_lt _ (by decide)⟩ : Fin 128))
      (fun b hb => match b, hb with | ⟨0, _⟩, _ => rfl | ⟨1, _⟩, hb => absurd rfl hb) (by show 256 + s.val % 128 = s.val; omega)
  · exact concatenate_apply_piece (t := (⟨2, ![R, 1024]⟩ : Shape)) 1 _ _ (ix2 r s) 3 (by show 3 < 8; decide) (⟨2, ![R, 128]⟩ : Shape) x rfl rfl 384 rfl (ix2 r (⟨s.val % 128, Nat.mod_lt _ (by decide)⟩ : Fin 128))
      (fun b hb => match b, hb with | ⟨0, _⟩, _ => rfl | ⟨1, _⟩, hb => absurd rfl hb) (by show 384 + s.val % 128 = s.val; omega)
  · exact concatenate_apply_piece (t := (⟨2, ![R, 1024]⟩ : Shape)) 1 _ _ (ix2 r s) 4 (by show 4 < 8; decide) (⟨2, ![R, 128]⟩ : Shape) x rfl rfl 512 rfl (ix2 r (⟨s.val % 128, Nat.mod_lt _ (by decide)⟩ : Fin 128))
      (fun b hb => match b, hb with | ⟨0, _⟩, _ => rfl | ⟨1, _⟩, hb => absurd rfl hb) (by show 512 + s.val % 128 = s.val; omega)
  · exact concatenate_apply_piece (t := (⟨2, ![R, 1024]⟩ : Shape)) 1 _ _ (ix2 r s) 5 (by show 5 < 8; decide) (⟨2, ![R, 128]⟩ : Shape) x rfl rfl 640 rfl (ix2 r (⟨s.val % 128, Nat.mod_lt _ (by decide)⟩ : Fin 128))
      (fun b hb => match b, hb with | ⟨0, _⟩, _ => rfl | ⟨1, _⟩, hb => absurd rfl hb) (by show 640 + s.val % 128 = s.val; omega)
  · exact concatenate_apply_piece (t := (⟨2, ![R, 1024]⟩ : Shape)) 1 _ _ (ix2 r s) 6 (by show 6 < 8; decide) (⟨2, ![R, 128]⟩ : Shape) x rfl rfl 768 rfl (ix2 r (⟨s.val % 128, Nat.mod_lt _ (by decide)⟩ : Fin 128))
      (fun b hb => match b, hb with | ⟨0, _⟩, _ => rfl | ⟨1, _⟩, hb => absurd rfl hb) (by show 768 + s.val % 128 = s.val; omega)
  · exact concatenate_apply_piece (t := (⟨2, ![R, 1024]⟩ : Shape)) 1 _ _ (ix2 r s) 7 (by show 7 < 8; decide) (⟨2, ![R, 128]⟩ : Shape) x rfl rfl 896 rfl (ix2 r (⟨s.val % 128, Nat.mod_lt _ (by decide)⟩ : Fin 128))
      (fun b hb => match b, hb with | ⟨0, _⟩, _ => rfl | ⟨1, _⟩, hb => absurd rfl hb) (by show 896 + s.val % 128 = s.val; omega)

section Payloads

/-- The scales, one per row, in every column. -/
theorem pay469_apply (v : Vec Idealize.ShloMosaic.Ideal S1x1x512 .f32) (j : Fin 512) (l : Fin 128) : k0_pay469 v (ix2 j l) = v (ix3 (0 : Fin 1) (0 : Fin 1) j) := by
  unfold k0_pay469
  try dsimp only
  refine (transpose_apply _ _ _ (ix2 j l) (ix2 l j) (fun b => match b with | ⟨0, _⟩ => rfl | ⟨1, _⟩ => rfl)).trans ?_
  refine (broadcastTo_apply _ _ (ix2 l j) (ix2 (0 : Fin 1) j) (fun a => match a with | ⟨0, _⟩ => rfl | ⟨1, _⟩ => rfl)).trans ?_
  refine (shapeCast_apply _ _ (ix2 (0 : Fin 1) j) (ix2 (0 : Fin 1) j) rfl).trans ?_
  refine shapeCast_apply _ _ (ix2 (0 : Fin 1) j) (ix3 (0 : Fin 1) (0 : Fin 1) j) ?_
  simp only [Shape.rowMajor_val_two, Shape.rowMajor_val_three]
  show (0 * 1 + 0) * 512 + j.val = 0 * 512 + j.val
  omega

theorem pay470_apply (v : Vec Idealize.ShloMosaic.Ideal S1x1x512 .f32) (x : Vec Idealize.ShloMosaic.Ideal S320x1024 .f32) (r : Fin 320) (s : Fin 1024) :
    k0_pay470 v x (ix2 r s) = (x (ix2 r s) * v (ix3 (0 : Fin 1) (0 : Fin 1) (⟨r.val, by omega⟩ : Fin 512)) : EReal) := by
  unfold k0_pay470
  try dsimp only
  refine (shapeCast_apply _ _ (ix2 r s) (ix2 r s) rfl).trans ?_
  refine congrArg (fun z : EReal => (x (ix2 r s) * z : EReal)) ?_
  refine (concat8 (R := 320) _ _ r s).trans ?_
  refine (extractStridedSlice_apply (s := S512x128) ![0, 0] _ _ (ix2 r (⟨s.val % 128, Nat.mod_lt _ (by decide)⟩ : Fin 128)) (ix2 (⟨r.val, by omega⟩ : Fin 512) (⟨s.val % 128, Nat.mod_lt _ (by decide)⟩ : Fin 128))
    (fun a => match a with | ⟨0, _⟩ => (Nat.zero_add r.val).symm | ⟨1, _⟩ => (Nat.zero_add _).symm)).trans ?_
  exact pay469_apply v _ _

theorem pay471_apply (v : Vec Idealize.ShloMosaic.Ideal S1x1x512 .f32) (x : Vec Idealize.ShloMosaic.Ideal S32x1024 .f32) (q : Fin 32) (s : Fin 1024) :
    k0_pay471 v x (ix2 q s) = (x (ix2 q s) * v (ix3 (0 : Fin 1) (0 : Fin 1) (⟨320 + q.val, by omega⟩ : Fin 512)) : EReal) := by
  unfold k0_pay471
  try dsimp only
  refine (shapeCast_apply _ _ (ix2 q s) (ix2 q s) rfl).trans ?_
  refine congrArg (fun z : EReal => (x (ix2 q s) * z : EReal)) ?_
  refine (concat8 (R := 32) _ _ q s).trans ?_
  refine (extractStridedSlice_apply _ _ _ (ix2 q (⟨s.val % 128, Nat.mod_lt _ (by decide)⟩ : Fin 128)) (ix2 (⟨320 + q.val, by omega⟩ : Fin 512) (⟨s.val % 128, Nat.mod_lt _ (by decide)⟩ : Fin 128))
    (fun a => match a with | ⟨0, _⟩ => rfl | ⟨1, _⟩ => (Nat.zero_add _).symm)).trans ?_
  exact pay469_apply v _ _

theorem pay472_apply (v : Vec Idealize.ShloMosaic.Ideal S1x1x512 .f32) (x : Vec Idealize.ShloMosaic.Ideal S32x1024 .f32) (q : Fin 32) (s : Fin 1024) :
    k0_pay472 v x (ix2 q s) = (x (ix2 q s) * v (ix3 (0 : Fin 1) (0 : Fin 1) (⟨352 + q.val, by omega⟩ : Fin 512)) : EReal) := by
  unfold k0_pay472
  try dsimp only
  refine congrArg (fun z : EReal => (x (ix2 q s) * z : EReal)) ?_
  refine (concat8 (R := 32) _ _ q s).trans ?_
  refine (extractStridedSlice_apply _ _ _ (ix2 q (⟨s.val % 128, Nat.mod_lt _ (by decide)⟩ : Fin 128)) (ix2 (⟨352 + q.val, by omega⟩ : Fin 512) (⟨s.val % 128, Nat.mod_lt _ (by decide)⟩ : Fin 128))
    (fun a => match a with | ⟨0, _⟩ => rfl | ⟨1, _⟩ => (Nat.zero_add _).symm)).trans ?_
  exact pay469_apply v _ _

theorem pay1_apply (v : Vec Idealize.ShloMosaic.Ideal S1x1x512 .f32) (x : FVec Idealize.ShloMosaic.Ideal S32x1024 .f32) (q : Fin 32) (s : Fin 1024) :
    k0_pay1 (k0_pay469 v) x (ix2 q s) = (x (ix2 q s) + v (ix3 (0 : Fin 1) (0 : Fin 1) (⟨384 + q.val, by omega⟩ : Fin 512)) : EReal) := by
  unfold k0_pay1
  try dsimp only
  refine (shapeCast_apply _ _ (ix2 q s) (ix2 q s) rfl).trans ?_
  refine congrArg (fun z : EReal => (x (ix2 q s) + z : EReal)) ?_
  refine (concat8 (R := 32) _ _ q s).trans ?_
  refine (extractStridedSlice_apply _ _ _ (ix2 q (⟨s.val % 128, Nat.mod_lt _ (by decide)⟩ : Fin 128)) (ix2 (⟨384 + q.val, by omega⟩ : Fin 512) (⟨s.val % 128, Nat.mod_lt _ (by decide)⟩ : Fin 128))
    (fun a => match a with | ⟨0, _⟩ => rfl | ⟨1, _⟩ => (Nat.zero_add _).symm)).trans ?_
  exact pay469_apply v _ _

end Payloads

section Pieces

variable {F : FTy → Type} [FloatOps F] (c : Dev nD) (M1 : Memref sig .tc .vmem S7680x1024 .i32)
  (M2 : Memref sig .tc .vmem S320x15360 .fp8e4m3) (M3 M4 : Memref sig .tc .vmem S2x16x15360 .fp8e4m3)
  (M5 : Memref sig .tc .vmem S1x1x512 .f32) (M12 : Memref sig .tc .vmem S384x1024 .f32)
  (f1 : Bf (F := F) c M1) (f2 : Bf (F := F) c M2) (f3 : Bf (F := F) c M3) (f4 : Bf (F := F) c M4) (f5 : Bf (F := F) c M5)

/-- The scales' block. -/
abbrev scl : Vec F S1x1x512 .f32 := View.readAt (Elt F) M5.view (Rect.unit (s := S1x1x512) ![0, 0, 0] S1x1x512.size inb_S1x1x512_S1x1x512_0_0_0).toLoadRect f5

theorem pieces13 : kernelRun.sl.H13_2 c M1 M2 M3 M4 M5 M12 f1 f2 f3 f4 f5
    = [⟨Rect.unit (s := S64x1024) ![32, 0] S32x1024.size inb_S64x1024_S32x1024_32_0,
        k0_pay1 (k0_pay469 (scl c M5 f5)) (k0_pay472 (scl c M5 f5) (M12.view.readCov (kernelRun.sl.H12_15 c M1 M2 M3 M4 M12 f1 f2 f3 f4) (Rect.unit (s := S384x1024) ![352, 0] S32x1024.size inb_S384x1024_S32x1024_352_0).toLoadRect))⟩,
      ⟨Rect.unit (s := S64x1024) ![0, 0] S32x1024.size inb_S64x1024_S32x1024_0_0,
        k0_pay471 (scl c M5 f5) (M12.view.readCov (kernelRun.sl.H12_15 c M1 M2 M3 M4 M12 f1 f2 f3 f4) (Rect.unit (s := S384x1024) ![320, 0] S32x1024.size inb_S384x1024_S32x1024_320_0).toLoadRect)⟩] := rfl

theorem pieces14 : kernelRun.sl.H14_1 c M1 M2 M3 M4 M5 M12 f1 f2 f3 f4 f5
    = [⟨Rect.unit (s := S320x1024) ![0, 0] S320x1024.size inb_S320x1024_S320x1024_0_0,
        k0_pay470 (scl c M5 f5) (M12.view.readCov (kernelRun.sl.H12_15 c M1 M2 M3 M4 M12 f1 f2 f3 f4) (Rect.unit (s := S384x1024) ![0, 0] S320x1024.size inb_S384x1024_S320x1024_0_0).toLoadRect)⟩] := rfl

end Pieces

section Values

variable (c : Dev nD) (M1 : Memref sig .tc .vmem S7680x1024 .i32)
  (M2 : Memref sig .tc .vmem S320x15360 .fp8e4m3) (M3 M4 : Memref sig .tc .vmem S2x16x15360 .fp8e4m3)
  (M5 : Memref sig .tc .vmem S1x1x512 .f32) (M12 : Memref sig .tc .vmem S384x1024 .f32)
  (f1 : Bf (F := Idealize.ShloMosaic.Ideal) c M1) (f2 : Bf (F := Idealize.ShloMosaic.Ideal) c M2) (f3 : Bf (F := Idealize.ShloMosaic.Ideal) c M3) (f4 : Bf (F := Idealize.ShloMosaic.Ideal) c M4) (f5 : Bf (F := Idealize.ShloMosaic.Ideal) c M5)

/-- The scale (or bias) in lane `j` of a block of scales. -/
theorem scl_apply (j : Fin 512) : scl c M5 f5 (ix3 (0 : Fin 1) (0 : Fin 1) j) = M5.view.read (Elt Idealize.ShloMosaic.Ideal) f5 (ix3 (0 : Fin 1) (0 : Fin 1) j) := by
  refine congrArg (M5.view.read (Elt Idealize.ShloMosaic.Ideal) f5) (funext fun a => Fin.ext ?_)
  match a with
  | ⟨0, _⟩ => rfl
  | ⟨1, _⟩ => rfl
  | ⟨2, _⟩ => show 0 + 1 * j.val = j.val; omega

/-- A row's sum. -/
abbrev rowSum (wv : S320x15360.Idx → Idealize.ShloMosaic.Ideal .fp8e4m3) (wq wk : S2x16x15360.Idx → Idealize.ShloMosaic.Ideal .fp8e4m3) (X : S7680x1024.Idx → BitVec 32) (r : Fin 384) (s : Fin 1024) : EReal :=
  ∑ k : Fin 15360, weightAt wv wq wk r k * actAt X k s

theorem readQ (M13 : Memref sig .tc .vmem S64x1024 .f32) (q : Fin 32) (s : Fin 1024) :
    M13.view.read (Elt Idealize.ShloMosaic.Ideal) (leftQK c M1 M2 M3 M4 M5 M12 M13 f1 f2 f3 f4 f5) (ix2 (⟨q.val, by omega⟩ : Fin 64) s)
      = (rowSum (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) (⟨320 + q.val, by omega⟩ : Fin 384) s
          * M5.view.read (Elt Idealize.ShloMosaic.Ideal) f5 (ix3 (0 : Fin 1) (0 : Fin 1) (⟨320 + q.val, by omega⟩ : Fin 512)) : EReal) := by
  unfold leftQK
  refine (View.read_writes_junk_apply_eq_canon M13.view _ _).trans ?_
  rw [pieces13]
  refine (canon_rows_off (Val := Elt Idealize.ShloMosaic.Ideal) (M := 64) (N := 1024) (m := 32) (o := 32) inb_S64x1024_S32x1024_32_0 _ _ s (⟨q.val, by omega⟩ : Fin 64) q.isLt).trans ?_
  refine (canon_rows (Val := Elt Idealize.ShloMosaic.Ideal) (M := 64) (N := 1024) (m := 32) (o := 0) inb_S64x1024_S32x1024_0_0 _ _ q s (⟨q.val, by omega⟩ : Fin 64) (Nat.zero_add _).symm).trans ?_
  refine (pay471_apply _ _ q s).trans ?_
  rw [View.readCov_eq_canon']
  refine congrArg₂ (fun p z : EReal => p * z) ?_ (scl_apply c M5 f5 _)
  refine (congrArg (View.canon _) (idx_rows (M := 384) (N := 1024) (m := 32) (o := 320) inb_S384x1024_S32x1024_320_0 q s (⟨320 + q.val, by omega⟩ : Fin 384) rfl)).trans ?_
  exact acc_apply c M1 M2 M3 M4 M12 f1 f2 f3 f4 _ s

theorem readK (M13 : Memref sig .tc .vmem S64x1024 .f32) (q : Fin 32) (s : Fin 1024) :
    M13.view.read (Elt Idealize.ShloMosaic.Ideal) (leftQK c M1 M2 M3 M4 M5 M12 M13 f1 f2 f3 f4 f5) (ix2 (⟨32 + q.val, by omega⟩ : Fin 64) s)
      = (rowSum (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) (⟨352 + q.val, by omega⟩ : Fin 384) s
          * M5.view.read (Elt Idealize.ShloMosaic.Ideal) f5 (ix3 (0 : Fin 1) (0 : Fin 1) (⟨352 + q.val, by omega⟩ : Fin 512))
          + M5.view.read (Elt Idealize.ShloMosaic.Ideal) f5 (ix3 (0 : Fin 1) (0 : Fin 1) (⟨384 + q.val, by omega⟩ : Fin 512)) : EReal) := by
  unfold leftQK
  refine (View.read_writes_junk_apply_eq_canon M13.view _ _).trans ?_
  rw [pieces13]
  refine (canon_rows (Val := Elt Idealize.ShloMosaic.Ideal) (M := 64) (N := 1024) (m := 32) (o := 32) inb_S64x1024_S32x1024_32_0 _ _ q s (⟨32 + q.val, by omega⟩ : Fin 64) rfl).trans ?_
  refine (pay1_apply _ _ q s).trans ?_
  refine congrArg₂ (fun p z : EReal => p + z) ?_ (scl_apply c M5 f5 _)
  refine (pay472_apply _ _ q s).trans ?_
  rw [View.readCov_eq_canon']
  refine congrArg₂ (fun p z : EReal => p * z) ?_ (scl_apply c M5 f5 _)
  refine (congrArg (View.canon _) (idx_rows (M := 384) (N := 1024) (m := 32) (o := 352) inb_S384x1024_S32x1024_352_0 q s (⟨352 + q.val, by omega⟩ : Fin 384) rfl)).trans ?_
  exact acc_apply c M1 M2 M3 M4 M12 f1 f2 f3 f4 _ s

theorem readV (M14 : Memref sig .tc .vmem S320x1024 .bf16) (r : Fin 320) (s : Fin 1024) :
    M14.view.read (Elt Idealize.ShloMosaic.Ideal) (leftV c M1 M2 M3 M4 M5 M12 M14 f1 f2 f3 f4 f5) (ix2 r s)
      = (rowSum (M2.view.read (Elt Idealize.ShloMosaic.Ideal) f2) (M3.view.read (Elt Idealize.ShloMosaic.Ideal) f3) (M4.view.read (Elt Idealize.ShloMosaic.Ideal) f4) (M1.view.read (Elt Idealize.ShloMosaic.Ideal) f1) (⟨r.val, by omega⟩ : Fin 384) s
          * M5.view.read (Elt Idealize.ShloMosaic.Ideal) f5 (ix3 (0 : Fin 1) (0 : Fin 1) (⟨r.val, by omega⟩ : Fin 512)) : EReal) := by
  unfold leftV
  refine (View.read_writes_junk_apply_eq_canon M14.view _ _).trans ?_
  rw [pieces14]
  refine (canon_rows (Val := Elt Idealize.ShloMosaic.Ideal) (M := 320) (N := 1024) (m := 320) (o := 0) inb_S320x1024_S320x1024_0_0 _ _ r s r (Nat.zero_add _).symm).trans ?_
  refine (pay470_apply _ _ r s).trans ?_
  rw [View.readCov_eq_canon']
  refine congrArg₂ (fun p z : EReal => p * z) ?_ (scl_apply c M5 f5 _)
  refine (congrArg (View.canon _) (idx_rows (M := 384) (N := 1024) (m := 320) (o := 0) inb_S384x1024_S320x1024_0_0 r s (⟨r.val, by omega⟩ : Fin 384) (Nat.zero_add _).symm)).trans ?_
  exact acc_apply c M1 M2 M3 M4 M12 f1 f2 f3 f4 _ s

end Values

end Cert.KernelIdeal.Hand

end
-- ==== Proof.Blocks.lean ====
/-
  The blocks the body leaves in the code and scale windows' buffers, and in the values' window: on the extended reals,
  at an index, in terms of the scaled queries and keys the scratch held.
-/
module

public import proofs.«01_k».proof.Proof.Quant
public import Idealize.ShloMosaic.Lib.WritesUnit

@[expose] public section

noncomputable section

namespace Cert.Quantiser

open Cert.KernelIdeal Cert.KernelIdeal.Gen Cert.KernelIdeal.Hand
open Idealize.ShloMosaic Idealize.ShloMosaic.TcCoe

/-- The codes of a block: batch `y 0`, head `y 1`, feature `y 2`, position `y 3`; `g` is 0 for queries, 1 for keys. -/
def codesBlock (g : Fin 2) (Q : S64x1024.Idx → Ideal .f32) (b : Fin 4) (h : Fin 2) (r : Fin 16) (s : Fin 256) : Ideal .fp8e4m3 :=
  codeOf (rowMax fun k => Q (ix2 (⟨16 * h.val + 32 * g.val + k.val, by omega⟩ : Fin 64) (⟨256 * b.val + s.val, by omega⟩ : Fin 1024)))
    (Q (ix2 (⟨16 * h.val + 32 * g.val + r.val, by omega⟩ : Fin 64) (⟨256 * b.val + s.val, by omega⟩ : Fin 1024)))

/-- The scales of a block. -/
def scalesBlock (g : Fin 2) (Q : S64x1024.Idx → Ideal .f32) (b : Fin 4) (h : Fin 2) (s : Fin 256) : Ideal .f32 :=
  scaleOf (rowMax fun k => Q (ix2 (⟨16 * h.val + 32 * g.val + k.val, by omega⟩ : Fin 64) (⟨256 * b.val + s.val, by omega⟩ : Fin 1024)))

/-- An index of a block of codes, from its coordinates. -/
theorem idx_slice (g : Fin 2) (b : Fin 4) (h : Fin 2) (inb : ∀ a : Fin 2, ![16 * h.val + 32 * g.val, 256 * b.val] a + S16x256.size a ≤ S64x1024.size a)
    (r : Fin 16) (s : Fin 256) :
    (Rect.unit (s := S64x1024) ![16 * h.val + 32 * g.val, 256 * b.val] S16x256.size inb).toLoadRect.idx (ix2 r s)
      = ix2 (⟨16 * h.val + 32 * g.val + r.val, by omega⟩ : Fin 64) (⟨256 * b.val + s.val, by omega⟩ : Fin 1024) := by
  funext a
  apply Fin.ext
  match a with
  | ⟨0, _⟩ => show 16 * h.val + 32 * g.val + 1 * r.val = 16 * h.val + 32 * g.val + r.val; omega
  | ⟨1, _⟩ => show 256 * b.val + 1 * s.val = 256 * b.val + s.val; omega

/-- One piece of codes at its index. -/
theorem piece_code (g : Fin 2) (b : Fin 4) (h : Fin 2) (Q : S64x1024.Idx → Ideal .f32)
    (inb : ∀ a : Fin 2, ![16 * h.val + 32 * g.val, 256 * b.val] a + S16x256.size a ≤ S64x1024.size a)
    (inb' : ∀ a : Fin 4, ![b.val, h.val, 0, 0] a + S1x1x16x256.size a ≤ S4x2x16x256.size a) (x : S1x1x16x256.Idx) :
    k0_pay21 (quantCodes (F := Ideal) (fun j => Q ((Rect.unit (s := S64x1024) ![16 * h.val + 32 * g.val, 256 * b.val] S16x256.size inb).toLoadRect.idx j))) x
      = (fun y : S4x2x16x256.Idx => codesBlock g Q (y 0) (y 1) (y 2) (y 3)) ((Rect.unit (s := S4x2x16x256) ![b.val, h.val, 0, 0] S1x1x16x256.size inb').emb x) := by
  have h0 : (x 0).val < 1 := (x 0).isLt
  have h1 : (x 1).val < 1 := (x 1).isLt
  have e0 : (Rect.unit (s := S4x2x16x256) ![b.val, h.val, 0, 0] S1x1x16x256.size inb').emb x 0 = b := by
    apply Fin.ext; show b.val + 1 * (x 0).val = b.val; omega
  have e1 : (Rect.unit (s := S4x2x16x256) ![b.val, h.val, 0, 0] S1x1x16x256.size inb').emb x 1 = h := by
    apply Fin.ext; show h.val + 1 * (x 1).val = h.val; omega
  have e2 : (Rect.unit (s := S4x2x16x256) ![b.val, h.val, 0, 0] S1x1x16x256.size inb').emb x 2 = x 2 := by
    apply Fin.ext; show 0 + 1 * (x 2).val = (x 2).val; omega
  have e3 : (Rect.unit (s := S4x2x16x256) ![b.val, h.val, 0, 0] S1x1x16x256.size inb').emb x 3 = x 3 := by
    apply Fin.ext; show 0 + 1 * (x 3).val = (x 3).val; omega
  unfold k0_pay21
  dsimp only
  refine (shapeCast_apply _ _ x (ix2 (x 2) (x 3)) ?_).trans ?_
  · simp only [Shape.rowMajor_val_two, Shape.rowMajor_val_four]
    show (x 2).val * 256 + (x 3).val = (((x 0).val * 1 + (x 1).val) * 16 + (x 2).val) * 256 + (x 3).val
    omega
  refine (quantCodes_apply _ (x 2) (x 3)).trans ?_
  beta_reduce
  rw [e0, e1, e2, e3]
  unfold codesBlock
  refine congrArg₂ codeOf (congrArg rowMax (funext fun k => congrArg Q (idx_slice g b h inb k (x 3)))) (congrArg Q (idx_slice g b h inb (x 2) (x 3)))

/-- One piece of scales at its index. -/
theorem piece_scale (g : Fin 2) (b : Fin 4) (h : Fin 2) (p : Nat) (Q : S64x1024.Idx → Ideal .f32)
    (inb : ∀ a : Fin 2, ![16 * h.val + 32 * g.val, 256 * b.val] a + S16x256.size a ≤ S64x1024.size a)
    (off : Fin 3 → Nat) (hoff : off = ![b.val, p * 2 + h.val, 0])
    (inb' : ∀ a : Fin 3, off a + S1x1x256.size a ≤ S4x8x256.size a) (x : S1x1x256.Idx) :
    k0_pay23 (quantScale (F := Ideal) (fun j => Q ((Rect.unit (s := S64x1024) ![16 * h.val + 32 * g.val, 256 * b.val] S16x256.size inb).toLoadRect.idx j))) x
      = (fun y : S4x8x256.Idx => scalesBlock g Q (y 0) (⟨(y 1).val % 2, Nat.mod_lt _ (by decide)⟩) (y 2)) ((Rect.unit (s := S4x8x256) off S1x1x256.size inb').emb x) := by
  subst hoff
  have h0 : (x 0).val < 1 := (x 0).isLt
  have h1 : (x 1).val < 1 := (x 1).isLt
  have e0 : (Rect.unit (s := S4x8x256) ![b.val, p * 2 + h.val, 0] S1x1x256.size inb').emb x 0 = b := by
    apply Fin.ext; show b.val + 1 * (x 0).val = b.val; omega
  have e1 : (⟨((Rect.unit (s := S4x8x256) ![b.val, p * 2 + h.val, 0] S1x1x256.size inb').emb x 1).val % 2, Nat.mod_lt _ (by decide)⟩ : Fin 2) = h := by
    apply Fin.ext; show (p * 2 + h.val + 1 * (x 1).val) % 2 = h.val; omega
  have e2 : (Rect.unit (s := S4x8x256) ![b.val, p * 2 + h.val, 0] S1x1x256.size inb').emb x 2 = x 2 := by
    apply Fin.ext; show 0 + 1 * (x 2).val = (x 2).val; omega
  unfold k0_pay23
  dsimp only
  refine (shapeCast_apply _ _ x (ix2 (0 : Fin 1) (x 2)) ?_).trans ?_
  · simp only [Shape.rowMajor_val_two, Shape.rowMajor_val_three]
    show 0 * 256 + (x 2).val = ((x 0).val * 1 + (x 1).val) * 256 + (x 2).val
    omega
  refine (quantScale_apply _ (x 2)).trans ?_
  beta_reduce
  rw [e0, e1, e2]
  unfold scalesBlock
  exact congrArg scaleOf (congrArg rowMax (funext fun k => congrArg Q (idx_slice g b h inb k (x 2))))

theorem canon7 (c : Dev nD) (i : grid0.Coords) (M13 : Memref sig .tc .vmem S64x1024 .f32) (f13 : Bf (F := Ideal) c M13) :
    View.canon (kernelRun.sl.H7_8 (F := Ideal) c i M13 f13)
      = fun y : S4x2x16x256.Idx => codesBlock 0 (M13.view.read (Elt Ideal) (start13 c i M13 f13)) (y 0) (y 1) (y 2) (y 3) := by
  rw [codes7]
  funext y
  refine View.canon_apply_of_pieces (Val := Elt Ideal) (e := .fp8e4m3) (fun y : S4x2x16x256.Idx => codesBlock 0 (M13.view.read (Elt Ideal) (start13 c i M13 f13)) (y 0) (y 1) (y 2) (y 3)) _ ?_ y
    (View.cover_of_tiled _ ![1, 1, 16, 256] (by rfl) y)
  intro p hp
  simp only [List.mem_cons, List.not_mem_nil, or_false] at hp
  rcases hp with rfl | rfl | rfl | rfl | rfl | rfl | rfl | rfl
  · exact fun x => piece_code 0 3 1 (M13.view.read (Elt Ideal) (start13 c i M13 f13)) inb_S64x1024_S16x256_16_768 inb_S4x2x16x256_S1x1x16x256_3_1_0_0 x
  · exact fun x => piece_code 0 3 0 (M13.view.read (Elt Ideal) (start13 c i M13 f13)) inb_S64x1024_S16x256_0_768 inb_S4x2x16x256_S1x1x16x256_3_0_0_0 x
  · exact fun x => piece_code 0 2 1 (M13.view.read (Elt Ideal) (start13 c i M13 f13)) inb_S64x1024_S16x256_16_512 inb_S4x2x16x256_S1x1x16x256_2_1_0_0 x
  · exact fun x => piece_code 0 2 0 (M13.view.read (Elt Ideal) (start13 c i M13 f13)) inb_S64x1024_S16x256_0_512 inb_S4x2x16x256_S1x1x16x256_2_0_0_0 x
  · exact fun x => piece_code 0 1 1 (M13.view.read (Elt Ideal) (start13 c i M13 f13)) inb_S64x1024_S16x256_16_256 inb_S4x2x16x256_S1x1x16x256_1_1_0_0 x
  · exact fun x => piece_code 0 1 0 (M13.view.read (Elt Ideal) (start13 c i M13 f13)) inb_S64x1024_S16x256_0_256 inb_S4x2x16x256_S1x1x16x256_1_0_0_0 x
  · exact fun x => piece_code 0 0 1 (M13.view.read (Elt Ideal) (start13 c i M13 f13)) inb_S64x1024_S16x256_16_0 inb_S4x2x16x256_S1x1x16x256_0_1_0_0 x
  · exact fun x => piece_code 0 0 0 (M13.view.read (Elt Ideal) (start13 c i M13 f13)) inb_S64x1024_S16x256_0_0 inb_S4x2x16x256_S1x1x16x256_0_0_0_0 x

theorem canon9 (c : Dev nD) (i : grid0.Coords) (M13 : Memref sig .tc .vmem S64x1024 .f32) (f13 : Bf (F := Ideal) c M13) :
    View.canon (kernelRun.sl.H9_8 (F := Ideal) c i M13 f13)
      = fun y : S4x2x16x256.Idx => codesBlock 1 (M13.view.read (Elt Ideal) (start13 c i M13 f13)) (y 0) (y 1) (y 2) (y 3) := by
  rw [codes9]
  funext y
  refine View.canon_apply_of_pieces (Val := Elt Ideal) (e := .fp8e4m3) (fun y : S4x2x16x256.Idx => codesBlock 1 (M13.view.read (Elt Ideal) (start13 c i M13 f13)) (y 0) (y 1) (y 2) (y 3)) _ ?_ y
    (View.cover_of_tiled _ ![1, 1, 16, 256] (by rfl) y)
  intro p hp
  simp only [List.mem_cons, List.not_mem_nil, or_false] at hp
  rcases hp with rfl | rfl | rfl | rfl | rfl | rfl | rfl | rfl
  · exact fun x => piece_code 1 3 1 (M13.view.read (Elt Ideal) (start13 c i M13 f13)) inb_S64x1024_S16x256_48_768 inb_S4x2x16x256_S1x1x16x256_3_1_0_0 x
  · exact fun x => piece_code 1 3 0 (M13.view.read (Elt Ideal) (start13 c i M13 f13)) inb_S64x1024_S16x256_32_768 inb_S4x2x16x256_S1x1x16x256_3_0_0_0 x
  · exact fun x => piece_code 1 2 1 (M13.view.read (Elt Ideal) (start13 c i M13 f13)) inb_S64x1024_S16x256_48_512 inb_S4x2x16x256_S1x1x16x256_2_1_0_0 x
  · exact fun x => piece_code 1 2 0 (M13.view.read (Elt Ideal) (start13 c i M13 f13)) inb_S64x1024_S16x256_32_512 inb_S4x2x16x256_S1x1x16x256_2_0_0_0 x
  · exact fun x => piece_code 1 1 1 (M13.view.read (Elt Ideal) (start13 c i M13 f13)) inb_S64x1024_S16x256_48_256 inb_S4x2x16x256_S1x1x16x256_1_1_0_0 x
  · exact fun x => piece_code 1 1 0 (M13.view.read (Elt Ideal) (start13 c i M13 f13)) inb_S64x1024_S16x256_32_256 inb_S4x2x16x256_S1x1x16x256_1_0_0_0 x
  · exact fun x => piece_code 1 0 1 (M13.view.read (Elt Ideal) (start13 c i M13 f13)) inb_S64x1024_S16x256_48_0 inb_S4x2x16x256_S1x1x16x256_0_1_0_0 x
  · exact fun x => piece_code 1 0 0 (M13.view.read (Elt Ideal) (start13 c i M13 f13)) inb_S64x1024_S16x256_32_0 inb_S4x2x16x256_S1x1x16x256_0_0_0_0 x

theorem mem_scale {off : Fin 3 → Nat} {b p h : Nat} {y : S4x8x256.Idx} (inb : ∀ a : Fin 3, off a + S1x1x256.size a ≤ S4x8x256.size a)
    (hoff : off = ![b, p * 2 + h, 0]) (hb : (y 0).val = b) (hh : (y 1).val = p * 2 + h) (w : S1x1x256.Idx → Elt Ideal .f32) :
    y ∈ ((⟨Rect.unit (s := S4x8x256) off S1x1x256.size inb, w⟩ : View.Piece (Elt Ideal) S4x8x256 .f32)).1.set := by
  subst hoff
  refine (Rect.mem_set_unit (inb := inb)).2 fun a => ?_
  have hy2 : (y 2).val < 256 := (y 2).isLt
  match a with
  | ⟨0, _⟩ => exact ⟨hb.ge, (by show (y 0).val < b + 1; omega)⟩
  | ⟨1, _⟩ => exact ⟨hh.ge, (by show (y 1).val < p * 2 + h + 1; omega)⟩
  | ⟨2, _⟩ => exact ⟨Nat.zero_le _, (by show (y 2).val < 0 + 256; omega)⟩

theorem not_mem_scale {b p : Nat} {h : Fin 2} {y : S4x8x256.Idx} (hp : ¬ (y 1).val / 2 = p) :
    (y 1).val < ![b, p * 2 + h.val, 0] 1 ∨ ![b, p * 2 + h.val, 0] 1 + S1x1x256.size 1 ≤ (y 1).val := by
  show (y 1).val < p * 2 + h.val ∨ p * 2 + h.val + 1 ≤ (y 1).val
  have := h.isLt
  omega

theorem off1_0 (i : grid0.Coords) : k0_off1 i 0#32 = ![0, prv i % 4 * 2 + 0, 0] := ClosedOff.eq
theorem off1_1 (i : grid0.Coords) : k0_off1 i 1#32 = ![0, prv i % 4 * 2 + 1, 0] := ClosedOff.eq
theorem off4_0 (i : grid0.Coords) : k0_off4 i 0#32 = ![1, prv i % 4 * 2 + 0, 0] := ClosedOff.eq
theorem off4_1 (i : grid0.Coords) : k0_off4 i 1#32 = ![1, prv i % 4 * 2 + 1, 0] := ClosedOff.eq
theorem off7_0 (i : grid0.Coords) : k0_off7 i 0#32 = ![2, prv i % 4 * 2 + 0, 0] := ClosedOff.eq
theorem off7_1 (i : grid0.Coords) : k0_off7 i 1#32 = ![2, prv i % 4 * 2 + 1, 0] := ClosedOff.eq
theorem off10_0 (i : grid0.Coords) : k0_off10 i 0#32 = ![3, prv i % 4 * 2 + 0, 0] := ClosedOff.eq
theorem off10_1 (i : grid0.Coords) : k0_off10 i 1#32 = ![3, prv i % 4 * 2 + 1, 0] := ClosedOff.eq

/-- The scales' block after the body: this point's two heads are set, the others are what they were. -/
theorem read8 (c : Dev nD) (i : grid0.Coords) (M13 : Memref sig .tc .vmem S64x1024 .f32) (f13 : Bf (F := Ideal) c M13)
    (M : Memref sig .tc .vmem S4x8x256 .f32) (f : Bf (F := Ideal) c M) (y : S4x8x256.Idx) :
    M.view.read (Elt Ideal) (M.view.writes (Elt Ideal) f (kernelRun.sl.H8_8 (F := Ideal) c i M13 f13)) y
      = if (y 1).val / 2 = prv i % 4 then
          scalesBlock 0 (M13.view.read (Elt Ideal) (start13 c i M13 f13)) (y 0) (⟨(y 1).val % 2, Nat.mod_lt _ (by decide)⟩) (y 2)
        else M.view.read (Elt Ideal) f y := by
  obtain ⟨e1, e2, e3, e4, e5, e6, e7, e8, h⟩ := scales8 (F := Ideal) c i M13 f13
  rw [h]
  have hy0 : (y 0).val < 4 := (y 0).isLt
  have hy1 : (y 1).val < 8 := (y 1).isLt
  have hy2 : (y 2).val < 256 := (y 2).isLt
  by_cases hp : (y 1).val / 2 = prv i % 4
  · rw [if_pos hp]
    refine (View.read_writes_apply_eq_canon M.view f y _ ?_).trans ?_
    · have hb : (y 0).val = 0 ∨ (y 0).val = 1 ∨ (y 0).val = 2 ∨ (y 0).val = 3 := by omega
      have hh : (y 1).val % 2 = 0 ∨ (y 1).val % 2 = 1 := by omega
      rcases hb with hb | hb | hb | hb <;> rcases hh with hh | hh
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_scale (y := y) e8 (off1_0 i) hb (by omega) _⟩
      · exact ⟨_, List.mem_cons_of_mem _ (List.mem_cons_of_mem _ (List.mem_cons_of_mem _ (List.mem_cons_of_mem _ (List.mem_cons_of_mem _ (List.mem_cons_of_mem _ List.mem_cons_self))))), mem_scale (y := y) e7 (off1_1 i) hb (by omega) _⟩
      · exact ⟨_, List.mem_cons_of_mem _ (List.mem_cons_of_mem _ (List.mem_cons_of_mem _ (List.mem_cons_of_mem _ (List.mem_cons_of_mem _ List.mem_cons_self)))), mem_scale (y := y) e6 (off4_0 i) hb (by omega) _⟩
      · exact ⟨_, List.mem_cons_of_mem _ (List.mem_cons_of_mem _ (List.mem_cons_of_mem _ (List.mem_cons_of_mem _ List.mem_cons_self))), mem_scale (y := y) e5 (off4_1 i) hb (by omega) _⟩
      · exact ⟨_, List.mem_cons_of_mem _ (List.mem_cons_of_mem _ (List.mem_cons_of_mem _ List.mem_cons_self)), mem_scale (y := y) e4 (off7_0 i) hb (by omega) _⟩
      · exact ⟨_, List.mem_cons_of_mem _ (List.mem_cons_of_mem _ List.mem_cons_self), mem_scale (y := y) e3 (off7_1 i) hb (by omega) _⟩
      · exact ⟨_, List.mem_cons_of_mem _ List.mem_cons_self, mem_scale (y := y) e2 (off10_0 i) hb (by omega) _⟩
      · exact ⟨_, List.mem_cons_self, mem_scale (y := y) e1 (off10_1 i) hb (by omega) _⟩
    · refine View.canon_apply_of_pieces (Val := Elt Ideal) (e := .f32) (fun y : S4x8x256.Idx => scalesBlock 0 (M13.view.read (Elt Ideal) (start13 c i M13 f13)) (y 0) (⟨(y 1).val % 2, Nat.mod_lt _ (by decide)⟩) (y 2)) _ ?_ y ?_
      · intro p hp
        simp only [List.mem_cons, List.not_mem_nil, or_false] at hp
        rcases hp with rfl | rfl | rfl | rfl | rfl | rfl | rfl | rfl
        · exact fun x => piece_scale 0 3 1 (prv i % 4) (M13.view.read (Elt Ideal) (start13 c i M13 f13)) inb_S64x1024_S16x256_16_768 _ (off10_1 i) e1 x
        · exact fun x => piece_scale 0 3 0 (prv i % 4) (M13.view.read (Elt Ideal) (start13 c i M13 f13)) inb_S64x1024_S16x256_0_768 _ (off10_0 i) e2 x
        · exact fun x => piece_scale 0 2 1 (prv i % 4) (M13.view.read (Elt Ideal) (start13 c i M13 f13)) inb_S64x1024_S16x256_16_512 _ (off7_1 i) e3 x
        · exact fun x => piece_scale 0 2 0 (prv i % 4) (M13.view.read (Elt Ideal) (start13 c i M13 f13)) inb_S64x1024_S16x256_0_512 _ (off7_0 i) e4 x
        · exact fun x => piece_scale 0 1 1 (prv i % 4) (M13.view.read (Elt Ideal) (start13 c i M13 f13)) inb_S64x1024_S16x256_16_256 _ (off4_1 i) e5 x
        · exact fun x => piece_scale 0 1 0 (prv i % 4) (M13.view.read (Elt Ideal) (start13 c i M13 f13)) inb_S64x1024_S16x256_0_256 _ (off4_0 i) e6 x
        · exact fun x => piece_scale 0 0 1 (prv i % 4) (M13.view.read (Elt Ideal) (start13 c i M13 f13)) inb_S64x1024_S16x256_16_0 _ (off1_1 i) e7 x
        · exact fun x => piece_scale 0 0 0 (prv i % 4) (M13.view.read (Elt Ideal) (start13 c i M13 f13)) inb_S64x1024_S16x256_0_0 _ (off1_0 i) e8 x
      · have hb : (y 0).val = 0 ∨ (y 0).val = 1 ∨ (y 0).val = 2 ∨ (y 0).val = 3 := by omega
        have hh : (y 1).val % 2 = 0 ∨ (y 1).val % 2 = 1 := by omega
        rcases hb with hb | hb | hb | hb <;> rcases hh with hh | hh
        · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_scale (y := y) e8 (off1_0 i) hb (by omega) _⟩
        · exact ⟨_, List.mem_cons_of_mem _ (List.mem_cons_of_mem _ (List.mem_cons_of_mem _ (List.mem_cons_of_mem _ (List.mem_cons_of_mem _ (List.mem_cons_of_mem _ List.mem_cons_self))))), mem_scale (y := y) e7 (off1_1 i) hb (by omega) _⟩
        · exact ⟨_, List.mem_cons_of_mem _ (List.mem_cons_of_mem _ (List.mem_cons_of_mem _ (List.mem_cons_of_mem _ (List.mem_cons_of_mem _ List.mem_cons_self)))), mem_scale (y := y) e6 (off4_0 i) hb (by omega) _⟩
        · exact ⟨_, List.mem_cons_of_mem _ (List.mem_cons_of_mem _ (List.mem_cons_of_mem _ (List.mem_cons_of_mem _ List.mem_cons_self))), mem_scale (y := y) e5 (off4_1 i) hb (by omega) _⟩
        · exact ⟨_, List.mem_cons_of_mem _ (List.mem_cons_of_mem _ (List.mem_cons_of_mem _ List.mem_cons_self)), mem_scale (y := y) e4 (off7_0 i) hb (by omega) _⟩
        · exact ⟨_, List.mem_cons_of_mem _ (List.mem_cons_of_mem _ List.mem_cons_self), mem_scale (y := y) e3 (off7_1 i) hb (by omega) _⟩
        · exact ⟨_, List.mem_cons_of_mem _ List.mem_cons_self, mem_scale (y := y) e2 (off10_0 i) hb (by omega) _⟩
        · exact ⟨_, List.mem_cons_self, mem_scale (y := y) e1 (off10_1 i) hb (by omega) _⟩
  · rw [if_neg hp]
    refine (View.read_writes_cons_unit_of_not_mem M.view f _ _ _ y (off10_1 i) 1 (not_mem_scale (h := 1) hp)).trans ?_
    refine (View.read_writes_cons_unit_of_not_mem M.view f _ _ _ y (off10_0 i) 1 (not_mem_scale (h := 0) hp)).trans ?_
    refine (View.read_writes_cons_unit_of_not_mem M.view f _ _ _ y (off7_1 i) 1 (not_mem_scale (h := 1) hp)).trans ?_
    refine (View.read_writes_cons_unit_of_not_mem M.view f _ _ _ y (off7_0 i) 1 (not_mem_scale (h := 0) hp)).trans ?_
    refine (View.read_writes_cons_unit_of_not_mem M.view f _ _ _ y (off4_1 i) 1 (not_mem_scale (h := 1) hp)).trans ?_
    refine (View.read_writes_cons_unit_of_not_mem M.view f _ _ _ y (off4_0 i) 1 (not_mem_scale (h := 0) hp)).trans ?_
    refine (View.read_writes_cons_unit_of_not_mem M.view f _ _ _ y (off1_1 i) 1 (not_mem_scale (h := 1) hp)).trans ?_
    refine (View.read_writes_cons_unit_of_not_mem M.view f _ _ _ y (off1_0 i) 1 (not_mem_scale (h := 0) hp)).trans ?_
    rfl

/-- The scales' block after the body: this point's two heads are set, the others are what they were. -/
theorem read10 (c : Dev nD) (i : grid0.Coords) (M13 : Memref sig .tc .vmem S64x1024 .f32) (f13 : Bf (F := Ideal) c M13)
    (M : Memref sig .tc .vmem S4x8x256 .f32) (f : Bf (F := Ideal) c M) (y : S4x8x256.Idx) :
    M.view.read (Elt Ideal) (M.view.writes (Elt Ideal) f (kernelRun.sl.H10_8 (F := Ideal) c i M13 f13)) y
      = if (y 1).val / 2 = prv i % 4 then
          scalesBlock 1 (M13.view.read (Elt Ideal) (start13 c i M13 f13)) (y 0) (⟨(y 1).val % 2, Nat.mod_lt _ (by decide)⟩) (y 2)
        else M.view.read (Elt Ideal) f y := by
  obtain ⟨e1, e2, e3, e4, e5, e6, e7, e8, h⟩ := scales10 (F := Ideal) c i M13 f13
  rw [h]
  have hy0 : (y 0).val < 4 := (y 0).isLt
  have hy1 : (y 1).val < 8 := (y 1).isLt
  have hy2 : (y 2).val < 256 := (y 2).isLt
  by_cases hp : (y 1).val / 2 = prv i % 4
  · rw [if_pos hp]
    refine (View.read_writes_apply_eq_canon M.view f y _ ?_).trans ?_
    · have hb : (y 0).val = 0 ∨ (y 0).val = 1 ∨ (y 0).val = 2 ∨ (y 0).val = 3 := by omega
      have hh : (y 1).val % 2 = 0 ∨ (y 1).val % 2 = 1 := by omega
      rcases hb with hb | hb | hb | hb <;> rcases hh with hh | hh
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_scale (y := y) e8 (off1_0 i) hb (by omega) _⟩
      · exact ⟨_, List.mem_cons_of_mem _ (List.mem_cons_of_mem _ (List.mem_cons_of_mem _ (List.mem_cons_of_mem _ (List.mem_cons_of_mem _ (List.mem_cons_of_mem _ List.mem_cons_self))))), mem_scale (y := y) e7 (off1_1 i) hb (by omega) _⟩
      · exact ⟨_, List.mem_cons_of_mem _ (List.mem_cons_of_mem _ (List.mem_cons_of_mem _ (List.mem_cons_of_mem _ (List.mem_cons_of_mem _ List.mem_cons_self)))), mem_scale (y := y) e6 (off4_0 i) hb (by omega) _⟩
      · exact ⟨_, List.mem_cons_of_mem _ (List.mem_cons_of_mem _ (List.mem_cons_of_mem _ (List.mem_cons_of_mem _ List.mem_cons_self))), mem_scale (y := y) e5 (off4_1 i) hb (by omega) _⟩
      · exact ⟨_, List.mem_cons_of_mem _ (List.mem_cons_of_mem _ (List.mem_cons_of_mem _ List.mem_cons_self)), mem_scale (y := y) e4 (off7_0 i) hb (by omega) _⟩
      · exact ⟨_, List.mem_cons_of_mem _ (List.mem_cons_of_mem _ List.mem_cons_self), mem_scale (y := y) e3 (off7_1 i) hb (by omega) _⟩
      · exact ⟨_, List.mem_cons_of_mem _ List.mem_cons_self, mem_scale (y := y) e2 (off10_0 i) hb (by omega) _⟩
      · exact ⟨_, List.mem_cons_self, mem_scale (y := y) e1 (off10_1 i) hb (by omega) _⟩
    · refine View.canon_apply_of_pieces (Val := Elt Ideal) (e := .f32) (fun y : S4x8x256.Idx => scalesBlock 1 (M13.view.read (Elt Ideal) (start13 c i M13 f13)) (y 0) (⟨(y 1).val % 2, Nat.mod_lt _ (by decide)⟩) (y 2)) _ ?_ y ?_
      · intro p hp
        simp only [List.mem_cons, List.not_mem_nil, or_false] at hp
        rcases hp with rfl | rfl | rfl | rfl | rfl | rfl | rfl | rfl
        · exact fun x => piece_scale 1 3 1 (prv i % 4) (M13.view.read (Elt Ideal) (start13 c i M13 f13)) inb_S64x1024_S16x256_48_768 _ (off10_1 i) e1 x
        · exact fun x => piece_scale 1 3 0 (prv i % 4) (M13.view.read (Elt Ideal) (start13 c i M13 f13)) inb_S64x1024_S16x256_32_768 _ (off10_0 i) e2 x
        · exact fun x => piece_scale 1 2 1 (prv i % 4) (M13.view.read (Elt Ideal) (start13 c i M13 f13)) inb_S64x1024_S16x256_48_512 _ (off7_1 i) e3 x
        · exact fun x => piece_scale 1 2 0 (prv i % 4) (M13.view.read (Elt Ideal) (start13 c i M13 f13)) inb_S64x1024_S16x256_32_512 _ (off7_0 i) e4 x
        · exact fun x => piece_scale 1 1 1 (prv i % 4) (M13.view.read (Elt Ideal) (start13 c i M13 f13)) inb_S64x1024_S16x256_48_256 _ (off4_1 i) e5 x
        · exact fun x => piece_scale 1 1 0 (prv i % 4) (M13.view.read (Elt Ideal) (start13 c i M13 f13)) inb_S64x1024_S16x256_32_256 _ (off4_0 i) e6 x
        · exact fun x => piece_scale 1 0 1 (prv i % 4) (M13.view.read (Elt Ideal) (start13 c i M13 f13)) inb_S64x1024_S16x256_48_0 _ (off1_1 i) e7 x
        · exact fun x => piece_scale 1 0 0 (prv i % 4) (M13.view.read (Elt Ideal) (start13 c i M13 f13)) inb_S64x1024_S16x256_32_0 _ (off1_0 i) e8 x
      · have hb : (y 0).val = 0 ∨ (y 0).val = 1 ∨ (y 0).val = 2 ∨ (y 0).val = 3 := by omega
        have hh : (y 1).val % 2 = 0 ∨ (y 1).val % 2 = 1 := by omega
        rcases hb with hb | hb | hb | hb <;> rcases hh with hh | hh
        · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_scale (y := y) e8 (off1_0 i) hb (by omega) _⟩
        · exact ⟨_, List.mem_cons_of_mem _ (List.mem_cons_of_mem _ (List.mem_cons_of_mem _ (List.mem_cons_of_mem _ (List.mem_cons_of_mem _ (List.mem_cons_of_mem _ List.mem_cons_self))))), mem_scale (y := y) e7 (off1_1 i) hb (by omega) _⟩
        · exact ⟨_, List.mem_cons_of_mem _ (List.mem_cons_of_mem _ (List.mem_cons_of_mem _ (List.mem_cons_of_mem _ (List.mem_cons_of_mem _ List.mem_cons_self)))), mem_scale (y := y) e6 (off4_0 i) hb (by omega) _⟩
        · exact ⟨_, List.mem_cons_of_mem _ (List.mem_cons_of_mem _ (List.mem_cons_of_mem _ (List.mem_cons_of_mem _ List.mem_cons_self))), mem_scale (y := y) e5 (off4_1 i) hb (by omega) _⟩
        · exact ⟨_, List.mem_cons_of_mem _ (List.mem_cons_of_mem _ (List.mem_cons_of_mem _ List.mem_cons_self)), mem_scale (y := y) e4 (off7_0 i) hb (by omega) _⟩
        · exact ⟨_, List.mem_cons_of_mem _ (List.mem_cons_of_mem _ List.mem_cons_self), mem_scale (y := y) e3 (off7_1 i) hb (by omega) _⟩
        · exact ⟨_, List.mem_cons_of_mem _ List.mem_cons_self, mem_scale (y := y) e2 (off10_0 i) hb (by omega) _⟩
        · exact ⟨_, List.mem_cons_self, mem_scale (y := y) e1 (off10_1 i) hb (by omega) _⟩
  · rw [if_neg hp]
    refine (View.read_writes_cons_unit_of_not_mem M.view f _ _ _ y (off10_1 i) 1 (not_mem_scale (h := 1) hp)).trans ?_
    refine (View.read_writes_cons_unit_of_not_mem M.view f _ _ _ y (off10_0 i) 1 (not_mem_scale (h := 0) hp)).trans ?_
    refine (View.read_writes_cons_unit_of_not_mem M.view f _ _ _ y (off7_1 i) 1 (not_mem_scale (h := 1) hp)).trans ?_
    refine (View.read_writes_cons_unit_of_not_mem M.view f _ _ _ y (off7_0 i) 1 (not_mem_scale (h := 0) hp)).trans ?_
    refine (View.read_writes_cons_unit_of_not_mem M.view f _ _ _ y (off4_1 i) 1 (not_mem_scale (h := 1) hp)).trans ?_
    refine (View.read_writes_cons_unit_of_not_mem M.view f _ _ _ y (off4_0 i) 1 (not_mem_scale (h := 0) hp)).trans ?_
    refine (View.read_writes_cons_unit_of_not_mem M.view f _ _ _ y (off1_1 i) 1 (not_mem_scale (h := 1) hp)).trans ?_
    refine (View.read_writes_cons_unit_of_not_mem M.view f _ _ _ y (off1_0 i) 1 (not_mem_scale (h := 0) hp)).trans ?_
    rfl

end Cert.Quantiser

end
-- ==== Proof.Points.lean ====
/-
  What each grid point leaves, on the extended reals: the scratch holds the scaled queries, keys and values of the point's
  block, and the next point writes their codes, scales and values back.
-/
module

public import proofs.«01_k».proof.Proof.Scaled
public import proofs.«01_k».proof.Proof.Blocks
public import proofs.«01_k».proof.Proof.RefVal
public import proofs.«01_k».proof.Proof.Body

@[expose] public section

noncomputable section

namespace Cert.KernelIdeal.Hand

open Cert.KernelIdeal Cert.KernelIdeal.Gen
open Cert.ReferenceIdeal.Read (headSum queryAt keyAt valueAt codesOf scalesOf)
open Cert.Quantiser (codesBlock scalesBlock canon7 canon9 read8 read10 codeOf scaleOf rowMax)
open Idealize.ShloMosaic Idealize.ShloMosaic.TcCoe
open Idealize.ShloMosaic.Pipeline (RDat)
open scoped BigOperators

/-! ### The grid -/

theorem first_off : ∀ t : Fin cfg0.N, t.val ≠ 0 → ¬ kernelRun.sl.v24 (grid0.coords t) = 1#1 :=
  (by decide +kernel : ∀ t : Fin grid0.N, t.val ≠ 0 → ¬ kernelRun.sl.v24 (grid0.coords t) = 1#1)
theorem coord_eq : ∀ t : Fin cfg0.N, ((grid0.coords t) 0).val = t.val :=
  (by decide +kernel : ∀ t : Fin grid0.N, ((grid0.coords t) 0).val = t.val)
theorem index0 : ∀ t : Fin cfg0.N, win0_0.index t = ![0, 0] := (by decide +kernel : ∀ t : Fin grid0.N, win0_0.index t = ![0, 0])
theorem index1 : ∀ t : Fin cfg0.N, win0_1.index t = ![min t.val 47, 0] := (by decide +kernel : ∀ t : Fin grid0.N, win0_1.index t = ![min t.val 47, 0])
theorem index2 : ∀ t : Fin cfg0.N, win0_2.index t = ![min t.val 47, 0, 0] := (by decide +kernel : ∀ t : Fin grid0.N, win0_2.index t = ![min t.val 47, 0, 0])
theorem index3 : ∀ t : Fin cfg0.N, win0_3.index t = ![min t.val 47, 0, 0] := (by decide +kernel : ∀ t : Fin grid0.N, win0_3.index t = ![min t.val 47, 0, 0])
theorem index4 : ∀ t : Fin cfg0.N, win0_4.index t = ![min t.val 47, 0, 0] := (by decide +kernel : ∀ t : Fin grid0.N, win0_4.index t = ![min t.val 47, 0, 0])
theorem index6 : ∀ t : Fin cfg0.N, win0_6.index t = ![0, t.val - 1, 0, 0] := (by decide +kernel : ∀ t : Fin grid0.N, win0_6.index t = ![0, t.val - 1, 0, 0])
theorem index7 : ∀ t : Fin cfg0.N, win0_7.index t = ![0, (t.val - 1) / 4, 0] := (by decide +kernel : ∀ t : Fin grid0.N, win0_7.index t = ![0, (t.val - 1) / 4, 0])
theorem index8 : ∀ t : Fin cfg0.N, win0_8.index t = ![0, t.val - 1, 0, 0] := (by decide +kernel : ∀ t : Fin grid0.N, win0_8.index t = ![0, t.val - 1, 0, 0])
theorem index9 : ∀ t : Fin cfg0.N, win0_9.index t = ![0, (t.val - 1) / 4, 0] := (by decide +kernel : ∀ t : Fin grid0.N, win0_9.index t = ![0, (t.val - 1) / 4, 0])
theorem index10 : ∀ t : Fin cfg0.N, win0_10.index t = ![t.val - 1, 0] := (by decide +kernel : ∀ t : Fin grid0.N, win0_10.index t = ![t.val - 1, 0])
theorem flush6 : ∀ t : Fin cfg0.N, (cfg0.win 6).flush t = true ↔ t.val ≠ 0 := (by decide +kernel : ∀ t : Fin grid0.N, win0_6.flush t = true ↔ t.val ≠ 0)
theorem flush8 : ∀ t : Fin cfg0.N, (cfg0.win 8).flush t = true ↔ t.val ≠ 0 := (by decide +kernel : ∀ t : Fin grid0.N, win0_8.flush t = true ↔ t.val ≠ 0)
theorem flush10 : ∀ t : Fin cfg0.N, (cfg0.win 10).flush t = true ↔ t.val ≠ 0 := (by decide +kernel : ∀ t : Fin grid0.N, win0_10.flush t = true ↔ t.val ≠ 0)
theorem flush7 : ∀ t : Fin cfg0.N, (cfg0.win 7).flush t = true ↔ (t.val ≠ 0 ∧ t.val % 4 = 0) := (by decide +kernel : ∀ t : Fin grid0.N, win0_7.flush t = true ↔ (t.val ≠ 0 ∧ t.val % 4 = 0))
theorem flush9 : ∀ t : Fin cfg0.N, (cfg0.win 9).flush t = true ↔ (t.val ≠ 0 ∧ t.val % 4 = 0) := (by decide +kernel : ∀ t : Fin grid0.N, win0_9.flush t = true ↔ (t.val ≠ 0 ∧ t.val % 4 = 0))
theorem fetch7 : ∀ t : Fin cfg0.N, (cfg0.win 7).fetch t = false := (by decide +kernel : ∀ t : Fin grid0.N, win0_7.fetch t = false)
theorem fetch9 : ∀ t : Fin cfg0.N, (cfg0.win 9).fetch t = false := (by decide +kernel : ∀ t : Fin grid0.N, win0_9.fetch t = false)

/-- A point, from its number. -/
abbrev pt' (n : Nat) (hn : n < 49) : Fin cfg0.N := ⟨n, hn⟩

section Rows

variable (wv : S320x15360.Idx → Idealize.ShloMosaic.Ideal .fp8e4m3) (wq wk : S2x16x15360.Idx → Idealize.ShloMosaic.Ideal .fp8e4m3) (X : S7680x1024.Idx → BitVec 32) (sc : S1x1x512.Idx → Idealize.ShloMosaic.Ideal .f32)
  (a1 : S15360x15360.Idx → Idealize.ShloMosaic.Ideal .fp8e4m3) (a2 a3 : S96x16x15360.Idx → Idealize.ShloMosaic.Ideal .fp8e4m3) (a4 : S48x1x512.Idx → Idealize.ShloMosaic.Ideal .f32) (n : Nat) (hn : n < 48)
  (hs : ∀ j : Fin 512, sc (ix3 (0 : Fin 1) (0 : Fin 1) j) = a4 (ix3 (⟨n, hn⟩ : Fin 48) (0 : Fin 1) j))

include hs in
theorem lane_eq (b : Fin 48) (j j' : Fin 512) (hb : b.val = n) (hj : j.val = j'.val) :
    sc (ix3 (0 : Fin 1) (0 : Fin 1) j) = a4 (ix3 b (0 : Fin 1) j') := by
  rw [hs]
  exact congrArg₂ (fun (b : Fin 48) (j : Fin 512) => a4 (ix3 b (0 : Fin 1) j)) (Fin.ext hb.symm) (Fin.ext hj)

theorem head_eq (hq : ∀ (h : Fin 2) (r : Fin 16) (k : Fin 15360), wq (ix3 h r k) = a2 (ix3 (⟨2 * n + h.val, by omega⟩ : Fin 96) r k)) (q : Fin 32) (s : Fin 1024) :
    rowSum wv wq wk X (⟨320 + q.val, by omega⟩ : Fin 384) s = headSum a2 X (⟨32 * n + q.val, by omega⟩ : Fin 1536) s := by
  unfold headSum
  refine Finset.sum_congr rfl fun k _ => congrArg (fun z : EReal => z * actAt X k s) ?_
  unfold weightAt
  rw [dif_neg (by show ¬ 320 + q.val < 320; omega), dif_pos (by show 320 + q.val < 352; omega), hq]
  exact congrArg₂ (fun (b : Fin 96) (j : Fin 16) => a2 (ix3 b j k)) (Fin.ext (by show 2 * n + (320 + q.val - 320) / 16 = (32 * n + q.val) / 16; omega))
    (Fin.ext (by show (320 + q.val - 320) % 16 = (32 * n + q.val) % 16; omega))

theorem head_eq' (hk : ∀ (h : Fin 2) (r : Fin 16) (k : Fin 15360), wk (ix3 h r k) = a3 (ix3 (⟨2 * n + h.val, by omega⟩ : Fin 96) r k)) (q : Fin 32) (s : Fin 1024) :
    rowSum wv wq wk X (⟨352 + q.val, by omega⟩ : Fin 384) s = headSum a3 X (⟨32 * n + q.val, by omega⟩ : Fin 1536) s := by
  unfold headSum
  refine Finset.sum_congr rfl fun k _ => congrArg (fun z : EReal => z * actAt X k s) ?_
  unfold weightAt
  rw [dif_neg (by show ¬ 352 + q.val < 320; omega), dif_neg (by show ¬ 352 + q.val < 352; omega), hk]
  exact congrArg₂ (fun (b : Fin 96) (j : Fin 16) => a3 (ix3 b j k)) (Fin.ext (by show 2 * n + (352 + q.val - 352) / 16 = (32 * n + q.val) / 16; omega))
    (Fin.ext (by show (352 + q.val - 352) % 16 = (32 * n + q.val) % 16; omega))

include hs in
theorem query_row (hq : ∀ (h : Fin 2) (r : Fin 16) (k : Fin 15360), wq (ix3 h r k) = a2 (ix3 (⟨2 * n + h.val, by omega⟩ : Fin 96) r k)) (q : Fin 32) (s : Fin 1024) :
    (rowSum wv wq wk X (⟨320 + q.val, by omega⟩ : Fin 384) s * sc (ix3 (0 : Fin 1) (0 : Fin 1) (⟨320 + q.val, by omega⟩ : Fin 512)) : EReal)
      = queryAt a2 X a4 (⟨32 * n + q.val, by omega⟩ : Fin 1536) s := by
  unfold queryAt
  exact congrArg₂ (fun p z : EReal => p * z) (head_eq wv wq wk X a2 n hn hq q s)
    (lane_eq sc a4 n hn hs _ _ _ (by show (32 * n + q.val) / 32 = n; omega) (by show 320 + q.val = 320 + (32 * n + q.val) % 32; omega))

include hs in
theorem key_row (hk : ∀ (h : Fin 2) (r : Fin 16) (k : Fin 15360), wk (ix3 h r k) = a3 (ix3 (⟨2 * n + h.val, by omega⟩ : Fin 96) r k)) (q : Fin 32) (s : Fin 1024) :
    (rowSum wv wq wk X (⟨352 + q.val, by omega⟩ : Fin 384) s * sc (ix3 (0 : Fin 1) (0 : Fin 1) (⟨352 + q.val, by omega⟩ : Fin 512))
        + sc (ix3 (0 : Fin 1) (0 : Fin 1) (⟨384 + q.val, by omega⟩ : Fin 512)) : EReal)
      = keyAt a3 X a4 (⟨32 * n + q.val, by omega⟩ : Fin 1536) s := by
  unfold keyAt
  exact congrArg₂ (fun p z : EReal => p + z) (congrArg₂ (fun p z : EReal => p * z) (head_eq' wv wq wk X a3 n hn hk q s)
    (lane_eq sc a4 n hn hs _ _ _ (by show (32 * n + q.val) / 32 = n; omega) (by show 352 + q.val = 352 + (32 * n + q.val) % 32; omega)))
    (lane_eq sc a4 n hn hs _ _ _ (by show (32 * n + q.val) / 32 = n; omega) (by show 384 + q.val = 384 + (32 * n + q.val) % 32; omega))

include hs in
theorem value_row (hv : ∀ (r : Fin 320) (k : Fin 15360), wv (ix2 r k) = a1 (ix2 (⟨320 * n + r.val, by omega⟩ : Fin 15360) k)) (r : Fin 320) (s : Fin 1024) :
    (rowSum wv wq wk X (⟨r.val, by omega⟩ : Fin 384) s * sc (ix3 (0 : Fin 1) (0 : Fin 1) (⟨r.val, by omega⟩ : Fin 512)) : EReal)
      = valueAt a1 X a4 (⟨320 * n + r.val, by omega⟩ : Fin 15360) s := by
  unfold valueAt
  refine congrArg₂ (fun p z : EReal => p * z) ?_ (lane_eq sc a4 n hn hs _ _ _ (by show (320 * n + r.val) / 320 = n; omega) (by show r.val = (320 * n + r.val) % 320; omega))
  refine Finset.sum_congr rfl fun k _ => congrArg (fun z : EReal => z * actAt X k s) ?_
  unfold weightAt
  rw [dif_pos (by show r.val < 320; omega)]
  exact hv r k

/-- A block's codes are those of its rows. -/
theorem codes_rows (g : Fin 2) (Q : S64x1024.Idx → Idealize.ShloMosaic.Ideal .f32) (P : Fin 1536 → Fin 1024 → EReal)
    (hQ : ∀ (q : Fin 32) (s : Fin 1024), Q (ix2 (⟨32 * g.val + q.val, by omega⟩ : Fin 64) s) = P (⟨32 * n + q.val, by omega⟩ : Fin 1536) s)
    (b : Fin 4) (h : Fin 2) (r : Fin 16) (s : Fin 256) (H : Fin 96) (hH : H.val = 2 * n + h.val) : codesBlock g Q b h r s = codesOf P b H r s := by
  have hk (k : Fin 16) (j : Fin 1024) : Q (ix2 (⟨16 * h.val + 32 * g.val + k.val, by omega⟩ : Fin 64) j) = P (⟨16 * H.val + k.val, by omega⟩ : Fin 1536) j := by
    refine Eq.trans (congrArg (fun x : Fin 64 => Q (ix2 x j)) (Fin.ext (by show 16 * h.val + 32 * g.val + k.val = 32 * g.val + (16 * h.val + k.val); omega)))
      ((hQ (⟨16 * h.val + k.val, by omega⟩ : Fin 32) j).trans (congrArg (fun x : Fin 1536 => P x j) (Fin.ext ?_)))
    show 32 * n + (16 * h.val + k.val) = 16 * H.val + k.val
    omega
  unfold codesBlock codesOf
  simp only [hk]

/-- And its scales. -/
theorem scales_rows (g : Fin 2) (Q : S64x1024.Idx → Idealize.ShloMosaic.Ideal .f32) (P : Fin 1536 → Fin 1024 → EReal)
    (hQ : ∀ (q : Fin 32) (s : Fin 1024), Q (ix2 (⟨32 * g.val + q.val, by omega⟩ : Fin 64) s) = P (⟨32 * n + q.val, by omega⟩ : Fin 1536) s)
    (b : Fin 4) (h : Fin 2) (s : Fin 256) (H : Fin 96) (hH : H.val = 2 * n + h.val) : scalesBlock g Q b h s = scalesOf P b H s := by
  have hk (k : Fin 16) (j : Fin 1024) : Q (ix2 (⟨16 * h.val + 32 * g.val + k.val, by omega⟩ : Fin 64) j) = P (⟨16 * H.val + k.val, by omega⟩ : Fin 1536) j := by
    refine Eq.trans (congrArg (fun x : Fin 64 => Q (ix2 x j)) (Fin.ext (by show 16 * h.val + 32 * g.val + k.val = 32 * g.val + (16 * h.val + k.val); omega)))
      ((hQ (⟨16 * h.val + k.val, by omega⟩ : Fin 32) j).trans (congrArg (fun x : Fin 1536 => P x j) (Fin.ext ?_)))
    show 32 * n + (16 * h.val + k.val) = 16 * H.val + k.val
    omega
  unfold scalesBlock scalesOf
  simp only [hk]

end Rows

/-! ### What a point's buffers hold, from what the scratch held -/

section Left

variable (c : Dev nD) (i : grid0.Coords) (hi : ¬ kernelRun.sl.v24 i = 1#1)

include hi in
theorem kept13 (M13 : Memref sig .tc .vmem S64x1024 .f32) (f13 : Bf (F := Idealize.ShloMosaic.Ideal) c M13) : start13 c i M13 f13 = f13 := by
  unfold start13
  rw [dif_neg hi]

include hi in
theorem read6 (M7 : Memref sig .tc .vmem S4x2x16x256 .fp8e4m3) (M13 : Memref sig .tc .vmem S64x1024 .f32) (f13 : Bf (F := Idealize.ShloMosaic.Ideal) c M13) (y : S4x2x16x256.Idx) :
    M7.view.read (Elt Idealize.ShloMosaic.Ideal) (left6 c i M7 M13 f13) y = codesBlock 0 (M13.view.read (Elt Idealize.ShloMosaic.Ideal) f13) (y 0) (y 1) (y 2) (y 3) := by
  unfold left6
  refine (View.read_writes_junk_apply_eq_canon M7.view _ _).trans ?_
  rw [canon7, kept13 c i hi]

include hi in
theorem read8' (M9 : Memref sig .tc .vmem S4x2x16x256 .fp8e4m3) (M13 : Memref sig .tc .vmem S64x1024 .f32) (f13 : Bf (F := Idealize.ShloMosaic.Ideal) c M13) (y : S4x2x16x256.Idx) :
    M9.view.read (Elt Idealize.ShloMosaic.Ideal) (left8 c i M9 M13 f13) y = codesBlock 1 (M13.view.read (Elt Idealize.ShloMosaic.Ideal) f13) (y 0) (y 1) (y 2) (y 3) := by
  unfold left8
  refine (View.read_writes_junk_apply_eq_canon M9.view _ _).trans ?_
  rw [canon9, kept13 c i hi]

include hi in
theorem read7 (M8 : Memref sig .tc .vmem S4x8x256 .f32) (M13 : Memref sig .tc .vmem S64x1024 .f32) (f8 : Bf (F := Idealize.ShloMosaic.Ideal) c M8) (f13 : Bf (F := Idealize.ShloMosaic.Ideal) c M13) (y : S4x8x256.Idx) :
    M8.view.read (Elt Idealize.ShloMosaic.Ideal) (left7 c i M8 M13 f8 f13) y
      = if (y 1).val / 2 = prv i % 4 then scalesBlock 0 (M13.view.read (Elt Idealize.ShloMosaic.Ideal) f13) (y 0) (⟨(y 1).val % 2, Nat.mod_lt _ (by decide)⟩) (y 2) else M8.view.read (Elt Idealize.ShloMosaic.Ideal) f8 y := by
  unfold left7
  refine (read8 c i M13 f13 M8 f8 y).trans ?_
  rw [kept13 c i hi]

include hi in
theorem read9 (M10 : Memref sig .tc .vmem S4x8x256 .f32) (M13 : Memref sig .tc .vmem S64x1024 .f32) (f10 : Bf (F := Idealize.ShloMosaic.Ideal) c M10) (f13 : Bf (F := Idealize.ShloMosaic.Ideal) c M13) (y : S4x8x256.Idx) :
    M10.view.read (Elt Idealize.ShloMosaic.Ideal) (left9 c i M10 M13 f10 f13) y
      = if (y 1).val / 2 = prv i % 4 then scalesBlock 1 (M13.view.read (Elt Idealize.ShloMosaic.Ideal) f13) (y 0) (⟨(y 1).val % 2, Nat.mod_lt _ (by decide)⟩) (y 2) else M10.view.read (Elt Idealize.ShloMosaic.Ideal) f10 y := by
  unfold left9
  refine (read10 c i M13 f13 M10 f10 y).trans ?_
  rw [kept13 c i hi]

include hi in
theorem read10' (M11 M14 : Memref sig .tc .vmem S320x1024 .bf16) (f14 : Bf (F := Idealize.ShloMosaic.Ideal) c M14) (r : Fin 320) (s : Fin 1024) :
    M11.view.read (Elt Idealize.ShloMosaic.Ideal) (left10 c i M11 M14 f14) (ix2 r s) = M14.view.read (Elt Idealize.ShloMosaic.Ideal) f14 (ix2 r s) := by
  unfold left10
  refine (View.read_writes_junk_apply_eq_canon M11.view _ _).trans ?_
  unfold kernelRun.sl.H11_1
  refine (canon_rows (Val := Elt Idealize.ShloMosaic.Ideal) (M := 320) (N := 1024) (m := 320) (o := 0) inb_S320x1024_S320x1024_0_0 _ _ r s r (Nat.zero_add _).symm).trans ?_
  unfold kernelRun.sl.v3071
  rw [dif_neg hi]
  exact congrArg (M14.view.read (Elt Idealize.ShloMosaic.Ideal) f14) (idx_rows (M := 320) (N := 1024) (m := 320) (o := 0) inb_S320x1024_S320x1024_0_0 r s r (Nat.zero_add _).symm)

end Left

/-! ### The scratch after a point -/

section Scratch

variable (c : Dev nD) (M1 : Memref sig .tc .vmem S7680x1024 .i32)
  (M2 : Memref sig .tc .vmem S320x15360 .fp8e4m3) (M3 M4 : Memref sig .tc .vmem S2x16x15360 .fp8e4m3)
  (M5 : Memref sig .tc .vmem S1x1x512 .f32) (M12 : Memref sig .tc .vmem S384x1024 .f32)
  (f1 : Bf (F := Idealize.ShloMosaic.Ideal) c M1) (f2 : Bf (F := Idealize.ShloMosaic.Ideal) c M2) (f3 : Bf (F := Idealize.ShloMosaic.Ideal) c M3) (f4 : Bf (F := Idealize.ShloMosaic.Ideal) c M4) (f5 : Bf (F := Idealize.ShloMosaic.Ideal) c M5)
  (w1 : S7680x1024.Idx → BitVec 32) (w2 : S320x15360.Idx → Idealize.ShloMosaic.Ideal .fp8e4m3) (w3 w4 : S2x16x15360.Idx → Idealize.ShloMosaic.Ideal .fp8e4m3) (w5 : S1x1x512.Idx → Idealize.ShloMosaic.Ideal .f32)
  (e1 : M1.view.read (Elt Idealize.ShloMosaic.Ideal) f1 = w1) (e2 : M2.view.read (Elt Idealize.ShloMosaic.Ideal) f2 = w2) (e3 : M3.view.read (Elt Idealize.ShloMosaic.Ideal) f3 = w3) (e4 : M4.view.read (Elt Idealize.ShloMosaic.Ideal) f4 = w4)
  (e5 : M5.view.read (Elt Idealize.ShloMosaic.Ideal) f5 = w5)

include e1 e2 e3 e4 e5 in
theorem heldQ (M13 : Memref sig .tc .vmem S64x1024 .f32) (q : Fin 32) (s : Fin 1024) :
    M13.view.read (Elt Idealize.ShloMosaic.Ideal) (leftQK c M1 M2 M3 M4 M5 M12 M13 f1 f2 f3 f4 f5) (ix2 (⟨q.val, by omega⟩ : Fin 64) s)
      = (rowSum w2 w3 w4 w1 (⟨320 + q.val, by omega⟩ : Fin 384) s * w5 (ix3 (0 : Fin 1) (0 : Fin 1) (⟨320 + q.val, by omega⟩ : Fin 512)) : EReal) := by
  subst e1 e2 e3 e4 e5
  exact readQ c M1 M2 M3 M4 M5 M12 f1 f2 f3 f4 f5 M13 q s

include e1 e2 e3 e4 e5 in
theorem heldK (M13 : Memref sig .tc .vmem S64x1024 .f32) (q : Fin 32) (s : Fin 1024) :
    M13.view.read (Elt Idealize.ShloMosaic.Ideal) (leftQK c M1 M2 M3 M4 M5 M12 M13 f1 f2 f3 f4 f5) (ix2 (⟨32 + q.val, by omega⟩ : Fin 64) s)
      = (rowSum w2 w3 w4 w1 (⟨352 + q.val, by omega⟩ : Fin 384) s * w5 (ix3 (0 : Fin 1) (0 : Fin 1) (⟨352 + q.val, by omega⟩ : Fin 512))
          + w5 (ix3 (0 : Fin 1) (0 : Fin 1) (⟨384 + q.val, by omega⟩ : Fin 512)) : EReal) := by
  subst e1 e2 e3 e4 e5
  exact readK c M1 M2 M3 M4 M5 M12 f1 f2 f3 f4 f5 M13 q s

include e1 e2 e3 e4 e5 in
theorem heldV (M14 : Memref sig .tc .vmem S320x1024 .bf16) (r : Fin 320) (s : Fin 1024) :
    M14.view.read (Elt Idealize.ShloMosaic.Ideal) (leftV c M1 M2 M3 M4 M5 M12 M14 f1 f2 f3 f4 f5) (ix2 r s)
      = (rowSum w2 w3 w4 w1 (⟨r.val, by omega⟩ : Fin 384) s * w5 (ix3 (0 : Fin 1) (0 : Fin 1) (⟨r.val, by omega⟩ : Fin 512)) : EReal) := by
  subst e1 e2 e3 e4 e5
  exact readV c M1 M2 M3 M4 M5 M12 f1 f2 f3 f4 f5 M14 r s

end Scratch

section Points

variable (m : (ℓ : Loc nD τ sig) → Buf (Elt Idealize.ShloMosaic.Ideal) ℓ) (c : Dev nD)

/-- The argument arrays. -/
abbrev arr0 : S7680x1024.Idx → BitVec 32 := m ((c.tc : Thread nD τ).loc main_arg0)
abbrev arr1 : S15360x15360.Idx → Idealize.ShloMosaic.Ideal .fp8e4m3 := m ((c.tc : Thread nD τ).loc main_arg1)
abbrev arr2 : S96x16x15360.Idx → Idealize.ShloMosaic.Ideal .fp8e4m3 := m ((c.tc : Thread nD τ).loc main_arg2)
abbrev arr3 : S96x16x15360.Idx → Idealize.ShloMosaic.Ideal .fp8e4m3 := m ((c.tc : Thread nD τ).loc main_arg3)
abbrev arr4 : S48x1x512.Idx → Idealize.ShloMosaic.Ideal .f32 := m ((c.tc : Thread nD τ).loc main_arg4)

theorem block0 (t : Fin cfg0.N) : iblk m c 0 t = arr0 m c := by
  unfold iblk
  funext j
  refine congrArg (arr0 m c) (funext fun a => Fin.ext ?_)
  have e : ∀ a, win0_0.index t a = ![0, 0] a := congrFun (index0 t)
  match a with
  | ⟨0, _⟩ => show win0_0.index t (0 : Fin 2) * 7680 + 1 * (j 0).val = (j 0).val; rw [e]; show 0 * 7680 + 1 * (j 0).val = (j 0).val; omega
  | ⟨1, _⟩ => show win0_0.index t (1 : Fin 2) * 1024 + 1 * (j 1).val = (j 1).val; rw [e]; show 0 * 1024 + 1 * (j 1).val = (j 1).val; omega

theorem block1 (n : Nat) (hn : n < 48) (r : Fin 320) (k : Fin 15360) :
    iblk m c 1 (pt' n (by omega)) (ix2 r k) = arr1 m c (ix2 (⟨320 * n + r.val, by omega⟩ : Fin 15360) k) := by
  unfold iblk
  refine congrArg (arr1 m c) (funext fun a => Fin.ext ?_)
  have e : ∀ a, win0_1.index (pt' n (by omega)) a = ![min n 47, 0] a := congrFun (index1 _)
  match a with
  | ⟨0, _⟩ => show win0_1.index (pt' n _) (0 : Fin 2) * 320 + 1 * r.val = 320 * n + r.val; rw [e]; show min n 47 * 320 + 1 * r.val = _; omega
  | ⟨1, _⟩ => show win0_1.index (pt' n _) (1 : Fin 2) * 15360 + 1 * k.val = k.val; rw [e]; show 0 * 15360 + 1 * k.val = _; omega

theorem block2 (n : Nat) (hn : n < 48) (h : Fin 2) (r : Fin 16) (k : Fin 15360) :
    iblk m c 2 (pt' n (by omega)) (ix3 h r k) = arr2 m c (ix3 (⟨2 * n + h.val, by omega⟩ : Fin 96) r k) := by
  unfold iblk
  refine congrArg (arr2 m c) (funext fun a => Fin.ext ?_)
  have e : ∀ a, win0_2.index (pt' n (by omega)) a = ![min n 47, 0, 0] a := congrFun (index2 _)
  match a with
  | ⟨0, _⟩ => show win0_2.index (pt' n _) (0 : Fin 3) * 2 + 1 * h.val = 2 * n + h.val; rw [e]; show min n 47 * 2 + 1 * h.val = _; omega
  | ⟨1, _⟩ => show win0_2.index (pt' n _) (1 : Fin 3) * 16 + 1 * r.val = r.val; rw [e]; show 0 * 16 + 1 * r.val = _; omega
  | ⟨2, _⟩ => show win0_2.index (pt' n _) (2 : Fin 3) * 15360 + 1 * k.val = k.val; rw [e]; show 0 * 15360 + 1 * k.val = _; omega

theorem block3 (n : Nat) (hn : n < 48) (h : Fin 2) (r : Fin 16) (k : Fin 15360) :
    iblk m c 3 (pt' n (by omega)) (ix3 h r k) = arr3 m c (ix3 (⟨2 * n + h.val, by omega⟩ : Fin 96) r k) := by
  unfold iblk
  refine congrArg (arr3 m c) (funext fun a => Fin.ext ?_)
  have e : ∀ a, win0_3.index (pt' n (by omega)) a = ![min n 47, 0, 0] a := congrFun (index3 _)
  match a with
  | ⟨0, _⟩ => show win0_3.index (pt' n _) (0 : Fin 3) * 2 + 1 * h.val = 2 * n + h.val; rw [e]; show min n 47 * 2 + 1 * h.val = _; omega
  | ⟨1, _⟩ => show win0_3.index (pt' n _) (1 : Fin 3) * 16 + 1 * r.val = r.val; rw [e]; show 0 * 16 + 1 * r.val = _; omega
  | ⟨2, _⟩ => show win0_3.index (pt' n _) (2 : Fin 3) * 15360 + 1 * k.val = k.val; rw [e]; show 0 * 15360 + 1 * k.val = _; omega

theorem block4 (n : Nat) (hn : n < 48) (j : Fin 512) :
    iblk m c 4 (pt' n (by omega)) (ix3 (0 : Fin 1) (0 : Fin 1) j) = arr4 m c (ix3 (⟨n, hn⟩ : Fin 48) (0 : Fin 1) j) := by
  unfold iblk
  refine congrArg (arr4 m c) (funext fun a => Fin.ext ?_)
  have e : ∀ a, win0_4.index (pt' n (by omega)) a = ![min n 47, 0, 0] a := congrFun (index4 _)
  match a with
  | ⟨0, _⟩ => show win0_4.index (pt' n _) (0 : Fin 3) * 1 + 1 * 0 = n; rw [e]; show min n 47 * 1 + 1 * 0 = _; omega
  | ⟨1, _⟩ => show win0_4.index (pt' n _) (1 : Fin 3) * 1 + 1 * 0 = 0; rw [e]; rfl
  | ⟨2, _⟩ => show win0_4.index (pt' n _) (2 : Fin 3) * 512 + 1 * j.val = j.val; rw [e]; show 0 * 512 + 1 * j.val = _; omega

/-- The queries, keys and values. -/
abbrev Qs : Fin 1536 → Fin 1024 → EReal := queryAt (arr2 m c) (arr0 m c) (arr4 m c)
abbrev Ks : Fin 1536 → Fin 1024 → EReal := keyAt (arr3 m c) (arr0 m c) (arr4 m c)
abbrev Vs : Fin 15360 → Fin 1024 → EReal := valueAt (arr1 m c) (arr0 m c) (arr4 m c)

theorem scratchQ (n : Nat) (hn : n < 48) (q : Fin 32) (s : Fin 1024) :
    scQK.view.read (Elt Idealize.ShloMosaic.Ideal) (outQK m c (pt' n (by omega))) (ix2 (⟨32 * (0 : Fin 2).val + q.val, by show 32 * 0 + q.val < 64; omega⟩ : Fin 64) s) = Qs m c (⟨32 * n + q.val, by omega⟩ : Fin 1536) s := by
  refine (congrArg (fun x : Fin 64 => scQK.view.read (Elt Idealize.ShloMosaic.Ideal) (outQK m c (pt' n (by omega))) (ix2 x s)) (Fin.ext (by show 32 * 0 + q.val = q.val; omega) : _ = (⟨q.val, by omega⟩ : Fin 64))).trans ?_
  refine (heldQ c _ _ _ _ _ _ _ _ _ _ _ (iblk m c 0 (pt' n (by omega))) (iblk m c 1 (pt' n (by omega))) (iblk m c 2 (pt' n (by omega))) (iblk m c 3 (pt' n (by omega))) (iblk m c 4 (pt' n (by omega)))
    ((hs0 _).read_unread _) ((hs1 _).read_unread _) ((hs2 _).read_unread _) ((hs3 _).read_unread _) ((hs4 _).read_unread _) scQK q s).trans ?_
  rw [block0]
  exact query_row _ _ _ _ _ _ _ n hn (block4 m c n hn) (block2 m c n hn) q s

theorem scratchK (n : Nat) (hn : n < 48) (q : Fin 32) (s : Fin 1024) :
    scQK.view.read (Elt Idealize.ShloMosaic.Ideal) (outQK m c (pt' n (by omega))) (ix2 (⟨32 * (1 : Fin 2).val + q.val, by show 32 * 1 + q.val < 64; omega⟩ : Fin 64) s) = Ks m c (⟨32 * n + q.val, by omega⟩ : Fin 1536) s := by
  refine (congrArg (fun x : Fin 64 => scQK.view.read (Elt Idealize.ShloMosaic.Ideal) (outQK m c (pt' n (by omega))) (ix2 x s)) (Fin.ext (by show 32 * 1 + q.val = 32 + q.val; omega) : _ = (⟨32 + q.val, by omega⟩ : Fin 64))).trans ?_
  refine (heldK c _ _ _ _ _ _ _ _ _ _ _ (iblk m c 0 (pt' n (by omega))) (iblk m c 1 (pt' n (by omega))) (iblk m c 2 (pt' n (by omega))) (iblk m c 3 (pt' n (by omega))) (iblk m c 4 (pt' n (by omega)))
    ((hs0 _).read_unread _) ((hs1 _).read_unread _) ((hs2 _).read_unread _) ((hs3 _).read_unread _) ((hs4 _).read_unread _) scQK q s).trans ?_
  rw [block0]
  exact key_row _ _ _ _ _ _ _ n hn (block4 m c n hn) (block3 m c n hn) q s

theorem scratchV (n : Nat) (hn : n < 48) (r : Fin 320) (s : Fin 1024) :
    scV.view.read (Elt Idealize.ShloMosaic.Ideal) (outV m c (pt' n (by omega))) (ix2 r s) = Vs m c (⟨320 * n + r.val, by omega⟩ : Fin 15360) s := by
  refine (heldV c _ _ _ _ _ _ _ _ _ _ _ (iblk m c 0 (pt' n (by omega))) (iblk m c 1 (pt' n (by omega))) (iblk m c 2 (pt' n (by omega))) (iblk m c 3 (pt' n (by omega))) (iblk m c 4 (pt' n (by omega)))
    ((hs0 _).read_unread _) ((hs1 _).read_unread _) ((hs2 _).read_unread _) ((hs3 _).read_unread _) ((hs4 _).read_unread _) scV r s).trans ?_
  rw [block0]
  exact value_row _ _ _ _ _ _ _ n hn (block4 m c n hn) (block1 m c n hn) r s

/-- The scratch a later point finds is what the point before it left. -/
theorem reach_pos (t n : Nat) (hn : n < 48) (ht : t = n + 1) {f13 : Bf (F := Idealize.ShloMosaic.Ideal) c scQK} {f14 : Bf (F := Idealize.ShloMosaic.Ideal) c scV} {f15 : Bf (F := Idealize.ShloMosaic.Ideal) c scY}
    (h : Reach m c t f13 f14 f15) : f13 = outQK m c (pt' n (by omega)) ∧ f14 = outV m c (pt' n (by omega)) := by
  subst ht
  obtain ⟨hn', e13, e14, e15, _, h13, h14, _⟩ := h
  exact ⟨h13, h14⟩

theorem leaves6 (t : Fin cfg0.N) (n : Nat) (hn : n < 48) (ht : t.val = n + 1) (X : S4x2x16x256.Idx → Idealize.ShloMosaic.Ideal .fp8e4m3) (h : (rdat m c).Leaves 6 t X) (y : S4x2x16x256.Idx)
    (H : Fin 96) (hH : H.val = 2 * n + (y 1).val) : X y = codesOf (Qs m c) (y 0) H (y 2) (y 3) := by
  obtain ⟨Y, _, f13, f14, f15, hR, hX⟩ := h
  have e := (reach_pos m c t.val n hn ht hR).1
  refine (congrFun hX y).trans ((read6 c _ (first_off t (by omega)) (ms6 t) scQK f13 y).trans ?_)
  rw [e]
  exact codes_rows n hn 0 _ (Qs m c) (scratchQ m c n hn) _ _ _ _ H hH

theorem leaves8 (t : Fin cfg0.N) (n : Nat) (hn : n < 48) (ht : t.val = n + 1) (X : S4x2x16x256.Idx → Idealize.ShloMosaic.Ideal .fp8e4m3) (h : (rdat m c).Leaves 8 t X) (y : S4x2x16x256.Idx)
    (H : Fin 96) (hH : H.val = 2 * n + (y 1).val) : X y = codesOf (Ks m c) (y 0) H (y 2) (y 3) := by
  obtain ⟨Y, _, f13, f14, f15, hR, hX⟩ := h
  have e := (reach_pos m c t.val n hn ht hR).1
  refine (congrFun hX y).trans ((read8' c _ (first_off t (by omega)) (ms8 t) scQK f13 y).trans ?_)
  rw [e]
  exact codes_rows n hn 1 _ (Ks m c) (scratchK m c n hn) _ _ _ _ H hH

theorem leaves10 (t : Fin cfg0.N) (n : Nat) (hn : n < 48) (ht : t.val = n + 1) (X : S320x1024.Idx → Idealize.ShloMosaic.Ideal .bf16) (h : (rdat m c).Leaves 10 t X) (r : Fin 320) (s : Fin 1024) :
    X (ix2 r s) = Vs m c (⟨320 * n + r.val, by omega⟩ : Fin 15360) s := by
  obtain ⟨Y, _, f13, f14, f15, hR, hX⟩ := h
  have e := (reach_pos m c t.val n hn ht hR).2
  refine (congrFun hX (ix2 r s)).trans ((read10' c _ (first_off t (by omega)) (ms10 t) scV f14 r s).trans ?_)
  rw [e]
  exact scratchV m c n hn r s

theorem leaves7 (n : Nat) (hn : n < 48) (t : Fin cfg0.N) (ht : t.val = n + 1) (X : S4x8x256.Idx → Idealize.ShloMosaic.Ideal .f32) (h : (rdat m c).Leaves 7 t X) (y : S4x8x256.Idx)
    (hy : (y 1).val / 2 ≤ n % 4) (H : Fin 96) (hH : H.val = 8 * (n / 4) + (y 1).val) : X y = scalesOf (Qs m c) (y 0) H (y 2) := by
  induction n generalizing t X with
  | zero =>
    obtain ⟨Y, hY, f13, f14, f15, hR, hX⟩ := h
    have e := (reach_pos m c t.val 0 hn ht hR).1
    refine (congrFun hX y).trans ((read7 c _ (first_off t (by omega)) (ms7 t) scQK _ f13 y).trans ?_)
    have hp : prv (grid0.coords t) = 0 := by show (grid0.coords t 0).val - 1 = 0; rw [coord_eq]; omega
    rw [hp, if_pos (by omega), e]
    exact scales_rows 0 hn 0 _ (Qs m c) (scratchQ m c 0 hn) _ _ _ H (by show H.val = 2 * 0 + (y 1).val % 2; omega)
  | succ n ih =>
    obtain ⟨Y, hY, f13, f14, f15, hR, hX⟩ := h
    have e := (reach_pos m c t.val (n + 1) hn ht hR).1
    refine (congrFun hX y).trans ((read7 c _ (first_off t (by omega)) (ms7 t) scQK _ f13 y).trans ?_)
    have hp : prv (grid0.coords t) = n + 1 := by show (grid0.coords t 0).val - 1 = n + 1; rw [coord_eq]; omega
    rw [hp]
    by_cases hc : (y 1).val / 2 = (n + 1) % 4
    · rw [if_pos hc, e]
      exact scales_rows (n + 1) hn 0 _ (Qs m c) (scratchQ m c (n + 1) hn) _ _ _ H (by show H.val = 2 * (n + 1) + (y 1).val % 2; omega)
    · rw [if_neg hc]
      refine (congrFun ((hs7 t).read_unread Y) y).trans ?_
      rcases ((rdat m c).finds_of_pos (fetch7 t) (by omega) Y).1 hY with hf | hl
      · have := (flush7 _).1 hf
        have h2 : (t.val - 1) % 4 = 0 := this.2
        omega
      · exact ih (by omega) _ (by show t.val - 1 = n + 1; omega) Y hl (by omega) (by omega)

theorem leaves9 (n : Nat) (hn : n < 48) (t : Fin cfg0.N) (ht : t.val = n + 1) (X : S4x8x256.Idx → Idealize.ShloMosaic.Ideal .f32) (h : (rdat m c).Leaves 9 t X) (y : S4x8x256.Idx)
    (hy : (y 1).val / 2 ≤ n % 4) (H : Fin 96) (hH : H.val = 8 * (n / 4) + (y 1).val) : X y = scalesOf (Ks m c) (y 0) H (y 2) := by
  induction n generalizing t X with
  | zero =>
    obtain ⟨Y, hY, f13, f14, f15, hR, hX⟩ := h
    have e := (reach_pos m c t.val 0 hn ht hR).1
    refine (congrFun hX y).trans ((read9 c _ (first_off t (by omega)) (ms9 t) scQK _ f13 y).trans ?_)
    have hp : prv (grid0.coords t) = 0 := by show (grid0.coords t 0).val - 1 = 0; rw [coord_eq]; omega
    rw [hp, if_pos (by omega), e]
    exact scales_rows 0 hn 1 _ (Ks m c) (scratchK m c 0 hn) _ _ _ H (by show H.val = 2 * 0 + (y 1).val % 2; omega)
  | succ n ih =>
    obtain ⟨Y, hY, f13, f14, f15, hR, hX⟩ := h
    have e := (reach_pos m c t.val (n + 1) hn ht hR).1
    refine (congrFun hX y).trans ((read9 c _ (first_off t (by omega)) (ms9 t) scQK _ f13 y).trans ?_)
    have hp : prv (grid0.coords t) = n + 1 := by show (grid0.coords t 0).val - 1 = n + 1; rw [coord_eq]; omega
    rw [hp]
    by_cases hc : (y 1).val / 2 = (n + 1) % 4
    · rw [if_pos hc, e]
      exact scales_rows (n + 1) hn 1 _ (Ks m c) (scratchK m c (n + 1) hn) _ _ _ H (by show H.val = 2 * (n + 1) + (y 1).val % 2; omega)
    · rw [if_neg hc]
      refine (congrFun ((hs9 t).read_unread Y) y).trans ?_
      rcases ((rdat m c).finds_of_pos (fetch9 t) (by omega) Y).1 hY with hf | hl
      · have := (flush9 _).1 hf
        have h2 : (t.val - 1) % 4 = 0 := this.2
        omega
      · exact ih (by omega) _ (by show t.val - 1 = n + 1; omega) Y hl (by omega) (by omega)

end Points

end Cert.KernelIdeal.Hand

end
-- ==== Proof.Arrays.lean ====
/-
  The arrays after the whole run, on the extended reals: every result array holds the codes, scales or values at each
  of its indices.
-/
module

public import proofs.«01_k».proof.Proof.Points

@[expose] public section

noncomputable section

namespace Cert.KernelIdeal.Hand

open Cert.KernelIdeal Cert.KernelIdeal.Gen
open Cert.ReferenceIdeal.Read (headSum queryAt keyAt valueAt codesOf scalesOf)
open Idealize.ShloMosaic Idealize.ShloMosaic.TcCoe
open Idealize.ShloMosaic.Pipeline (RDat)

variable (m : (ℓ : Loc nD τ sig) → Buf (Elt Idealize.ShloMosaic.Ideal) ℓ) (c : Dev nD)

/-! ### Window 6 -/

/-- What the array ends holding. -/
abbrev res6 : S4x96x16x256.Idx → Idealize.ShloMosaic.Ideal .fp8e4m3 := fun y => codesOf (Qs m c) (y 0) (y 1) (y 2) (y 3)

theorem emb6 (t : Fin cfg0.N) (n : Nat) (ht : t.val = n + 1) (y : S4x2x16x256.Idx) (i : S4x96x16x256.Idx)
    (h0 : (i 0).val = (y 0).val) (h1 : (i 1).val = 2 * n + (y 1).val) (h2 : (i 2).val = (y 2).val) (h3 : (i 3).val = (y 3).val) :
    ((cfg0.win 6).blk t).view.emb y = i := by
  have e : ∀ a, win0_6.index t a = ![0, t.val - 1, 0, 0] a := congrFun (index6 t)
  refine funext fun a => Fin.ext ?_
  match a with
  | ⟨0, _⟩ => show win0_6.index t (0 : Fin 4) * 4 + 1 * (y 0).val = (i 0).val; rw [e]; show 0 * 4 + 1 * (y 0).val = _; omega
  | ⟨1, _⟩ => show win0_6.index t (1 : Fin 4) * 2 + 1 * (y 1).val = (i 1).val; rw [e]; show (t.val - 1) * 2 + 1 * (y 1).val = _; omega
  | ⟨2, _⟩ => show win0_6.index t (2 : Fin 4) * 16 + 1 * (y 2).val = (i 2).val; rw [e]; show 0 * 16 + 1 * (y 2).val = _; omega
  | ⟨3, _⟩ => show win0_6.index t (3 : Fin 4) * 256 + 1 * (y 3).val = (i 3).val; rw [e]; show 0 * 256 + 1 * (y 3).val = _; omega

theorem covered6 (i : S4x96x16x256.Idx) : ∃ t : Fin cfg0.N, (cfg0.win 6).flush t = true ∧ i ∈ ((cfg0.win 6).blk t).view.set := by
  have b1 : (i 1).val < 96 := (i 1).isLt
  let t : Fin cfg0.N := pt' ((i 1).val / 2 + 1) (by omega)
  let y : S4x2x16x256.Idx := ix4 (⟨(i 0).val, (i 0).isLt⟩ : Fin 4) (⟨(i 1).val % 2, Nat.mod_lt _ (by decide)⟩ : Fin 2) (⟨(i 2).val, (i 2).isLt⟩ : Fin 16) (⟨(i 3).val, (i 3).isLt⟩ : Fin 256)
  refine ⟨t, (flush6 t).2 (Nat.succ_ne_zero _), ?_⟩
  have h := ((cfg0.win 6).blk t).view.emb_mem_set y
  rwa [emb6 t ((i 1).val / 2) rfl y i rfl (by show (i 1).val = 2 * ((i 1).val / 2) + (i 1).val % 2; omega) rfl rfl] at h

theorem final6 (after : (w' : Fin cfg0.W) → Fin cfg0.N → (cfg0.win w').block.Idx → Elt Idealize.ShloMosaic.Ideal (cfg0.win w').elt)
    (hL : ∀ u : Fin cfg0.N, (cfg0.win 6).flush u = true → (rdat m c).Leaves 6 u (after 6 u)) :
    ((rdat m c).withAfter after).arrAt 6 cfg0.N = res6 m c := by
  refine ((rdat m c).withAfter after).arrAt_eq_of_cover 6 (res6 m c) (fun t hf => ?_) covered6
  funext y
  have ht := (flush6 t).1 hf
  have hN : t.val < 49 := t.isLt
  have b1 : ((y : S4x2x16x256.Idx) 1).val < 2 := ((y : S4x2x16x256.Idx) 1).isLt
  let H : Fin 96 := ⟨2 * (t.val - 1) + ((y : S4x2x16x256.Idx) 1).val, by omega⟩
  show after 6 t y = res6 m c (((cfg0.win 6).blk t).view.emb y)
  rw [emb6 t (t.val - 1) (by omega) y (ix4 ((y : S4x2x16x256.Idx) 0) H ((y : S4x2x16x256.Idx) 2) ((y : S4x2x16x256.Idx) 3)) rfl rfl rfl rfl]
  exact leaves6 m c t (t.val - 1) (by omega) (by omega) _ (hL t hf) y H rfl

/-! ### Window 7 -/

/-- What the array ends holding. -/
abbrev res7 : S4x96x256.Idx → Idealize.ShloMosaic.Ideal .f32 := fun y => scalesOf (Qs m c) (y 0) (y 1) (y 2)

theorem emb7 (t : Fin cfg0.N) (n : Nat) (ht : (t.val - 1) / 4 = n) (y : S4x8x256.Idx) (i : S4x96x256.Idx)
    (h0 : (i 0).val = (y 0).val) (h1 : (i 1).val = 8 * n + (y 1).val) (h2 : (i 2).val = (y 2).val) :
    ((cfg0.win 7).blk t).view.emb y = i := by
  have e : ∀ a, win0_7.index t a = ![0, (t.val - 1) / 4, 0] a := congrFun (index7 t)
  refine funext fun a => Fin.ext ?_
  match a with
  | ⟨0, _⟩ => show win0_7.index t (0 : Fin 3) * 4 + 1 * (y 0).val = (i 0).val; rw [e]; show 0 * 4 + 1 * (y 0).val = _; omega
  | ⟨1, _⟩ => show win0_7.index t (1 : Fin 3) * 8 + 1 * (y 1).val = (i 1).val; rw [e]; show ((t.val - 1) / 4) * 8 + 1 * (y 1).val = _; omega
  | ⟨2, _⟩ => show win0_7.index t (2 : Fin 3) * 256 + 1 * (y 2).val = (i 2).val; rw [e]; show 0 * 256 + 1 * (y 2).val = _; omega

theorem covered7 (i : S4x96x256.Idx) : ∃ t : Fin cfg0.N, (cfg0.win 7).flush t = true ∧ i ∈ ((cfg0.win 7).blk t).view.set := by
  have b1 : (i 1).val < 96 := (i 1).isLt
  let t : Fin cfg0.N := pt' (4 * ((i 1).val / 8) + 4) (by omega)
  let y : S4x8x256.Idx := ix3 (⟨(i 0).val, (i 0).isLt⟩ : Fin 4) (⟨(i 1).val % 8, Nat.mod_lt _ (by decide)⟩ : Fin 8) (⟨(i 2).val, (i 2).isLt⟩ : Fin 256)
  refine ⟨t, (flush7 t).2 (by show 4 * ((i 1).val / 8) + 4 ≠ 0 ∧ (4 * ((i 1).val / 8) + 4) % 4 = 0; omega), ?_⟩
  have h := ((cfg0.win 7).blk t).view.emb_mem_set y
  rwa [emb7 t ((i 1).val / 8) (by show (4 * ((i 1).val / 8) + 4 - 1) / 4 = _; omega) y i rfl (by show (i 1).val = 8 * ((i 1).val / 8) + (i 1).val % 8; omega) rfl] at h

theorem final7 (after : (w' : Fin cfg0.W) → Fin cfg0.N → (cfg0.win w').block.Idx → Elt Idealize.ShloMosaic.Ideal (cfg0.win w').elt)
    (hL : ∀ u : Fin cfg0.N, (cfg0.win 7).flush u = true → (rdat m c).Leaves 7 u (after 7 u)) :
    ((rdat m c).withAfter after).arrAt 7 cfg0.N = res7 m c := by
  refine ((rdat m c).withAfter after).arrAt_eq_of_cover 7 (res7 m c) (fun t hf => ?_) covered7
  funext y
  have ht := (flush7 t).1 hf
  have hN : t.val < 49 := t.isLt
  have b1 : ((y : S4x8x256.Idx) 1).val < 8 := ((y : S4x8x256.Idx) 1).isLt
  let H : Fin 96 := ⟨8 * ((t.val - 1) / 4) + ((y : S4x8x256.Idx) 1).val, by omega⟩
  show after 7 t y = res7 m c (((cfg0.win 7).blk t).view.emb y)
  rw [emb7 t _ rfl y (ix3 ((y : S4x8x256.Idx) 0) H ((y : S4x8x256.Idx) 2)) rfl rfl rfl]
  exact leaves7 m c (t.val - 1) (by omega) t (by omega) _ (hL t hf) y (by omega) H rfl

/-! ### Window 8 -/

/-- What the array ends holding. -/
abbrev res8 : S4x96x16x256.Idx → Idealize.ShloMosaic.Ideal .fp8e4m3 := fun y => codesOf (Ks m c) (y 0) (y 1) (y 2) (y 3)

theorem emb8 (t : Fin cfg0.N) (n : Nat) (ht : t.val = n + 1) (y : S4x2x16x256.Idx) (i : S4x96x16x256.Idx)
    (h0 : (i 0).val = (y 0).val) (h1 : (i 1).val = 2 * n + (y 1).val) (h2 : (i 2).val = (y 2).val) (h3 : (i 3).val = (y 3).val) :
    ((cfg0.win 8).blk t).view.emb y = i := by
  have e : ∀ a, win0_8.index t a = ![0, t.val - 1, 0, 0] a := congrFun (index8 t)
  refine funext fun a => Fin.ext ?_
  match a with
  | ⟨0, _⟩ => show win0_8.index t (0 : Fin 4) * 4 + 1 * (y 0).val = (i 0).val; rw [e]; show 0 * 4 + 1 * (y 0).val = _; omega
  | ⟨1, _⟩ => show win0_8.index t (1 : Fin 4) * 2 + 1 * (y 1).val = (i 1).val; rw [e]; show (t.val - 1) * 2 + 1 * (y 1).val = _; omega
  | ⟨2, _⟩ => show win0_8.index t (2 : Fin 4) * 16 + 1 * (y 2).val = (i 2).val; rw [e]; show 0 * 16 + 1 * (y 2).val = _; omega
  | ⟨3, _⟩ => show win0_8.index t (3 : Fin 4) * 256 + 1 * (y 3).val = (i 3).val; rw [e]; show 0 * 256 + 1 * (y 3).val = _; omega

theorem covered8 (i : S4x96x16x256.Idx) : ∃ t : Fin cfg0.N, (cfg0.win 8).flush t = true ∧ i ∈ ((cfg0.win 8).blk t).view.set := by
  have b1 : (i 1).val < 96 := (i 1).isLt
  let t : Fin cfg0.N := pt' ((i 1).val / 2 + 1) (by omega)
  let y : S4x2x16x256.Idx := ix4 (⟨(i 0).val, (i 0).isLt⟩ : Fin 4) (⟨(i 1).val % 2, Nat.mod_lt _ (by decide)⟩ : Fin 2) (⟨(i 2).val, (i 2).isLt⟩ : Fin 16) (⟨(i 3).val, (i 3).isLt⟩ : Fin 256)
  refine ⟨t, (flush8 t).2 (Nat.succ_ne_zero _), ?_⟩
  have h := ((cfg0.win 8).blk t).view.emb_mem_set y
  rwa [emb8 t ((i 1).val / 2) rfl y i rfl (by show (i 1).val = 2 * ((i 1).val / 2) + (i 1).val % 2; omega) rfl rfl] at h

theorem final8 (after : (w' : Fin cfg0.W) → Fin cfg0.N → (cfg0.win w').block.Idx → Elt Idealize.ShloMosaic.Ideal (cfg0.win w').elt)
    (hL : ∀ u : Fin cfg0.N, (cfg0.win 8).flush u = true → (rdat m c).Leaves 8 u (after 8 u)) :
    ((rdat m c).withAfter after).arrAt 8 cfg0.N = res8 m c := by
  refine ((rdat m c).withAfter after).arrAt_eq_of_cover 8 (res8 m c) (fun t hf => ?_) covered8
  funext y
  have ht := (flush8 t).1 hf
  have hN : t.val < 49 := t.isLt
  have b1 : ((y : S4x2x16x256.Idx) 1).val < 2 := ((y : S4x2x16x256.Idx) 1).isLt
  let H : Fin 96 := ⟨2 * (t.val - 1) + ((y : S4x2x16x256.Idx) 1).val, by omega⟩
  show after 8 t y = res8 m c (((cfg0.win 8).blk t).view.emb y)
  rw [emb8 t (t.val - 1) (by omega) y (ix4 ((y : S4x2x16x256.Idx) 0) H ((y : S4x2x16x256.Idx) 2) ((y : S4x2x16x256.Idx) 3)) rfl rfl rfl rfl]
  exact leaves8 m c t (t.val - 1) (by omega) (by omega) _ (hL t hf) y H rfl

/-! ### Window 9 -/

/-- What the array ends holding. -/
abbrev res9 : S4x96x256.Idx → Idealize.ShloMosaic.Ideal .f32 := fun y => scalesOf (Ks m c) (y 0) (y 1) (y 2)

theorem emb9 (t : Fin cfg0.N) (n : Nat) (ht : (t.val - 1) / 4 = n) (y : S4x8x256.Idx) (i : S4x96x256.Idx)
    (h0 : (i 0).val = (y 0).val) (h1 : (i 1).val = 8 * n + (y 1).val) (h2 : (i 2).val = (y 2).val) :
    ((cfg0.win 9).blk t).view.emb y = i := by
  have e : ∀ a, win0_9.index t a = ![0, (t.val - 1) / 4, 0] a := congrFun (index9 t)
  refine funext fun a => Fin.ext ?_
  match a with
  | ⟨0, _⟩ => show win0_9.index t (0 : Fin 3) * 4 + 1 * (y 0).val = (i 0).val; rw [e]; show 0 * 4 + 1 * (y 0).val = _; omega
  | ⟨1, _⟩ => show win0_9.index t (1 : Fin 3) * 8 + 1 * (y 1).val = (i 1).val; rw [e]; show ((t.val - 1) / 4) * 8 + 1 * (y 1).val = _; omega
  | ⟨2, _⟩ => show win0_9.index t (2 : Fin 3) * 256 + 1 * (y 2).val = (i 2).val; rw [e]; show 0 * 256 + 1 * (y 2).val = _; omega

theorem covered9 (i : S4x96x256.Idx) : ∃ t : Fin cfg0.N, (cfg0.win 9).flush t = true ∧ i ∈ ((cfg0.win 9).blk t).view.set := by
  have b1 : (i 1).val < 96 := (i 1).isLt
  let t : Fin cfg0.N := pt' (4 * ((i 1).val / 8) + 4) (by omega)
  let y : S4x8x256.Idx := ix3 (⟨(i 0).val, (i 0).isLt⟩ : Fin 4) (⟨(i 1).val % 8, Nat.mod_lt _ (by decide)⟩ : Fin 8) (⟨(i 2).val, (i 2).isLt⟩ : Fin 256)
  refine ⟨t, (flush9 t).2 (by show 4 * ((i 1).val / 8) + 4 ≠ 0 ∧ (4 * ((i 1).val / 8) + 4) % 4 = 0; omega), ?_⟩
  have h := ((cfg0.win 9).blk t).view.emb_mem_set y
  rwa [emb9 t ((i 1).val / 8) (by show (4 * ((i 1).val / 8) + 4 - 1) / 4 = _; omega) y i rfl (by show (i 1).val = 8 * ((i 1).val / 8) + (i 1).val % 8; omega) rfl] at h

theorem final9 (after : (w' : Fin cfg0.W) → Fin cfg0.N → (cfg0.win w').block.Idx → Elt Idealize.ShloMosaic.Ideal (cfg0.win w').elt)
    (hL : ∀ u : Fin cfg0.N, (cfg0.win 9).flush u = true → (rdat m c).Leaves 9 u (after 9 u)) :
    ((rdat m c).withAfter after).arrAt 9 cfg0.N = res9 m c := by
  refine ((rdat m c).withAfter after).arrAt_eq_of_cover 9 (res9 m c) (fun t hf => ?_) covered9
  funext y
  have ht := (flush9 t).1 hf
  have hN : t.val < 49 := t.isLt
  have b1 : ((y : S4x8x256.Idx) 1).val < 8 := ((y : S4x8x256.Idx) 1).isLt
  let H : Fin 96 := ⟨8 * ((t.val - 1) / 4) + ((y : S4x8x256.Idx) 1).val, by omega⟩
  show after 9 t y = res9 m c (((cfg0.win 9).blk t).view.emb y)
  rw [emb9 t _ rfl y (ix3 ((y : S4x8x256.Idx) 0) H ((y : S4x8x256.Idx) 2)) rfl rfl rfl]
  exact leaves9 m c (t.val - 1) (by omega) t (by omega) _ (hL t hf) y (by omega) H rfl

/-! ### Window 10 -/

/-- What the array ends holding. -/
abbrev res10 : S15360x1024.Idx → Idealize.ShloMosaic.Ideal .bf16 := fun y => Vs m c (y 0) (y 1)

theorem emb10 (t : Fin cfg0.N) (n : Nat) (ht : t.val = n + 1) (y : S320x1024.Idx) (i : S15360x1024.Idx)
    (h0 : (i 0).val = 320 * n + (y 0).val) (h1 : (i 1).val = (y 1).val) :
    ((cfg0.win 10).blk t).view.emb y = i := by
  have e : ∀ a, win0_10.index t a = ![t.val - 1, 0] a := congrFun (index10 t)
  refine funext fun a => Fin.ext ?_
  match a with
  | ⟨0, _⟩ => show win0_10.index t (0 : Fin 2) * 320 + 1 * (y 0).val = (i 0).val; rw [e]; show (t.val - 1) * 320 + 1 * (y 0).val = _; omega
  | ⟨1, _⟩ => show win0_10.index t (1 : Fin 2) * 1024 + 1 * (y 1).val = (i 1).val; rw [e]; show 0 * 1024 + 1 * (y 1).val = _; omega

theorem covered10 (i : S15360x1024.Idx) : ∃ t : Fin cfg0.N, (cfg0.win 10).flush t = true ∧ i ∈ ((cfg0.win 10).blk t).view.set := by
  have b0 : (i 0).val < 15360 := (i 0).isLt
  let t : Fin cfg0.N := pt' ((i 0).val / 320 + 1) (by omega)
  let y : S320x1024.Idx := ix2 (⟨(i 0).val % 320, Nat.mod_lt _ (by decide)⟩ : Fin 320) (⟨(i 1).val, (i 1).isLt⟩ : Fin 1024)
  refine ⟨t, (flush10 t).2 (Nat.succ_ne_zero _), ?_⟩
  have h := ((cfg0.win 10).blk t).view.emb_mem_set y
  rwa [emb10 t ((i 0).val / 320) rfl y i (by show (i 0).val = 320 * ((i 0).val / 320) + (i 0).val % 320; omega) rfl] at h

theorem final10 (after : (w' : Fin cfg0.W) → Fin cfg0.N → (cfg0.win w').block.Idx → Elt Idealize.ShloMosaic.Ideal (cfg0.win w').elt)
    (hL : ∀ u : Fin cfg0.N, (cfg0.win 10).flush u = true → (rdat m c).Leaves 10 u (after 10 u)) :
    ((rdat m c).withAfter after).arrAt 10 cfg0.N = res10 m c := by
  refine ((rdat m c).withAfter after).arrAt_eq_of_cover 10 (res10 m c) (fun t hf => ?_) covered10
  funext y
  have ht := (flush10 t).1 hf
  have hN : t.val < 49 := t.isLt
  have b0 : ((y : S320x1024.Idx) 0).val < 320 := ((y : S320x1024.Idx) 0).isLt
  let H : Fin 15360 := ⟨320 * (t.val - 1) + ((y : S320x1024.Idx) 0).val, by omega⟩
  show after 10 t y = res10 m c (((cfg0.win 10).blk t).view.emb y)
  rw [emb10 t (t.val - 1) (by omega) y (ix2 H ((y : S320x1024.Idx) 1)) rfl rfl]
  refine (congrArg (after 10 t) (funext fun a => ?_)).trans (leaves10 m c t (t.val - 1) (by omega) (by omega) _ (hL t hf) ((y : S320x1024.Idx) 0) ((y : S320x1024.Idx) 1))
  match a with
  | ⟨0, _⟩ => rfl
  | ⟨1, _⟩ => rfl

/-- A position is its two coordinates. -/
theorem pair_eq (y : S15360x1024.Idx) : y = ix2 (y 0) (y 1) :=
  funext fun a => match a with
    | ⟨0, _⟩ => rfl
    | ⟨1, _⟩ => rfl

/-! ### The run -/

variable (ρ : Dev nD → PrngReg)

/-- Every run ends with the result arrays so, and the argument arrays as they were. -/
theorem run_results : θ_run defs (onTc (τ := τ) (main (F := Idealize.ShloMosaic.Ideal))) ⟨m, fun _ => 0, ρ⟩ fun r => ∀ c : Dev nD,
      r.2.mem ((c.tc : Thread nD τ).loc main_v0_1) = res6 m c
      ∧ r.2.mem ((c.tc : Thread nD τ).loc main_v0_2) = res7 m c
      ∧ r.2.mem ((c.tc : Thread nD τ).loc main_v0_3) = res8 m c
      ∧ r.2.mem ((c.tc : Thread nD τ).loc main_v0_4) = res9 m c
      ∧ r.2.mem ((c.tc : Thread nD τ).loc main_v0_5) = res10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨after, hL, hA⟩ := RDat.FramePost.exists_exact h.1 c
    exact ⟨(hA 6).trans (final6 m c after (hL 6)), (hA 7).trans (final7 m c after (hL 7)), (hA 8).trans (final8 m c after (hL 8)),
      (hA 9).trans (final9 m c after (hL 9)), (hA 10).trans (final10 m c after (hL 10)),
      (RDat.FramePost.arr_in h.1 c 0 rfl).trans (V_main_arg0 m c), (RDat.FramePost.arr_in h.1 c 1 rfl).trans (V_main_arg1 m c),
      (RDat.FramePost.arr_in h.1 c 2 rfl).trans (V_main_arg2 m c), (RDat.FramePost.arr_in h.1 c 3 rfl).trans (V_main_arg3 m c),
      (RDat.FramePost.arr_in h.1 c 4 rfl).trans (V_main_arg4 m c)⟩) (run_main m ρ)

end Cert.KernelIdeal.Hand

end
-- ==== Proof.StateHead.lean ====
/-
  One head of the state kernel, on the extended reals: the feature rows it builds from a head's codes and scales, and
  their product with the head's values and a column of ones.
-/
module

public import proofs.«01_k».proof.Proof.Gen.StateIdeal.Value
public import Idealize.ShloMosaic.Lib.MatmulPlain
public import Idealize.ShloMosaic.Lib.IdealHost
public import Idealize.ShloMosaic.Lib.Pointwise

@[expose] public section

noncomputable section

namespace Cert.StateIdeal.Hand

open Cert.StateIdeal Cert.StateIdeal.Gen
open Idealize.ShloMosaic Idealize.ShloMosaic.TcCoe
open scoped BigOperators

/-! ### The features, as numbers -/

/-- A feature of one position, from its key's sixteen coordinates: one, half of a coordinate, or an eighth of a product of two. -/
def featAt (K : Fin 16 → EReal) (f : Nat) : EReal :=
  if h0 : f = 0 then FloatOps.ofBits (F := Idealize.ShloMosaic.Ideal) .bf16 0x3F80#16
  else if h1 : f < 17 then K (⟨f - 1, by omega⟩ : Fin 16) * FloatOps.ofBits (F := Idealize.ShloMosaic.Ideal) .bf16 0x3F00#16
  else K (⟨(f - 17) / 16 % 16, Nat.mod_lt _ (by decide)⟩ : Fin 16) * K (⟨(f - 17) % 16, Nat.mod_lt _ (by decide)⟩ : Fin 16)
    * FloatOps.ofBits (F := Idealize.ShloMosaic.Ideal) .bf16 0x3E00#16

/-! ### The kernel's rows -/

section Rows

variable {F : FTy → Type} [FloatOps F]

/-- One coordinate's products with all sixteen. -/
def quadRow (kh : FVec F S16x256 .bf16) (i : Nat) (h : S16x256.Slices ![i, 0] S1x256) : FVec F S16x256 .bf16 :=
  mulf (mulf (broadcastTo S16x256 (extractStridedSlice S1x256 ![i, 0] kh h) broadcasts_S1x256_S16x256) kh)
    (broadcast S16x256 (Scalar.ofBits .bf16 0x3E00#16))

/-- The feature rows: the products, the coordinates, and rows of ones. -/
def rowsOf (kh : FVec F S16x256 .bf16) : FVec F S288x256 .bf16 :=
  concatenate S288x256 0 [⟨S16x256, quadRow kh 0 slices_S16x256_o0_0_S1x256⟩, ⟨S16x256, quadRow kh 1 slices_S16x256_o1_0_S1x256⟩,
    ⟨S16x256, quadRow kh 2 slices_S16x256_o2_0_S1x256⟩, ⟨S16x256, quadRow kh 3 slices_S16x256_o3_0_S1x256⟩,
    ⟨S16x256, quadRow kh 4 slices_S16x256_o4_0_S1x256⟩, ⟨S16x256, quadRow kh 5 slices_S16x256_o5_0_S1x256⟩,
    ⟨S16x256, quadRow kh 6 slices_S16x256_o6_0_S1x256⟩, ⟨S16x256, quadRow kh 7 slices_S16x256_o7_0_S1x256⟩,
    ⟨S16x256, quadRow kh 8 slices_S16x256_o8_0_S1x256⟩, ⟨S16x256, quadRow kh 9 slices_S16x256_o9_0_S1x256⟩,
    ⟨S16x256, quadRow kh 10 slices_S16x256_o10_0_S1x256⟩, ⟨S16x256, quadRow kh 11 slices_S16x256_o11_0_S1x256⟩,
    ⟨S16x256, quadRow kh 12 slices_S16x256_o12_0_S1x256⟩, ⟨S16x256, quadRow kh 13 slices_S16x256_o13_0_S1x256⟩,
    ⟨S16x256, quadRow kh 14 slices_S16x256_o14_0_S1x256⟩, ⟨S16x256, quadRow kh 15 slices_S16x256_o15_0_S1x256⟩,
    ⟨S16x256, mulf kh (broadcast S16x256 (Scalar.ofBits .bf16 0x3F00#16))⟩,
    ⟨S16x256, broadcast S16x256 (Scalar.ofBits .bf16 0x3F80#16)⟩]
    concatenates_S16x256_S16x256_S16x256_S16x256_S16x256_S16x256_S16x256_S16x256_S16x256_S16x256_S16x256_S16x256_S16x256_S16x256_S16x256_S16x256_S16x256_S16x256_S288x256_d0

/-- The product of the feature rows with the values and the ones. -/
def headOf (kc : Vec F S1x1x16x256 .fp8e4m3) (ks : Vec F S1x1x256 .f32) (vt : Vec F S160x256 .bf16) : FVec F S288x176 .f32 :=
  matmul dot_S288x256_S176x256_S288x176_1_1_0_0_n_n none (rowsOf (k0_pay5 kc ks))
    (concatenate S176x256 0 [⟨S160x256, vt⟩, ⟨S16x256, k0_pay4⟩] concatenates_S160x256_S16x256_S176x256_d0)
    (constant S288x176 .f32 0x00000000#32)

/-- The six parts a head stores. -/
def sQuad (p : FVec F S288x176 .f32) : FVec F S1x1x256x160 .f32 :=
  shapeCast S1x1x256x160 (extractStridedSlice S256x160 ![0, 0] p slices_S288x176_o0_0_S256x160) shapeCasts_S256x160_S1x1x256x160
def sLin (p : FVec F S288x176 .f32) : FVec F S1x1x16x160 .f32 :=
  shapeCast S1x1x16x160 (extractStridedSlice S16x160 ![256, 0] p slices_S288x176_o256_0_S16x160) shapeCasts_S16x160_S1x1x16x160
def sOne (p : FVec F S288x176 .f32) : FVec F S1x1x1x160 .f32 :=
  shapeCast S1x1x1x160 (extractStridedSlice S1x160 ![272, 0] p slices_S288x176_o272_0_S1x160) shapeCasts_S1x160_S1x1x1x160
def zQuad (p : FVec F S288x176 .f32) : FVec F S1x1x256x1 .f32 :=
  shapeCast S1x1x256x1 (extractStridedSlice S256x1 ![0, 160] p slices_S288x176_o0_160_S256x1) shapeCasts_S256x1_S1x1x256x1
def zLin (p : FVec F S288x176 .f32) : FVec F S1x1x16x1 .f32 :=
  shapeCast S1x1x16x1 (extractStridedSlice S16x1 ![256, 160] p slices_S288x176_o256_160_S16x1) shapeCasts_S16x1_S1x1x16x1
def zOne (p : FVec F S288x176 .f32) : FVec F S1x1x1x1 .f32 :=
  shapeCast S1x1x1x1 (extractStridedSlice S1x1 ![272, 160] p slices_S288x176_o272_160_S1x1) shapeCasts_S1x1_S1x1x1x1

end Rows

end Cert.StateIdeal.Hand

end
-- ==== Proof.StatePieces.lean ====
/-
  The stores of the state kernel, head by head: each head stores the same six parts of its product.
-/
module

public import proofs.«01_k».proof.Proof.StateHead

@[expose] public section

noncomputable section

namespace Cert.StateIdeal.Hand

open Cert.StateIdeal Cert.StateIdeal.Gen
open Idealize.ShloMosaic Idealize.ShloMosaic.TcCoe
open scoped BigOperators

variable {F : FTy → Type} [FloatOps F] (c : Dev nD) (i : grid0.Coords) (arg2 : Memref sig .tc .vmem S1x8x16x256 .fp8e4m3) (harg2 : arg2.IsWhole)
  (arg3 : Memref sig .tc .vmem S1x8x256 .f32) (harg3 : arg3.IsWhole) (arg4 : Memref sig .tc .vmem S1280x256 .bf16) (harg4 : arg4.IsWhole)
  (arg5 : Memref sig .tc .vmem S1x8x273x160 .f32) (harg5 : arg5.IsWhole) (arg6 : Memref sig .tc .vmem S1x8x273x1 .f32) (harg6 : arg6.IsWhole)
  (x0 : Vec F S1x8x16x256 .fp8e4m3) (x1 : Vec F S1x8x256 .f32) (x2 : Vec F S1280x256 .bf16)

theorem in_kc (h : Nat) (hh : h < 8) : ∀ a : Fin 4, ![0, h, 0, 0] a + S1x1x16x256.size a ≤ S1x8x16x256.size a
  | ⟨0, _⟩ => by show 0 + 1 ≤ 1; omega
  | ⟨1, _⟩ => by show h + 1 ≤ 8; omega
  | ⟨2, _⟩ => by show 0 + 16 ≤ 16; omega
  | ⟨3, _⟩ => by show 0 + 256 ≤ 256; omega
theorem in_ks (h : Nat) (hh : h < 8) : ∀ a : Fin 3, ![0, h, 0] a + S1x1x256.size a ≤ S1x8x256.size a
  | ⟨0, _⟩ => by show 0 + 1 ≤ 1; omega
  | ⟨1, _⟩ => by show h + 1 ≤ 8; omega
  | ⟨2, _⟩ => by show 0 + 256 ≤ 256; omega
theorem in_vt (h : Nat) (hh : h < 8) : ∀ a : Fin 2, ![160 * h, 0] a + S160x256.size a ≤ S1280x256.size a
  | ⟨0, _⟩ => by show 160 * h + 160 ≤ 1280; omega
  | ⟨1, _⟩ => by show 0 + 256 ≤ 256; omega
theorem in_s (h o n : Nat) (hh : h < 8) (ho : o + n ≤ 273) : ∀ a : Fin 4, ![0, h, o, 0] a + ![1, 1, n, 160] a ≤ S1x8x273x160.size a
  | ⟨0, _⟩ => by show 0 + 1 ≤ 1; omega
  | ⟨1, _⟩ => by show h + 1 ≤ 8; omega
  | ⟨2, _⟩ => by show o + n ≤ 273; omega
  | ⟨3, _⟩ => by show 0 + 160 ≤ 160; omega
theorem in_z (h o n : Nat) (hh : h < 8) (ho : o + n ≤ 273) : ∀ a : Fin 4, ![0, h, o, 0] a + ![1, 1, n, 1] a ≤ S1x8x273x1.size a
  | ⟨0, _⟩ => by show 0 + 1 ≤ 1; omega
  | ⟨1, _⟩ => by show h + 1 ≤ 8; omega
  | ⟨2, _⟩ => by show o + n ≤ 273; omega
  | ⟨3, _⟩ => by show 0 + 1 ≤ 1; omega

/-- A head's product, of the codes, scales and values it loads. -/
def headAt (h : Nat) (hh : h < 8) : FVec F S288x176 .f32 :=
  headOf (View.readAt (Elt F) arg2.view (Rect.unit (s := S1x8x16x256) ![0, h, 0, 0] S1x1x16x256.size (in_kc h hh)).toLoadRect (harg2.unread x0))
    (View.readAt (Elt F) arg3.view (Rect.unit (s := S1x8x256) ![0, h, 0] S1x1x256.size (in_ks h hh)).toLoadRect (harg3.unread x1))
    (View.readAt (Elt F) arg4.view (Rect.unit (s := S1280x256) ![160 * h, 0] S160x256.size (in_vt h hh)).toLoadRect (harg4.unread x2))

/-- A head's stores to the sums with values. -/
def sPieces (p : FVec F S288x176 .f32) (h : Nat) (hh : h < 8) : List (View.Piece (Elt F) S1x8x273x160 .f32) :=
  [⟨Rect.unit (s := S1x8x273x160) ![0, h, 0, 0] ![1, 1, 1, 160] (in_s h 0 1 hh (by decide)), sOne p⟩,
   ⟨Rect.unit (s := S1x8x273x160) ![0, h, 1, 0] ![1, 1, 16, 160] (in_s h 1 16 hh (by decide)), sLin p⟩,
   ⟨Rect.unit (s := S1x8x273x160) ![0, h, 17, 0] ![1, 1, 256, 160] (in_s h 17 256 hh (by decide)), sQuad p⟩]

/-- A head's stores to the sums. -/
def zPieces (p : FVec F S288x176 .f32) (h : Nat) (hh : h < 8) : List (View.Piece (Elt F) S1x8x273x1 .f32) :=
  [⟨Rect.unit (s := S1x8x273x1) ![0, h, 0, 0] ![1, 1, 1, 1] (in_z h 0 1 hh (by decide)), zOne p⟩,
   ⟨Rect.unit (s := S1x8x273x1) ![0, h, 1, 0] ![1, 1, 16, 1] (in_z h 1 16 hh (by decide)), zLin p⟩,
   ⟨Rect.unit (s := S1x8x273x1) ![0, h, 17, 0] ![1, 1, 256, 1] (in_z h 17 256 hh (by decide)), zQuad p⟩]

theorem run_s : (kernelRun0_A c i arg2 harg2 arg3 harg3 arg4 harg4 arg5 harg5 arg6 harg6 x0 x1 x2).1
    = sPieces (headAt arg2 harg2 arg3 harg3 arg4 harg4 x0 x1 x2 7 (by decide)) 7 (by decide)
      ++ (sPieces (headAt arg2 harg2 arg3 harg3 arg4 harg4 x0 x1 x2 6 (by decide)) 6 (by decide)
      ++ (sPieces (headAt arg2 harg2 arg3 harg3 arg4 harg4 x0 x1 x2 5 (by decide)) 5 (by decide)
      ++ (sPieces (headAt arg2 harg2 arg3 harg3 arg4 harg4 x0 x1 x2 4 (by decide)) 4 (by decide)
      ++ (sPieces (headAt arg2 harg2 arg3 harg3 arg4 harg4 x0 x1 x2 3 (by decide)) 3 (by decide)
      ++ (sPieces (headAt arg2 harg2 arg3 harg3 arg4 harg4 x0 x1 x2 2 (by decide)) 2 (by decide)
      ++ (sPieces (headAt arg2 harg2 arg3 harg3 arg4 harg4 x0 x1 x2 1 (by decide)) 1 (by decide)
      ++ sPieces (headAt arg2 harg2 arg3 harg3 arg4 harg4 x0 x1 x2 0 (by decide)) 0 (by decide))))))) := by
  rfl

theorem run_z : (kernelRun0_A c i arg2 harg2 arg3 harg3 arg4 harg4 arg5 harg5 arg6 harg6 x0 x1 x2).2.1
    = zPieces (headAt arg2 harg2 arg3 harg3 arg4 harg4 x0 x1 x2 7 (by decide)) 7 (by decide)
      ++ (zPieces (headAt arg2 harg2 arg3 harg3 arg4 harg4 x0 x1 x2 6 (by decide)) 6 (by decide)
      ++ (zPieces (headAt arg2 harg2 arg3 harg3 arg4 harg4 x0 x1 x2 5 (by decide)) 5 (by decide)
      ++ (zPieces (headAt arg2 harg2 arg3 harg3 arg4 harg4 x0 x1 x2 4 (by decide)) 4 (by decide)
      ++ (zPieces (headAt arg2 harg2 arg3 harg3 arg4 harg4 x0 x1 x2 3 (by decide)) 3 (by decide)
      ++ (zPieces (headAt arg2 harg2 arg3 harg3 arg4 harg4 x0 x1 x2 2 (by decide)) 2 (by decide)
      ++ (zPieces (headAt arg2 harg2 arg3 harg3 arg4 harg4 x0 x1 x2 1 (by decide)) 1 (by decide)
      ++ zPieces (headAt arg2 harg2 arg3 harg3 arg4 harg4 x0 x1 x2 0 (by decide)) 0 (by decide))))))) := by
  rfl

end Cert.StateIdeal.Hand

end
-- ==== Proof.StateSums.lean ====
/-
  The state kernel's block on the extended reals: at each head, feature and value row, the sum over the positions of the
  feature times the value; at each head and feature, the sum of the feature.
-/
module

public import proofs.«01_k».proof.Proof.StatePieces
public import Idealize.ShloMosaic.Lib.WholeRead

@[expose] public section

noncomputable section

namespace Cert.StateIdeal.Hand

open Cert.StateIdeal Cert.StateIdeal.Gen
open Idealize.ShloMosaic Idealize.ShloMosaic.TcCoe
open scoped BigOperators

/-! ### The rows -/

/-- A key's coordinates: codes times scales. -/
theorem keys_apply (kc : Vec Idealize.ShloMosaic.Ideal S1x1x16x256 .fp8e4m3) (ks : Vec Idealize.ShloMosaic.Ideal S1x1x256 .f32) (i : Fin 16) (s : Fin 256) :
    k0_pay5 kc ks (ix2 i s) = (kc (ix4 (0 : Fin 1) (0 : Fin 1) i s) * ks (ix3 (0 : Fin 1) (0 : Fin 1) s) : EReal) := by
  unfold k0_pay5
  try dsimp only
  refine congrArg₂ (fun a b : EReal => a * b) ?_ ?_
  · refine shapeCast_apply kc _ (ix2 i s) (ix4 (0 : Fin 1) (0 : Fin 1) i s) ?_
    simp only [Shape.rowMajor_val_two, Shape.rowMajor_val_four]
    show ((0 * 1 + 0) * 16 + i.val) * 256 + s.val = i.val * 256 + s.val
    omega
  · refine (broadcastTo_apply _ _ (ix2 i s) (ix2 (0 : Fin 1) s) (fun a => match a with | ⟨0, _⟩ => rfl | ⟨1, _⟩ => rfl)).trans ?_
    refine shapeCast_apply ks _ (ix2 (0 : Fin 1) s) (ix3 (0 : Fin 1) (0 : Fin 1) s) ?_
    simp only [Shape.rowMajor_val_two, Shape.rowMajor_val_three]
    show (0 * 1 + 0) * 256 + s.val = 0 * 256 + s.val
    omega

/-- One coordinate's products. -/
theorem quadRow_apply (kh : FVec Idealize.ShloMosaic.Ideal S16x256 .bf16) (n : Nat) (hn : n < 16) (h : S16x256.Slices ![n, 0] S1x256) (j : Fin 16) (s : Fin 256) :
    quadRow kh n h (ix2 j s) = (kh (ix2 (⟨n, hn⟩ : Fin 16) s) * kh (ix2 j s) * FloatOps.ofBits (F := Idealize.ShloMosaic.Ideal) .bf16 0x3E00#16 : EReal) := by
  unfold quadRow
  refine congrArg (fun a : EReal => a * kh (ix2 j s) * FloatOps.ofBits (F := Idealize.ShloMosaic.Ideal) .bf16 0x3E00#16) ?_
  refine (broadcastTo_apply _ _ (ix2 j s) (ix2 (0 : Fin 1) s) (fun a => match a with | ⟨0, _⟩ => rfl | ⟨1, _⟩ => rfl)).trans ?_
  exact extractStridedSlice_apply _ _ _ (ix2 (0 : Fin 1) s) (ix2 (⟨n, hn⟩ : Fin 16) s)
    (fun a => match a with | ⟨0, _⟩ => (by show n = n + 0; omega) | ⟨1, _⟩ => (by show s.val = 0 + s.val; omega))

/-- The kernel's row for a feature: the products first, then the coordinates, then one. -/
def rowOf (f : Nat) : Nat := if f = 0 then 272 else if f < 17 then 255 + f else f - 17

theorem rowOf_lt (f : Nat) (hf : f < 273) : rowOf f < 288 := by unfold rowOf; split <;> [skip; split] <;> omega

/-- The pieces the rows are put together from. -/
def rowList (kh : FVec Idealize.ShloMosaic.Ideal S16x256 .bf16) : List ((s : Shape) × (s.Idx → Idealize.ShloMosaic.Ideal .bf16)) :=
  [⟨S16x256, quadRow kh 0 slices_S16x256_o0_0_S1x256⟩, ⟨S16x256, quadRow kh 1 slices_S16x256_o1_0_S1x256⟩,
    ⟨S16x256, quadRow kh 2 slices_S16x256_o2_0_S1x256⟩, ⟨S16x256, quadRow kh 3 slices_S16x256_o3_0_S1x256⟩,
    ⟨S16x256, quadRow kh 4 slices_S16x256_o4_0_S1x256⟩, ⟨S16x256, quadRow kh 5 slices_S16x256_o5_0_S1x256⟩,
    ⟨S16x256, quadRow kh 6 slices_S16x256_o6_0_S1x256⟩, ⟨S16x256, quadRow kh 7 slices_S16x256_o7_0_S1x256⟩,
    ⟨S16x256, quadRow kh 8 slices_S16x256_o8_0_S1x256⟩, ⟨S16x256, quadRow kh 9 slices_S16x256_o9_0_S1x256⟩,
    ⟨S16x256, quadRow kh 10 slices_S16x256_o10_0_S1x256⟩, ⟨S16x256, quadRow kh 11 slices_S16x256_o11_0_S1x256⟩,
    ⟨S16x256, quadRow kh 12 slices_S16x256_o12_0_S1x256⟩, ⟨S16x256, quadRow kh 13 slices_S16x256_o13_0_S1x256⟩,
    ⟨S16x256, quadRow kh 14 slices_S16x256_o14_0_S1x256⟩, ⟨S16x256, quadRow kh 15 slices_S16x256_o15_0_S1x256⟩,
    ⟨S16x256, mulf kh (broadcast S16x256 (Scalar.ofBits .bf16 0x3F00#16))⟩,
    ⟨S16x256, broadcast S16x256 (Scalar.ofBits .bf16 0x3F80#16)⟩]

theorem slices_row : ∀ n, n < 16 → S16x256.Slices ![n, 0] S1x256
  | 0, _ => slices_S16x256_o0_0_S1x256 | 1, _ => slices_S16x256_o1_0_S1x256 | 2, _ => slices_S16x256_o2_0_S1x256 | 3, _ => slices_S16x256_o3_0_S1x256
  | 4, _ => slices_S16x256_o4_0_S1x256 | 5, _ => slices_S16x256_o5_0_S1x256 | 6, _ => slices_S16x256_o6_0_S1x256 | 7, _ => slices_S16x256_o7_0_S1x256
  | 8, _ => slices_S16x256_o8_0_S1x256 | 9, _ => slices_S16x256_o9_0_S1x256 | 10, _ => slices_S16x256_o10_0_S1x256 | 11, _ => slices_S16x256_o11_0_S1x256
  | 12, _ => slices_S16x256_o12_0_S1x256 | 13, _ => slices_S16x256_o13_0_S1x256 | 14, _ => slices_S16x256_o14_0_S1x256 | 15, _ => slices_S16x256_o15_0_S1x256
  | n + 16, h => absurd h (by omega)

theorem rowList_length (kh : FVec Idealize.ShloMosaic.Ideal S16x256 .bf16) : (rowList kh).length = 18 := rfl

theorem rowList_quad (kh : FVec Idealize.ShloMosaic.Ideal S16x256 .bf16) : ∀ (n : Nat) (h : n < 16) (hl : n < (rowList kh).length),
    (rowList kh)[n] = ⟨S16x256, quadRow kh n (slices_row n h)⟩
  | 0, _, _ => rfl | 1, _, _ => rfl | 2, _, _ => rfl | 3, _, _ => rfl | 4, _, _ => rfl | 5, _, _ => rfl | 6, _, _ => rfl | 7, _, _ => rfl
  | 8, _, _ => rfl | 9, _, _ => rfl | 10, _, _ => rfl | 11, _, _ => rfl | 12, _, _ => rfl | 13, _, _ => rfl | 14, _, _ => rfl | 15, _, _ => rfl
  | n + 16, h, _ => absurd h (by omega)

theorem rowList_shapes (kh : FVec Idealize.ShloMosaic.Ideal S16x256 .bf16) : (rowList kh).map (·.1) = List.replicate 18 S16x256 := rfl

/-- The rows before a piece. -/
theorem rowList_pre (kh : FVec Idealize.ShloMosaic.Ideal S16x256 .bf16) (n : Nat) (h : n ≤ 18) :
    ((((rowList kh).take n).map (·.1)).map fun s => if h : s.rank = S288x256.rank then s.size ((0 : Fin S288x256.rank).cast h.symm) else 0).sum = 16 * n := by
  rw [List.map_take, rowList_shapes, List.take_replicate, List.map_replicate, List.sum_replicate, Nat.min_eq_left h]
  show n * 16 = 16 * n
  omega

theorem rows_apply (kh : FVec Idealize.ShloMosaic.Ideal S16x256 .bf16) (f : Nat) (hf : f < 273) (s : Fin 256) :
    rowsOf kh (ix2 (⟨rowOf f, rowOf_lt f hf⟩ : Fin 288) s) = featAt (fun i => kh (ix2 i s)) f := by
  have piece : ∀ (n : Nat) (hn : n < 18) (x : S16x256.Idx → Idealize.ShloMosaic.Ideal .bf16) (hx : (rowList kh)[n]'(by rw [rowList_length]; exact hn) = ⟨S16x256, x⟩)
      (j : Fin 16) (hj : 16 * n + j.val = rowOf f), rowsOf kh (ix2 (⟨rowOf f, rowOf_lt f hf⟩ : Fin 288) s) = x (ix2 j s) := fun n hn x hx j hj =>
    concatenate_apply_piece (t := S288x256) 0 (rowList kh) _ (ix2 (⟨rowOf f, rowOf_lt f hf⟩ : Fin 288) s) n (by rw [rowList_length]; exact hn) S16x256 x hx rfl
      (16 * n) (rowList_pre kh n (le_of_lt hn)) (ix2 j s) (fun b hb => match b, hb with | ⟨0, _⟩, hb => absurd rfl hb | ⟨1, _⟩, _ => rfl) hj
  unfold featAt
  by_cases h0 : f = 0
  · rw [dif_pos h0]
    exact piece 17 (by decide) (broadcast S16x256 (Scalar.ofBits .bf16 0x3F80#16)) rfl (0 : Fin 16) (by unfold rowOf; rw [if_pos h0]; rfl)
  · rw [dif_neg h0]
    by_cases h1 : f < 17
    · rw [dif_pos h1]
      exact piece 16 (by decide) (mulf kh (broadcast S16x256 (Scalar.ofBits .bf16 0x3F00#16))) rfl (⟨f - 1, by omega⟩ : Fin 16)
        (by unfold rowOf; rw [if_neg h0, if_pos h1]; show 16 * 16 + (f - 1) = 255 + f; omega)
    · rw [dif_neg h1]
      have hq : (f - 17) / 16 % 16 < 16 := Nat.mod_lt _ (by decide)
      refine (piece ((f - 17) / 16 % 16) (by omega) (quadRow kh _ (slices_row _ hq)) (rowList_quad kh _ hq _) (⟨(f - 17) % 16, Nat.mod_lt _ (by decide)⟩ : Fin 16)
        (by unfold rowOf; rw [if_neg h0, if_neg h1]; show 16 * ((f - 17) / 16 % 16) + (f - 17) % 16 = f - 17; omega)).trans ?_
      exact quadRow_apply kh _ hq _ _ s

/-! ### A head's product -/

/-- A key's coordinates at a position. -/
def keysAt (kc : Vec Idealize.ShloMosaic.Ideal S1x1x16x256 .fp8e4m3) (ks : Vec Idealize.ShloMosaic.Ideal S1x1x256 .f32) (s : Fin 256) (i : Fin 16) : EReal :=
  kc (ix4 (0 : Fin 1) (0 : Fin 1) i s) * ks (ix3 (0 : Fin 1) (0 : Fin 1) s)

theorem rows_keys (kc : Vec Idealize.ShloMosaic.Ideal S1x1x16x256 .fp8e4m3) (ks : Vec Idealize.ShloMosaic.Ideal S1x1x256 .f32) (f : Nat) (hf : f < 273) (s : Fin 256) :
    rowsOf (k0_pay5 kc ks) (ix2 (⟨rowOf f, rowOf_lt f hf⟩ : Fin 288) s) = featAt (keysAt kc ks s) f :=
  (rows_apply _ f hf s).trans (congrArg (fun K => featAt K f) (funext fun i => keys_apply kc ks i s))

theorem head_apply (kc : Vec Idealize.ShloMosaic.Ideal S1x1x16x256 .fp8e4m3) (ks : Vec Idealize.ShloMosaic.Ideal S1x1x256 .f32) (vt : Vec Idealize.ShloMosaic.Ideal S160x256 .bf16)
    (f : Nat) (hf : f < 273) (d : Fin 176) (v : Fin 256 → EReal)
    (hv : ∀ s, concatenate S176x256 0 [⟨S160x256, vt⟩, ⟨S16x256, k0_pay4 (F := Idealize.ShloMosaic.Ideal)⟩] concatenates_S160x256_S16x256_S176x256_d0 (ix2 d s) = v s) :
    headOf (F := Idealize.ShloMosaic.Ideal) kc ks vt (ix2 (⟨rowOf f, rowOf_lt f hf⟩ : Fin 288) d) = ∑ s : Fin 256, featAt (keysAt kc ks s) f * v s := by
  unfold headOf
  refine (Ideal.matmul_transposedRhs_apply (M := 288) (K := 256) (N := 176) none _ _ _ _ d).trans ?_
  refine (congrArg (· + _) (show constant (F := Idealize.ShloMosaic.Ideal) S288x176 .f32 0x00000000#32 (ix2 (⟨rowOf f, rowOf_lt f hf⟩ : Fin 288) d) = (0 : EReal) from Ideal.ofBits_zero .f32)).trans ?_
  rw [zero_add]
  exact Finset.sum_congr rfl fun s _ => congrArg₂ (fun a b : EReal => a * b) (rows_keys kc ks f hf s) (hv s)

/-- Against a row of values. -/
theorem head_value (kc : Vec Idealize.ShloMosaic.Ideal S1x1x16x256 .fp8e4m3) (ks : Vec Idealize.ShloMosaic.Ideal S1x1x256 .f32) (vt : Vec Idealize.ShloMosaic.Ideal S160x256 .bf16)
    (f : Nat) (hf : f < 273) (d : Fin 160) :
    headOf (F := Idealize.ShloMosaic.Ideal) kc ks vt (ix2 (⟨rowOf f, rowOf_lt f hf⟩ : Fin 288) (⟨d.val, by omega⟩ : Fin 176))
      = ∑ s : Fin 256, featAt (keysAt kc ks s) f * vt (ix2 d s) := by
  refine head_apply kc ks vt f hf _ (fun s => vt (ix2 d s)) fun s => ?_
  exact concatenate_apply_piece (t := S176x256) 0 _ _ _ 0 (by show 0 < 2; decide) S160x256 _ rfl rfl 0 rfl (ix2 d s)
    (fun b hb => match b, hb with | ⟨0, _⟩, hb => absurd rfl hb | ⟨1, _⟩, _ => rfl) (Nat.zero_add _)

/-- Against the ones. -/
theorem head_one (kc : Vec Idealize.ShloMosaic.Ideal S1x1x16x256 .fp8e4m3) (ks : Vec Idealize.ShloMosaic.Ideal S1x1x256 .f32) (vt : Vec Idealize.ShloMosaic.Ideal S160x256 .bf16)
    (f : Nat) (hf : f < 273) :
    headOf (F := Idealize.ShloMosaic.Ideal) kc ks vt (ix2 (⟨rowOf f, rowOf_lt f hf⟩ : Fin 288) (⟨160, by decide⟩ : Fin 176))
      = ∑ s : Fin 256, featAt (keysAt kc ks s) f := by
  refine (head_apply kc ks vt f hf _ (fun _ => 1) fun s => ?_).trans (Finset.sum_congr rfl fun s _ => mul_one _)
  refine (concatenate_apply_piece (t := S176x256) 0 _ _ _ 1 (by show 1 < 2; decide) S16x256 _ rfl rfl 160 rfl (ix2 (0 : Fin 16) s)
    (fun b hb => match b, hb with | ⟨0, _⟩, hb => absurd rfl hb | ⟨1, _⟩, _ => rfl) rfl).trans ?_
  exact Ideal.ofBits_one_bf16

/-! ### The stores -/

/-- A part of a product, stored with two unit axes before it. -/
theorem part_apply {n w o q : Nat} (p : FVec Idealize.ShloMosaic.Ideal S288x176 .f32) (hS : S288x176.Slices ![o, q] (⟨2, ![n, w]⟩ : Shape))
    (hC : (⟨2, ![n, w]⟩ : Shape).ShapeCasts (⟨4, ![1, 1, n, w]⟩ : Shape)) (x : (⟨4, ![1, 1, n, w]⟩ : Shape).Idx) (r : Fin 288) (d : Fin 176)
    (hr : r.val = o + (x 2).val) (hd : d.val = q + (x 3).val) :
    shapeCast (⟨4, ![1, 1, n, w]⟩ : Shape) (extractStridedSlice (⟨2, ![n, w]⟩ : Shape) ![o, q] p hS) hC x = p (ix2 r d) := by
  have b0 : (x 0).val < 1 := (x 0).isLt
  have b1 : (x 1).val < 1 := (x 1).isLt
  have e0 : (x 0).val = 0 := by omega
  have e1 : (x 1).val = 0 := by omega
  refine (shapeCast_apply _ _ x (ix2 (⟨(x 2).val, (x 2).isLt⟩ : Fin n) (⟨(x 3).val, (x 3).isLt⟩ : Fin w)) ?_).trans ?_
  · simp only [Shape.rowMajor_val_two, Shape.rowMajor_val_four]
    show (x 2).val * w + (x 3).val = (((x 0).val * 1 + (x 1).val) * n + (x 2).val) * w + (x 3).val
    rw [e0, e1]
    simp
  · exact extractStridedSlice_apply _ _ _ _ (ix2 r d)
      (fun a => match a with | ⟨0, _⟩ => (by show r.val = o + (x 2).val; omega) | ⟨1, _⟩ => (by show d.val = q + (x 3).val; omega))

/-- The product's entry a block index of the sums with values is stored from. -/
def sSpot (y : S1x8x273x160.Idx) : S288x176.Idx :=
  ix2 (⟨rowOf (y 2).val, rowOf_lt _ (y 2).isLt⟩ : Fin 288) (⟨(y 3).val, by have h : (y 3).val < 160 := (y 3).isLt; omega⟩ : Fin 176)

/-- The product's entry a block index of the sums is stored from. -/
def zSpot (y : S1x8x273x1.Idx) : S288x176.Idx :=
  ix2 (⟨rowOf (y 2).val, rowOf_lt _ (y 2).isLt⟩ : Fin 288) (⟨160, by decide⟩ : Fin 176)

theorem sPieces_apply (p : FVec Idealize.ShloMosaic.Ideal S288x176 .f32) (h : Nat) (hh : h < 8) :
    ∀ pc ∈ sPieces p h hh, ∀ x : pc.1.shape.Idx, (pc.1.emb x 1).val = h ∧ pc.2 x = p (sSpot (pc.1.emb x)) := by
  intro pc hpc
  rcases List.mem_cons.1 hpc with rfl | hpc
  · intro x
    have b1 : (x 1).val < 1 := (x 1).isLt
    have b2 : (x 2).val < 1 := (x 2).isLt
    refine ⟨by show h + 1 * (x 1).val = h; omega, ?_⟩
    refine part_apply p slices_S288x176_o272_0_S1x160 shapeCasts_S1x160_S1x1x1x160 x _ _ ?_ (by show 0 + 1 * (x 3).val = 0 + (x 3).val; omega)
    show rowOf (0 + 1 * (x 2).val) = 272 + (x 2).val
    rw [show (x 2).val = 0 by omega]; rfl
  rcases List.mem_cons.1 hpc with rfl | hpc
  · intro x
    have b1 : (x 1).val < 1 := (x 1).isLt
    have b2 : (x 2).val < 16 := (x 2).isLt
    refine ⟨by show h + 1 * (x 1).val = h; omega, ?_⟩
    refine part_apply p slices_S288x176_o256_0_S16x160 shapeCasts_S16x160_S1x1x16x160 x _ _ ?_ (by show 0 + 1 * (x 3).val = 0 + (x 3).val; omega)
    show rowOf (1 + 1 * (x 2).val) = 256 + (x 2).val
    unfold rowOf; rw [if_neg (by omega), if_pos (by omega)]; omega
  rcases List.mem_cons.1 hpc with rfl | hpc
  · intro x
    have b1 : (x 1).val < 1 := (x 1).isLt
    have b2 : (x 2).val < 256 := (x 2).isLt
    refine ⟨by show h + 1 * (x 1).val = h; omega, ?_⟩
    refine part_apply p slices_S288x176_o0_0_S256x160 shapeCasts_S256x160_S1x1x256x160 x _ _ ?_ (by show 0 + 1 * (x 3).val = 0 + (x 3).val; omega)
    show rowOf (17 + 1 * (x 2).val) = 0 + (x 2).val
    unfold rowOf; rw [if_neg (by omega), if_neg (by omega)]; omega
  · exact absurd hpc (List.not_mem_nil)

theorem zPieces_apply (p : FVec Idealize.ShloMosaic.Ideal S288x176 .f32) (h : Nat) (hh : h < 8) :
    ∀ pc ∈ zPieces p h hh, ∀ x : pc.1.shape.Idx, (pc.1.emb x 1).val = h ∧ pc.2 x = p (zSpot (pc.1.emb x)) := by
  intro pc hpc
  rcases List.mem_cons.1 hpc with rfl | hpc
  · intro x
    have b1 : (x 1).val < 1 := (x 1).isLt
    have b2 : (x 2).val < 1 := (x 2).isLt
    have b3 : (x 3).val < 1 := (x 3).isLt
    refine ⟨by show h + 1 * (x 1).val = h; omega, ?_⟩
    refine part_apply p slices_S288x176_o272_160_S1x1 shapeCasts_S1x1_S1x1x1x1 x _ _ ?_ (by show 160 = 160 + (x 3).val; omega)
    show rowOf (0 + 1 * (x 2).val) = 272 + (x 2).val
    rw [show (x 2).val = 0 by omega]; rfl
  rcases List.mem_cons.1 hpc with rfl | hpc
  · intro x
    have b1 : (x 1).val < 1 := (x 1).isLt
    have b2 : (x 2).val < 16 := (x 2).isLt
    have b3 : (x 3).val < 1 := (x 3).isLt
    refine ⟨by show h + 1 * (x 1).val = h; omega, ?_⟩
    refine part_apply p slices_S288x176_o256_160_S16x1 shapeCasts_S16x1_S1x1x16x1 x _ _ ?_ (by show 160 = 160 + (x 3).val; omega)
    show rowOf (1 + 1 * (x 2).val) = 256 + (x 2).val
    unfold rowOf; rw [if_neg (by omega), if_pos (by omega)]; omega
  rcases List.mem_cons.1 hpc with rfl | hpc
  · intro x
    have b1 : (x 1).val < 1 := (x 1).isLt
    have b2 : (x 2).val < 256 := (x 2).isLt
    have b3 : (x 3).val < 1 := (x 3).isLt
    refine ⟨by show h + 1 * (x 1).val = h; omega, ?_⟩
    refine part_apply p slices_S288x176_o0_160_S256x1 shapeCasts_S256x1_S1x1x256x1 x _ _ ?_ (by show 160 = 160 + (x 3).val; omega)
    show rowOf (17 + 1 * (x 2).val) = 0 + (x 2).val
    unfold rowOf; rw [if_neg (by omega), if_neg (by omega)]; omega
  · exact absurd hpc (List.not_mem_nil)

/-! ### The blocks -/

section Blocks

variable (c : Dev nD) (i : grid0.Coords) (arg2 : Memref sig .tc .vmem S1x8x16x256 .fp8e4m3) (harg2 : arg2.IsWhole)
  (arg3 : Memref sig .tc .vmem S1x8x256 .f32) (harg3 : arg3.IsWhole) (arg4 : Memref sig .tc .vmem S1280x256 .bf16) (harg4 : arg4.IsWhole)
  (arg5 : Memref sig .tc .vmem S1x8x273x160 .f32) (harg5 : arg5.IsWhole) (arg6 : Memref sig .tc .vmem S1x8x273x1 .f32) (harg6 : arg6.IsWhole)
  (x0 : Vec Idealize.ShloMosaic.Ideal S1x8x16x256 .fp8e4m3) (x1 : Vec Idealize.ShloMosaic.Ideal S1x8x256 .f32) (x2 : Vec Idealize.ShloMosaic.Ideal S1280x256 .bf16)

/-- A key's coordinates, of a block of eight heads. -/
def blockKeys (h : Fin 8) (s : Fin 256) (i : Fin 16) : EReal := x0 (ix4 (0 : Fin 1) h i s) * x1 (ix3 (0 : Fin 1) h s)

theorem load_keys (h : Nat) (hh : h < 8) (s : Fin 256) :
    keysAt (View.readAt (Elt Idealize.ShloMosaic.Ideal) arg2.view (Rect.unit (s := S1x8x16x256) ![0, h, 0, 0] S1x1x16x256.size (in_kc h hh)).toLoadRect (harg2.unread x0))
      (View.readAt (Elt Idealize.ShloMosaic.Ideal) arg3.view (Rect.unit (s := S1x8x256) ![0, h, 0] S1x1x256.size (in_ks h hh)).toLoadRect (harg3.unread x1)) s
      = blockKeys x0 x1 ⟨h, hh⟩ s := by
  funext i
  unfold keysAt blockKeys
  refine congrArg₂ (fun a b : EReal => a * b) ?_ ?_
  · refine (Memref.IsWhole.readAt_unread harg2 x0 _ _).trans (congrArg x0 (funext fun a => Fin.ext ?_))
    match a with
    | ⟨0, _⟩ => rfl
    | ⟨1, _⟩ => show h + 1 * 0 = h; omega
    | ⟨2, _⟩ => show 0 + 1 * i.val = i.val; omega
    | ⟨3, _⟩ => show 0 + 1 * s.val = s.val; omega
  · refine (Memref.IsWhole.readAt_unread harg3 x1 _ _).trans (congrArg x1 (funext fun a => Fin.ext ?_))
    match a with
    | ⟨0, _⟩ => rfl
    | ⟨1, _⟩ => show h + 1 * 0 = h; omega
    | ⟨2, _⟩ => show 0 + 1 * s.val = s.val; omega

theorem headAt_value (h : Nat) (hh : h < 8) (f : Nat) (hf : f < 273) (d : Fin 160) :
    headAt arg2 harg2 arg3 harg3 arg4 harg4 x0 x1 x2 h hh (ix2 (⟨rowOf f, rowOf_lt f hf⟩ : Fin 288) (⟨d.val, by omega⟩ : Fin 176))
      = ∑ s : Fin 256, featAt (blockKeys x0 x1 ⟨h, hh⟩ s) f * x2 (ix2 (⟨160 * h + d.val, by omega⟩ : Fin 1280) s) := by
  unfold headAt
  refine (head_value _ _ _ f hf d).trans (Finset.sum_congr rfl fun s _ => congrArg₂ (fun a b : EReal => a * b) ?_ ?_)
  · exact congrArg (fun K => featAt K f) (load_keys arg2 harg2 arg3 harg3 x0 x1 h hh s)
  · refine (Memref.IsWhole.readAt_unread harg4 x2 _ _).trans (congrArg x2 (funext fun a => Fin.ext ?_))
    match a with
    | ⟨0, _⟩ => show 160 * h + 1 * d.val = 160 * h + d.val; omega
    | ⟨1, _⟩ => show 0 + 1 * s.val = s.val; omega

theorem headAt_one (h : Nat) (hh : h < 8) (f : Nat) (hf : f < 273) :
    headAt arg2 harg2 arg3 harg3 arg4 harg4 x0 x1 x2 h hh (ix2 (⟨rowOf f, rowOf_lt f hf⟩ : Fin 288) (⟨160, by decide⟩ : Fin 176))
      = ∑ s : Fin 256, featAt (blockKeys x0 x1 ⟨h, hh⟩ s) f := by
  unfold headAt
  exact (head_one _ _ _ f hf).trans (Finset.sum_congr rfl fun s _ => congrArg (fun K => featAt K f) (load_keys arg2 harg2 arg3 harg3 x0 x1 h hh s))

/-- What a block of the sums with values ends holding. -/
def sBlock (y : S1x8x273x160.Idx) : EReal :=
  ∑ s : Fin 256, featAt (blockKeys x0 x1 (⟨(y 1).val, (y 1).isLt⟩ : Fin 8) s) (y 2).val
    * x2 (ix2 (⟨160 * (y 1).val + (y 3).val, by have h1 : (y 1).val < 8 := (y 1).isLt; have h3 : (y 3).val < 160 := (y 3).isLt; omega⟩ : Fin 1280) s)

/-- What a block of the sums ends holding. -/
def zBlock (y : S1x8x273x1.Idx) : EReal :=
  ∑ s : Fin 256, featAt (blockKeys x0 x1 (⟨(y 1).val, (y 1).isLt⟩ : Fin 8) s) (y 2).val

theorem sPieces_block (h : Nat) (hh : h < 8) : ∀ pc ∈ sPieces (headAt arg2 harg2 arg3 harg3 arg4 harg4 x0 x1 x2 h hh) h hh, ∀ x : pc.1.shape.Idx,
    pc.2 x = sBlock x0 x1 x2 (pc.1.emb x) := by
  intro pc hpc x
  obtain ⟨e, hp⟩ := sPieces_apply _ h hh pc hpc x
  generalize pc.1.emb x = y at e hp
  subst e
  exact hp.trans (headAt_value arg2 harg2 arg3 harg3 arg4 harg4 x0 x1 x2 _ hh (y 2).val (y 2).isLt (⟨(y 3).val, (y 3).isLt⟩ : Fin 160))

theorem zPieces_block (h : Nat) (hh : h < 8) : ∀ pc ∈ zPieces (headAt arg2 harg2 arg3 harg3 arg4 harg4 x0 x1 x2 h hh) h hh, ∀ x : pc.1.shape.Idx,
    pc.2 x = zBlock x0 x1 (pc.1.emb x) := by
  intro pc hpc x
  obtain ⟨e, hp⟩ := zPieces_apply _ h hh pc hpc x
  generalize pc.1.emb x = y at e hp
  subst e
  exact hp.trans (headAt_one arg2 harg2 arg3 harg3 arg4 harg4 x0 x1 x2 _ hh (y 2).val (y 2).isLt)

theorem out_s (y : S1x8x273x160.Idx) : out0_A_3 c i arg2 harg2 arg3 harg3 arg4 harg4 arg5 harg5 arg6 harg6 x0 x1 x2 y = sBlock x0 x1 x2 y := by
  unfold out0_A_3
  refine (View.read_writes_junk_apply_eq_canon VO0_3 _ _).trans ?_
  refine View.canon_apply_of_pieces (Val := Elt Idealize.ShloMosaic.Ideal) (e := .f32) (fun y : S1x8x273x160.Idx => sBlock x0 x1 x2 y) _ ?_ y
    (cover0_A_3 c i arg2 harg2 arg3 harg3 arg4 harg4 arg5 harg5 arg6 harg6 x0 x1 x2 y)
  rw [run_s]
  intro pc hpc
  simp only [List.mem_append] at hpc
  rcases hpc with h | h | h | h | h | h | h | h <;> exact sPieces_block arg2 harg2 arg3 harg3 arg4 harg4 x0 x1 x2 _ (by decide) pc h

theorem out_z (y : S1x8x273x1.Idx) : out0_A_4 c i arg2 harg2 arg3 harg3 arg4 harg4 arg5 harg5 arg6 harg6 x0 x1 x2 y = zBlock x0 x1 y := by
  unfold out0_A_4
  refine (View.read_writes_junk_apply_eq_canon VO0_4 _ _).trans ?_
  refine View.canon_apply_of_pieces (Val := Elt Idealize.ShloMosaic.Ideal) (e := .f32) (fun y : S1x8x273x1.Idx => zBlock x0 x1 y) _ ?_ y
    (cover0_A_4 c i arg2 harg2 arg3 harg3 arg4 harg4 arg5 harg5 arg6 harg6 x0 x1 x2 y)
  rw [run_z]
  intro pc hpc
  simp only [List.mem_append] at hpc
  rcases hpc with h | h | h | h | h | h | h | h <;> exact zPieces_block arg2 harg2 arg3 harg3 arg4 harg4 x0 x1 x2 _ (by decide) pc h

end Blocks

end Cert.StateIdeal.Hand

end
-- ==== Proof.StateArrays.lean ====
/-
  The state kernel's arrays after the whole run, on the extended reals: sums over each batch's positions of the features
  times the values, and of the features alone.
-/
module

public import proofs.«01_k».proof.Proof.StateSums

@[expose] public section

noncomputable section

namespace Cert.StateIdeal.Hand

open Cert.StateIdeal Cert.StateIdeal.Gen
open Idealize.ShloMosaic Idealize.ShloMosaic.TcCoe Idealize.SL.Sem
open Idealize.ShloMosaic.Pipeline (Dat)
open scoped BigOperators

/-- A key's coordinates at a position of a batch. -/
def keyOf (a0 : S4x96x16x256.Idx → Idealize.ShloMosaic.Ideal .fp8e4m3) (a1 : S4x96x256.Idx → Idealize.ShloMosaic.Ideal .f32) (b : Fin 4) (h : Fin 96) (s : Fin 256) (i : Fin 16) : EReal :=
  a0 (ix4 b h i s) * a1 (ix3 b h s)

/-- The sum over a batch's positions of a feature times a value. -/
def stateAt (a0 : S4x96x16x256.Idx → Idealize.ShloMosaic.Ideal .fp8e4m3) (a1 : S4x96x256.Idx → Idealize.ShloMosaic.Ideal .f32) (a2 : S15360x1024.Idx → Idealize.ShloMosaic.Ideal .bf16)
    (b : Fin 4) (h : Fin 96) (f : Nat) (d : Fin 160) : EReal :=
  ∑ s : Fin 256, featAt (keyOf a0 a1 b h s) f * a2 (ix2 (⟨160 * h.val + d.val, by omega⟩ : Fin 15360) (⟨256 * b.val + s.val, by omega⟩ : Fin 1024))

/-- The sum over a batch's positions of a feature. -/
def normAt (a0 : S4x96x16x256.Idx → Idealize.ShloMosaic.Ideal .fp8e4m3) (a1 : S4x96x256.Idx → Idealize.ShloMosaic.Ideal .f32) (b : Fin 4) (h : Fin 96) (f : Nat) : EReal :=
  ∑ s : Fin 256, featAt (keyOf a0 a1 b h s) f

theorem index0 : ∀ t : Fin cfg0.N, win0_0.index t = ![t.val / 12, t.val % 12, 0, 0] := (by decide +kernel : ∀ t : Fin grid0.N, win0_0.index t = ![t.val / 12, t.val % 12, 0, 0])
theorem index1 : ∀ t : Fin cfg0.N, win0_1.index t = ![t.val / 12, t.val % 12, 0] := (by decide +kernel : ∀ t : Fin grid0.N, win0_1.index t = ![t.val / 12, t.val % 12, 0])
theorem index2 : ∀ t : Fin cfg0.N, win0_2.index t = ![t.val % 12, t.val / 12] := (by decide +kernel : ∀ t : Fin grid0.N, win0_2.index t = ![t.val % 12, t.val / 12])
theorem index3 : ∀ t : Fin cfg0.N, win0_3.index t = ![t.val / 12, t.val % 12, 0, 0] := (by decide +kernel : ∀ t : Fin grid0.N, win0_3.index t = ![t.val / 12, t.val % 12, 0, 0])
theorem index4 : ∀ t : Fin cfg0.N, win0_4.index t = ![t.val / 12, t.val % 12, 0, 0] := (by decide +kernel : ∀ t : Fin grid0.N, win0_4.index t = ![t.val / 12, t.val % 12, 0, 0])
theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)

/-! ### Where a point's blocks lie -/

theorem emb0 (t : Fin cfg0.N) (y : S1x8x16x256.Idx) (i : S4x96x16x256.Idx)
    (h0 : (i 0).val = t.val / 12 + (y 0).val) (h1 : (i 1).val = 8 * (t.val % 12) + (y 1).val) (h2 : (i 2).val = (y 2).val) (h3 : (i 3).val = (y 3).val) :
    ((cfg0.win 0).blk t).view.emb y = i := by
  have e : ∀ a, win0_0.index t a = ![t.val / 12, t.val % 12, 0, 0] a := congrFun (index0 t)
  refine funext fun a => Fin.ext ?_
  match a with
  | ⟨0, _⟩ => show win0_0.index t (0 : Fin 4) * 1 + 1 * (y 0).val = (i 0).val; rw [e]; show t.val / 12 * 1 + 1 * (y 0).val = _; omega
  | ⟨1, _⟩ => show win0_0.index t (1 : Fin 4) * 8 + 1 * (y 1).val = (i 1).val; rw [e]; show t.val % 12 * 8 + 1 * (y 1).val = _; omega
  | ⟨2, _⟩ => show win0_0.index t (2 : Fin 4) * 16 + 1 * (y 2).val = (i 2).val; rw [e]; show 0 * 16 + 1 * (y 2).val = _; omega
  | ⟨3, _⟩ => show win0_0.index t (3 : Fin 4) * 256 + 1 * (y 3).val = (i 3).val; rw [e]; show 0 * 256 + 1 * (y 3).val = _; omega

theorem emb1 (t : Fin cfg0.N) (y : S1x8x256.Idx) (i : S4x96x256.Idx)
    (h0 : (i 0).val = t.val / 12 + (y 0).val) (h1 : (i 1).val = 8 * (t.val % 12) + (y 1).val) (h2 : (i 2).val = (y 2).val) :
    ((cfg0.win 1).blk t).view.emb y = i := by
  have e : ∀ a, win0_1.index t a = ![t.val / 12, t.val % 12, 0] a := congrFun (index1 t)
  refine funext fun a => Fin.ext ?_
  match a with
  | ⟨0, _⟩ => show win0_1.index t (0 : Fin 3) * 1 + 1 * (y 0).val = (i 0).val; rw [e]; show t.val / 12 * 1 + 1 * (y 0).val = _; omega
  | ⟨1, _⟩ => show win0_1.index t (1 : Fin 3) * 8 + 1 * (y 1).val = (i 1).val; rw [e]; show t.val % 12 * 8 + 1 * (y 1).val = _; omega
  | ⟨2, _⟩ => show win0_1.index t (2 : Fin 3) * 256 + 1 * (y 2).val = (i 2).val; rw [e]; show 0 * 256 + 1 * (y 2).val = _; omega

theorem emb2 (t : Fin cfg0.N) (y : S1280x256.Idx) (i : S15360x1024.Idx)
    (h0 : (i 0).val = 1280 * (t.val % 12) + (y 0).val) (h1 : (i 1).val = 256 * (t.val / 12) + (y 1).val) :
    ((cfg0.win 2).blk t).view.emb y = i := by
  have e : ∀ a, win0_2.index t a = ![t.val % 12, t.val / 12] a := congrFun (index2 t)
  refine funext fun a => Fin.ext ?_
  match a with
  | ⟨0, _⟩ => show win0_2.index t (0 : Fin 2) * 1280 + 1 * (y 0).val = (i 0).val; rw [e]; show t.val % 12 * 1280 + 1 * (y 0).val = _; omega
  | ⟨1, _⟩ => show win0_2.index t (1 : Fin 2) * 256 + 1 * (y 1).val = (i 1).val; rw [e]; show t.val / 12 * 256 + 1 * (y 1).val = _; omega

theorem emb3 (t : Fin cfg0.N) (y : S1x8x273x160.Idx) (i : S4x96x273x160.Idx)
    (h0 : (i 0).val = t.val / 12 + (y 0).val) (h1 : (i 1).val = 8 * (t.val % 12) + (y 1).val) (h2 : (i 2).val = (y 2).val) (h3 : (i 3).val = (y 3).val) :
    ((cfg0.win 3).blk t).view.emb y = i := by
  have e : ∀ a, win0_3.index t a = ![t.val / 12, t.val % 12, 0, 0] a := congrFun (index3 t)
  refine funext fun a => Fin.ext ?_
  match a with
  | ⟨0, _⟩ => show win0_3.index t (0 : Fin 4) * 1 + 1 * (y 0).val = (i 0).val; rw [e]; show t.val / 12 * 1 + 1 * (y 0).val = _; omega
  | ⟨1, _⟩ => show win0_3.index t (1 : Fin 4) * 8 + 1 * (y 1).val = (i 1).val; rw [e]; show t.val % 12 * 8 + 1 * (y 1).val = _; omega
  | ⟨2, _⟩ => show win0_3.index t (2 : Fin 4) * 273 + 1 * (y 2).val = (i 2).val; rw [e]; show 0 * 273 + 1 * (y 2).val = _; omega
  | ⟨3, _⟩ => show win0_3.index t (3 : Fin 4) * 160 + 1 * (y 3).val = (i 3).val; rw [e]; show 0 * 160 + 1 * (y 3).val = _; omega

theorem emb4 (t : Fin cfg0.N) (y : S1x8x273x1.Idx) (i : S4x96x273x1.Idx)
    (h0 : (i 0).val = t.val / 12 + (y 0).val) (h1 : (i 1).val = 8 * (t.val % 12) + (y 1).val) (h2 : (i 2).val = (y 2).val) (h3 : (i 3).val = (y 3).val) :
    ((cfg0.win 4).blk t).view.emb y = i := by
  have e : ∀ a, win0_4.index t a = ![t.val / 12, t.val % 12, 0, 0] a := congrFun (index4 t)
  refine funext fun a => Fin.ext ?_
  match a with
  | ⟨0, _⟩ => show win0_4.index t (0 : Fin 4) * 1 + 1 * (y 0).val = (i 0).val; rw [e]; show t.val / 12 * 1 + 1 * (y 0).val = _; omega
  | ⟨1, _⟩ => show win0_4.index t (1 : Fin 4) * 8 + 1 * (y 1).val = (i 1).val; rw [e]; show t.val % 12 * 8 + 1 * (y 1).val = _; omega
  | ⟨2, _⟩ => show win0_4.index t (2 : Fin 4) * 273 + 1 * (y 2).val = (i 2).val; rw [e]; show 0 * 273 + 1 * (y 2).val = _; omega
  | ⟨3, _⟩ => show win0_4.index t (3 : Fin 4) * 1 + 1 * (y 3).val = (i 3).val; rw [e]; show 0 * 1 + 1 * (y 3).val = _; omega

/-! ### What a point leaves -/

variable (m : (ℓ : Loc nD τ sig) → Buf (Elt Idealize.ShloMosaic.Ideal) ℓ) (c : Dev nD)

/-- The argument arrays. -/
abbrev codesIn : S4x96x16x256.Idx → Idealize.ShloMosaic.Ideal .fp8e4m3 := m ((c.tc : Thread nD τ).loc main_arg0)
abbrev scalesIn : S4x96x256.Idx → Idealize.ShloMosaic.Ideal .f32 := m ((c.tc : Thread nD τ).loc main_arg1)
abbrev valuesIn : S15360x1024.Idx → Idealize.ShloMosaic.Ideal .bf16 := m ((c.tc : Thread nD τ).loc main_arg2)

theorem block0 (t : Fin cfg0.N) (y : S1x8x16x256.Idx) (i : S4x96x16x256.Idx)
    (h0 : (i 0).val = t.val / 12 + (y 0).val) (h1 : (i 1).val = 8 * (t.val % 12) + (y 1).val) (h2 : (i 2).val = (y 2).val) (h3 : (i 3).val = (y 3).val) :
    iblk m c 0 t y = codesIn m c i := by
  show V m c main_arg0 (((cfg0.win 0).blk t).view.emb y) = _
  rw [emb0 t y i h0 h1 h2 h3, V_main_arg0]

theorem block1 (t : Fin cfg0.N) (y : S1x8x256.Idx) (i : S4x96x256.Idx)
    (h0 : (i 0).val = t.val / 12 + (y 0).val) (h1 : (i 1).val = 8 * (t.val % 12) + (y 1).val) (h2 : (i 2).val = (y 2).val) :
    iblk m c 1 t y = scalesIn m c i := by
  show V m c main_arg1 (((cfg0.win 1).blk t).view.emb y) = _
  rw [emb1 t y i h0 h1 h2, V_main_arg1]

theorem block2 (t : Fin cfg0.N) (y : S1280x256.Idx) (i : S15360x1024.Idx)
    (h0 : (i 0).val = 1280 * (t.val % 12) + (y 0).val) (h1 : (i 1).val = 256 * (t.val / 12) + (y 1).val) :
    iblk m c 2 t y = valuesIn m c i := by
  show V m c main_arg2 (((cfg0.win 2).blk t).view.emb y) = _
  rw [emb2 t y i h0 h1, V_main_arg2]

theorem keys_block (t : Fin cfg0.N) (h : Fin 8) (b : Fin 4) (H : Fin 96) (hb : b.val = t.val / 12) (hH : H.val = 8 * (t.val % 12) + h.val) (s : Fin 256) :
    blockKeys (iblk m c 0 t) (iblk m c 1 t) h s = keyOf (codesIn m c) (scalesIn m c) b H s := by
  funext i
  exact congrArg₂ (fun p q : EReal => p * q)
    (block0 m c t _ (ix4 b H i s) (by show b.val = t.val / 12 + 0; omega) hH rfl rfl) (block1 m c t _ (ix3 b H s) (by show b.val = t.val / 12 + 0; omega) hH rfl)

/-- What the arrays end holding. -/
abbrev resS : S4x96x273x160.Idx → Idealize.ShloMosaic.Ideal .f32 := fun y => stateAt (codesIn m c) (scalesIn m c) (valuesIn m c) (y 0) (y 1) (y 2).val (y 3)
abbrev resZ : S4x96x273x1.Idx → Idealize.ShloMosaic.Ideal .f32 := fun y => normAt (codesIn m c) (scalesIn m c) (y 0) (y 1) (y 2).val

theorem block_s (t : Fin cfg0.N) (y : S1x8x273x160.Idx) (i : S4x96x273x160.Idx)
    (h0 : (i 0).val = t.val / 12) (h1 : (i 1).val = 8 * (t.val % 12) + (y 1).val) (h2 : (i 2).val = (y 2).val) (h3 : (i 3).val = (y 3).val) :
    sBlock (iblk m c 0 t) (iblk m c 1 t) (iblk m c 2 t) y = resS m c i := by
  unfold sBlock
  show _ = stateAt _ _ _ (i 0) (i 1) (i 2).val (i 3)
  unfold stateAt
  have hk (s : Fin 256) : blockKeys (iblk m c 0 t) (iblk m c 1 t) (⟨(y 1).val, (y 1).isLt⟩ : Fin 8) s = keyOf (codesIn m c) (scalesIn m c) (i 0) (i 1) s :=
    keys_block m c t _ (i 0) (i 1) h0 h1 s
  refine Finset.sum_congr rfl fun s _ => congrArg₂ (fun p q : EReal => p * q) ?_ ?_
  · rw [hk, h2]
  · refine block2 m c t _ _ ?_ ?_
    · show 160 * (i 1).val + (i 3).val = 1280 * (t.val % 12) + (160 * (y 1).val + (y 3).val)
      omega
    · show 256 * (i 0).val + s.val = 256 * (t.val / 12) + s.val
      omega

theorem block_z (t : Fin cfg0.N) (y : S1x8x273x1.Idx) (i : S4x96x273x1.Idx)
    (h0 : (i 0).val = t.val / 12) (h1 : (i 1).val = 8 * (t.val % 12) + (y 1).val) (h2 : (i 2).val = (y 2).val) :
    zBlock (iblk m c 0 t) (iblk m c 1 t) y = resZ m c i := by
  unfold zBlock
  show _ = normAt _ _ (i 0) (i 1) (i 2).val
  unfold normAt
  have hk (s : Fin 256) : blockKeys (iblk m c 0 t) (iblk m c 1 t) (⟨(y 1).val, (y 1).isLt⟩ : Fin 8) s = keyOf (codesIn m c) (scalesIn m c) (i 0) (i 1) s :=
    keys_block m c t _ (i 0) (i 1) h0 h1 s
  exact Finset.sum_congr rfl fun s _ => by rw [hk, h2]

/-! ### The arrays -/

theorem point_lt (b g : Nat) (hb : b < 4) (hg : g < 12) : 12 * b + g < 48 := by omega

theorem covered3 (i : S4x96x273x160.Idx) : ∃ t : Fin cfg0.N, (cfg0.win 3).flush t = true ∧ i ∈ ((cfg0.win 3).blk t).view.set := by
  have b0 : (i 0).val < 4 := (i 0).isLt
  have b1 : (i 1).val < 96 := (i 1).isLt
  let t : Fin cfg0.N := ⟨12 * (i 0).val + (i 1).val / 8, point_lt _ _ b0 (by omega)⟩
  let y : S1x8x273x160.Idx := ix4 (0 : Fin 1) (⟨(i 1).val % 8, Nat.mod_lt _ (by decide)⟩ : Fin 8) (⟨(i 2).val, (i 2).isLt⟩ : Fin 273) (⟨(i 3).val, (i 3).isLt⟩ : Fin 160)
  refine ⟨t, flush3 t, ?_⟩
  have h := ((cfg0.win 3).blk t).view.emb_mem_set y
  rwa [emb3 t y i (by show (i 0).val = (12 * (i 0).val + (i 1).val / 8) / 12 + 0; omega)
    (by show (i 1).val = 8 * ((12 * (i 0).val + (i 1).val / 8) % 12) + (i 1).val % 8; omega) rfl rfl] at h

theorem covered4 (i : S4x96x273x1.Idx) : ∃ t : Fin cfg0.N, (cfg0.win 4).flush t = true ∧ i ∈ ((cfg0.win 4).blk t).view.set := by
  have b0 : (i 0).val < 4 := (i 0).isLt
  have b1 : (i 1).val < 96 := (i 1).isLt
  let t : Fin cfg0.N := ⟨12 * (i 0).val + (i 1).val / 8, point_lt _ _ b0 (by omega)⟩
  let y : S1x8x273x1.Idx := ix4 (0 : Fin 1) (⟨(i 1).val % 8, Nat.mod_lt _ (by decide)⟩ : Fin 8) (⟨(i 2).val, (i 2).isLt⟩ : Fin 273) (⟨(i 3).val, (i 3).isLt⟩ : Fin 1)
  refine ⟨t, flush4 t, ?_⟩
  have h := ((cfg0.win 4).blk t).view.emb_mem_set y
  rwa [emb4 t y i (by show (i 0).val = (12 * (i 0).val + (i 1).val / 8) / 12 + 0; omega)
    (by show (i 1).val = 8 * ((12 * (i 0).val + (i 1).val / 8) % 12) + (i 1).val % 8; omega) rfl rfl] at h

theorem final3 : (dats m 0 c).arrAt 3 cfg0.N = resS m c := by
  refine (dats m 0 c).arrAt_eq_of_cover 3 (resS m c) (fun t _ => ?_) covered3
  rw [Cert.StateIdeal.Value.flushed3_A]
  funext y
  have hN : t.val < 48 := t.isLt
  have b0 : ((y : S1x8x273x160.Idx) 0).val < 1 := ((y : S1x8x273x160.Idx) 0).isLt
  have b1 : ((y : S1x8x273x160.Idx) 1).val < 8 := ((y : S1x8x273x160.Idx) 1).isLt
  let i : S4x96x273x160.Idx := ix4 (⟨t.val / 12, by omega⟩ : Fin 4) (⟨8 * (t.val % 12) + ((y : S1x8x273x160.Idx) 1).val, by omega⟩ : Fin 96) ((y : S1x8x273x160.Idx) 2) ((y : S1x8x273x160.Idx) 3)
  show _ = resS m c (((cfg0.win 3).blk t).view.emb y)
  rw [emb3 t y i (by show t.val / 12 = t.val / 12 + ((y : S1x8x273x160.Idx) 0).val; omega) rfl rfl rfl]
  exact (out_s c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y).trans
    (block_s m c t y i rfl rfl rfl rfl)

theorem final4 : (dats m 0 c).arrAt 4 cfg0.N = resZ m c := by
  refine (dats m 0 c).arrAt_eq_of_cover 4 (resZ m c) (fun t _ => ?_) covered4
  rw [Cert.StateIdeal.Value.flushed4_A]
  funext y
  have hN : t.val < 48 := t.isLt
  have b0 : ((y : S1x8x273x1.Idx) 0).val < 1 := ((y : S1x8x273x1.Idx) 0).isLt
  have b1 : ((y : S1x8x273x1.Idx) 1).val < 8 := ((y : S1x8x273x1.Idx) 1).isLt
  let i : S4x96x273x1.Idx := ix4 (⟨t.val / 12, by omega⟩ : Fin 4) (⟨8 * (t.val % 12) + ((y : S1x8x273x1.Idx) 1).val, by omega⟩ : Fin 96) ((y : S1x8x273x1.Idx) 2) ((y : S1x8x273x1.Idx) 3)
  show _ = resZ m c (((cfg0.win 4).blk t).view.emb y)
  rw [emb4 t y i (by show t.val / 12 = t.val / 12 + ((y : S1x8x273x1.Idx) 0).val; omega) rfl rfl rfl]
  exact (out_z c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y).trans
    (block_z m c t y i rfl rfl rfl)

/-- Every run ends with the result arrays so, and the argument arrays as they were. -/
theorem run_results (ρ : Dev nD → PrngReg) : θ_run defs (onTc (τ := τ) (main (F := Idealize.ShloMosaic.Ideal))) ⟨m, fun _ => 0, ρ⟩ fun r => ∀ c : Dev nD,
      r.2.mem ((c.tc : Thread nD τ).loc main_v0_0) = resS m c
      ∧ r.2.mem ((c.tc : Thread nD τ).loc main_v0_1) = resZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final3 m c), (h c).2.1.trans (final4 m c), (h c).2.2⟩) (Cert.StateIdeal.Value.run_blocks m ρ)

end Cert.StateIdeal.Hand

end
-- ==== Proof.StateRef.lean ====
/-
  What the state's reference computes, at an index: per batch, sums over the positions of the features times the values,
  and of the features alone.
-/
module

public import proofs.«01_k».proof.Proof.Gen.StateReferenceIdeal.Value
public import proofs.«01_k».proof.Proof.StateArrays
public import Idealize.ShloMosaic.Lib.WritesUnit
public import Idealize.ShloMosaic.PureOps.Ideal.Laws

@[expose] public section

noncomputable section

namespace Cert.StateReferenceIdeal.Read

open Cert.StateReferenceIdeal Cert.StateReferenceIdeal.Gen
open Cert.StateIdeal.Hand (featAt keyOf stateAt normAt)
open Idealize.ShloMosaic Idealize.ShloMosaic.TcCoe
open Idealize.ShloMosaic.ValueIdx (contrEquiv1 contrEquiv1_symm_val)
open scoped BigOperators

/-! ### The features -/

section Rows

variable {F : FTy → Type} [FloatOps F]

/-- A batch's keys: codes times scales. -/
def keysOf (kc : Vec F S1x96x16x256 .fp8e4m3) (ks : Vec F S1x96x256 .f32) : FVec F S96x16x256 .bf16 :=
  mulf (extf .bf16 (shapeCast S96x16x256 kc shapeCasts_S1x96x16x256_S96x16x256 : FVec F S96x16x256 .fp8e4m3) bitsLt_fp8e4m3_bf16)
    (broadcastTo S96x16x256 (shapeCast S96x1x256 (truncf .bf16 (shapeCast S96x256 ks shapeCasts_S1x96x256_S96x256 : FVec F S96x256 .f32) bitsLt_bf16_f32)
      shapeCasts_S96x256_S96x1x256) broadcasts_S96x1x256_S96x16x256)

/-- All products of two coordinates. -/
def pairsOf (k : FVec F S96x16x256 .bf16) : FVec F S96x256x256 .bf16 :=
  shapeCast S96x256x256 (mulf (broadcastTo S96x16x16x256 (shapeCast S96x16x1x256 k shapeCasts_S96x16x256_S96x16x1x256) broadcasts_S96x16x1x256_S96x16x16x256)
    (broadcastTo S96x16x16x256 (shapeCast S96x1x16x256 k shapeCasts_S96x16x256_S96x1x16x256) broadcasts_S96x1x16x256_S96x16x16x256))
    shapeCasts_S96x16x16x256_S96x256x256

/-- The three parts of the features. -/
def featList (k : FVec F S96x16x256 .bf16) : List ((s : Shape) × (s.Idx → F .bf16)) :=
  [⟨S96x1x256, broadcast S96x1x256 (Scalar.ofBits .bf16 0x3F80#16)⟩,
    ⟨S96x16x256, mulf k (broadcast S96x16x256 (Scalar.ofBits .bf16 0x3F00#16))⟩,
    ⟨S96x256x256, mulf (pairsOf k) (broadcast S96x256x256 (Scalar.ofBits .bf16 0x3E00#16))⟩]

theorem pay4_eq (kc : Vec F S1x96x16x256 .fp8e4m3) (ks : Vec F S1x96x256 .f32) :
    k0_pay4 kc ks = concatenate S96x273x256 1 (featList (keysOf kc ks)) concatenates_S96x1x256_S96x16x256_S96x256x256_S96x273x256_d1 := rfl

end Rows

theorem keysOf_apply (kc : Vec Idealize.ShloMosaic.Ideal S1x96x16x256 .fp8e4m3) (ks : Vec Idealize.ShloMosaic.Ideal S1x96x256 .f32) (h : Fin 96) (i : Fin 16) (s : Fin 256) :
    keysOf kc ks (ix3 h i s) = (kc (ix4 (0 : Fin 1) h i s) * ks (ix3 (0 : Fin 1) h s) : EReal) := by
  unfold keysOf
  refine congrArg₂ (fun a b : EReal => a * b) ?_ ?_
  · refine shapeCast_apply kc _ (ix3 h i s) (ix4 (0 : Fin 1) h i s) ?_
    simp only [Shape.rowMajor_val_three, Shape.rowMajor_val_four]
    show ((0 * 96 + h.val) * 16 + i.val) * 256 + s.val = (h.val * 16 + i.val) * 256 + s.val
    omega
  · refine (broadcastTo_apply _ _ (ix3 h i s) (ix3 h (0 : Fin 1) s) (fun a => match a with | ⟨0, _⟩ => rfl | ⟨1, _⟩ => rfl | ⟨2, _⟩ => rfl)).trans ?_
    refine (shapeCast_apply _ _ (ix3 h (0 : Fin 1) s) (ix2 h s) ?_).trans ?_
    · simp only [Shape.rowMajor_val_two, Shape.rowMajor_val_three]
      show h.val * 256 + s.val = (h.val * 1 + 0) * 256 + s.val
      omega
    · refine shapeCast_apply ks _ (ix2 h s) (ix3 (0 : Fin 1) h s) ?_
      simp only [Shape.rowMajor_val_two, Shape.rowMajor_val_three]
      show (0 * 96 + h.val) * 256 + s.val = h.val * 256 + s.val
      omega

theorem pairsOf_apply (k : FVec Idealize.ShloMosaic.Ideal S96x16x256 .bf16) (h : Fin 96) (q : Fin 256) (s : Fin 256) (i j : Fin 16) (hq : q.val = 16 * i.val + j.val) :
    pairsOf k (ix3 h q s) = (k (ix3 h i s) * k (ix3 h j s) : EReal) := by
  unfold pairsOf
  refine (shapeCast_apply _ _ (ix3 h q s) (ix4 h i j s) ?_).trans ?_
  · simp only [Shape.rowMajor_val_three, Shape.rowMajor_val_four]
    show ((h.val * 16 + i.val) * 16 + j.val) * 256 + s.val = (h.val * 256 + q.val) * 256 + s.val
    rw [hq]; omega
  refine congrArg₂ (fun a b : EReal => a * b) ?_ ?_
  · refine (broadcastTo_apply _ _ (ix4 h i j s) (ix4 h i (0 : Fin 1) s) (fun a => match a with | ⟨0, _⟩ => rfl | ⟨1, _⟩ => rfl | ⟨2, _⟩ => rfl | ⟨3, _⟩ => rfl)).trans ?_
    refine shapeCast_apply k _ (ix4 h i (0 : Fin 1) s) (ix3 h i s) ?_
    simp only [Shape.rowMajor_val_three, Shape.rowMajor_val_four]
    show (h.val * 16 + i.val) * 256 + s.val = ((h.val * 16 + i.val) * 1 + 0) * 256 + s.val
    omega
  · refine (broadcastTo_apply _ _ (ix4 h i j s) (ix4 h (0 : Fin 1) j s) (fun a => match a with | ⟨0, _⟩ => rfl | ⟨1, _⟩ => rfl | ⟨2, _⟩ => rfl | ⟨3, _⟩ => rfl)).trans ?_
    refine shapeCast_apply k _ (ix4 h (0 : Fin 1) j s) (ix3 h j s) ?_
    simp only [Shape.rowMajor_val_three, Shape.rowMajor_val_four]
    show (h.val * 16 + j.val) * 256 + s.val = ((h.val * 1 + 0) * 16 + j.val) * 256 + s.val
    omega

/-- A batch's features. -/
theorem feat_apply (k : FVec Idealize.ShloMosaic.Ideal S96x16x256 .bf16) (h : Fin 96) (f : Fin 273) (s : Fin 256) :
    concatenate S96x273x256 1 (featList k) concatenates_S96x1x256_S96x16x256_S96x256x256_S96x273x256_d1 (ix3 h f s)
      = featAt (fun i => k (ix3 h i s)) f.val := by
  unfold featAt
  by_cases h0 : f.val = 0
  · rw [dif_pos h0]
    exact concatenate_apply_piece (t := S96x273x256) 1 (featList k) _ (ix3 h f s) 0 (by show 0 < 3; decide) S96x1x256 _ rfl rfl 0 rfl (ix3 h (0 : Fin 1) s)
      (fun b hb => match b, hb with | ⟨0, _⟩, _ => rfl | ⟨1, _⟩, hb => absurd rfl hb | ⟨2, _⟩, _ => rfl) (by show 0 + 0 = f.val; omega)
  · rw [dif_neg h0]
    by_cases h1 : f.val < 17
    · rw [dif_pos h1]
      exact concatenate_apply_piece (t := S96x273x256) 1 (featList k) _ (ix3 h f s) 1 (by show 1 < 3; decide) S96x16x256 _ rfl rfl 1 rfl
        (ix3 h (⟨f.val - 1, by omega⟩ : Fin 16) s)
        (fun b hb => match b, hb with | ⟨0, _⟩, _ => rfl | ⟨1, _⟩, hb => absurd rfl hb | ⟨2, _⟩, _ => rfl) (by show 1 + (f.val - 1) = f.val; omega)
    · rw [dif_neg h1]
      have b1 : f.val < 273 := f.isLt
      refine (concatenate_apply_piece (t := S96x273x256) 1 (featList k) _ (ix3 h f s) 2 (by show 2 < 3; decide) S96x256x256 _ rfl rfl 17 rfl
        (ix3 h (⟨f.val - 17, by omega⟩ : Fin 256) s)
        (fun b hb => match b, hb with | ⟨0, _⟩, _ => rfl | ⟨1, _⟩, hb => absurd rfl hb | ⟨2, _⟩, _ => rfl) (by show 17 + (f.val - 17) = f.val; omega)).trans ?_
      exact congrArg (fun a : EReal => a * FloatOps.ofBits (F := Idealize.ShloMosaic.Ideal) .bf16 0x3E00#16)
        (pairsOf_apply k h _ s _ _ (by show f.val - 17 = 16 * ((f.val - 17) / 16 % 16) + (f.val - 17) % 16; omega))

theorem pay4_apply (kc : Vec Idealize.ShloMosaic.Ideal S1x96x16x256 .fp8e4m3) (ks : Vec Idealize.ShloMosaic.Ideal S1x96x256 .f32) (h : Fin 96) (f : Fin 273) (s : Fin 256) :
    k0_pay4 kc ks (ix3 h f s) = featAt (fun i => kc (ix4 (0 : Fin 1) h i s) * ks (ix3 (0 : Fin 1) h s)) f.val := by
  rw [pay4_eq]
  exact (feat_apply _ h f s).trans (congrArg (fun K => featAt K f.val) (funext fun i => keysOf_apply kc ks h i s))

/-! ### The sums -/

/-- The product of a batch, head by head, over the positions. -/
theorem product_apply (lhs : FVec Idealize.ShloMosaic.Ideal S96x273x256 .bf16) (rhs : FVec Idealize.ShloMosaic.Ideal S96x160x256 .bf16) (acc : FVec Idealize.ShloMosaic.Ideal S96x273x160 .f32)
    (h : Fin 96) (f : Fin 273) (d : Fin 160) :
    FloatOps.matmul dot_S96x273x256_S96x160x256_S96x273x160_2_2_1_1_0_0 none lhs rhs acc (ix3 h f d)
      = (acc (ix3 h f d) + ∑ s : Fin 256, lhs (ix3 h f s) * rhs (ix3 h d s) : EReal) := by
  rw [Ideal.matmul_apply, ← Equiv.sum_comp (contrEquiv1 dot_S96x273x256_S96x160x256_S96x273x160_2_2_1_1_0_0 256 rfl rfl).symm]
  refine congrArg (acc (ix3 h f d) + ·) (Finset.sum_congr rfl fun s _ => ?_)
  have hs := contrEquiv1_symm_val dot_S96x273x256_S96x160x256_S96x273x160_2_2_1_1_0_0 256 rfl rfl s
  refine congrArg₂ (fun a b : EReal => a * b) (congrArg lhs ?_) (congrArg rhs ?_)
  · funext a; apply Fin.ext
    match a with
    | ⟨0, _⟩ => rfl
    | ⟨1, _⟩ => rfl
    | ⟨2, _⟩ => exact hs
  · funext a; apply Fin.ext
    match a with
    | ⟨0, _⟩ => rfl
    | ⟨1, _⟩ => rfl
    | ⟨2, _⟩ => exact hs

theorem pay5_apply (kc : Vec Idealize.ShloMosaic.Ideal S1x96x16x256 .fp8e4m3) (ks : Vec Idealize.ShloMosaic.Ideal S1x96x256 .f32) (vt : Vec Idealize.ShloMosaic.Ideal S15360x256 .bf16)
    (x : S1x96x273x160.Idx) :
    k0_pay5 kc ks vt x = ∑ s : Fin 256, featAt (fun i => kc (ix4 (0 : Fin 1) (x 1) i s) * ks (ix3 (0 : Fin 1) (x 1) s)) (x 2).val
      * vt (ix2 (⟨160 * (x 1).val + (x 3).val, by have h1 : (x 1).val < 96 := (x 1).isLt; have h3 : (x 3).val < 160 := (x 3).isLt; omega⟩ : Fin 15360) s) := by
  have hx : (x 0).val = 0 := by have : (x 0).val < 1 := (x 0).isLt; omega
  unfold k0_pay5
  try dsimp only
  refine (shapeCast_apply _ _ x (ix3 (x 1) (x 2) (x 3)) ?_).trans ?_
  · simp only [Shape.rowMajor_val_three, Shape.rowMajor_val_four]
    show ((x 1).val * 273 + (x 2).val) * 160 + (x 3).val = (((x 0).val * 96 + (x 1).val) * 273 + (x 2).val) * 160 + (x 3).val
    rw [hx]; omega
  refine (product_apply _ _ _ (x 1) (x 2) (x 3)).trans ?_
  refine (congrArg (· + _) (show constant (F := Idealize.ShloMosaic.Ideal) S96x273x160 .f32 0x00000000#32 (ix3 (x 1) (x 2) (x 3)) = (0 : EReal) from Ideal.ofBits_zero .f32)).trans ?_
  rw [zero_add]
  refine Finset.sum_congr rfl fun s _ => congrArg₂ (fun a b : EReal => a * b) (pay4_apply kc ks (x 1) (x 2) s) ?_
  refine shapeCast_apply vt _ (ix3 (x 1) (x 3) s) (ix2 (⟨160 * (x 1).val + (x 3).val, _⟩ : Fin 15360) s) ?_
  simp only [Shape.rowMajor_val_two, Shape.rowMajor_val_three]
  show (160 * (x 1).val + (x 3).val) * 256 + s.val = ((x 1).val * 160 + (x 3).val) * 256 + s.val
  omega

theorem pay6_apply (kc : Vec Idealize.ShloMosaic.Ideal S1x96x16x256 .fp8e4m3) (ks : Vec Idealize.ShloMosaic.Ideal S1x96x256 .f32) (x : S1x96x273x1.Idx) :
    k0_pay6 kc ks x = ∑ s : Fin 256, featAt (fun i => kc (ix4 (0 : Fin 1) (x 1) i s) * ks (ix3 (0 : Fin 1) (x 1) s)) (x 2).val := by
  have hx : (x 0).val = 0 := by have : (x 0).val < 1 := (x 0).isLt; omega
  have hz : (x 3).val = 0 := by have : (x 3).val < 1 := (x 3).isLt; omega
  unfold k0_pay6
  try dsimp only
  refine (shapeCast_apply _ _ x (ix3 (x 1) (x 2) (0 : Fin 1)) ?_).trans ?_
  · simp only [Shape.rowMajor_val_three, Shape.rowMajor_val_four]
    show ((x 1).val * 273 + (x 2).val) * 1 + 0 = (((x 0).val * 96 + (x 1).val) * 273 + (x 2).val) * 1 + (x 3).val
    rw [hx, hz]; omega
  refine (shapeCast_apply _ _ (ix3 (x 1) (x 2) (0 : Fin 1)) (ix2 (x 1) (x 2)) ?_).trans ?_
  · simp only [Shape.rowMajor_val_two, Shape.rowMajor_val_three]
    show (x 1).val * 273 + (x 2).val = ((x 1).val * 273 + (x 2).val) * 1 + 0
    omega
  refine (Ideal.multiReduction_add_single _ _ reduces_S96x273x256_S96x273 _ _ (ix2 (x 1) (x 2))).trans ?_
  refine Finset.sum_congr rfl fun s _ => ?_
  refine Eq.trans (congrArg (k0_pay4 kc ks) ?_) (pay4_apply kc ks (x 1) (x 2) s)
  funext a; apply Fin.ext
  match a with
  | ⟨0, _⟩ => rfl
  | ⟨1, _⟩ => rfl
  | ⟨2, _⟩ => rfl

/-! ### The batches -/

variable (a0 : Vec Idealize.ShloMosaic.Ideal S4x96x16x256 .fp8e4m3) (a1 : Vec Idealize.ShloMosaic.Ideal S4x96x256 .f32) (a2 : Vec Idealize.ShloMosaic.Ideal S15360x1024 .bf16)

/-- A batch's loads, and what they read. -/
theorem batch_key (b : Fin 4) (in0 : ∀ a : Fin 4, ![b.val, 0, 0, 0] a + S1x96x16x256.size a ≤ S4x96x16x256.size a) (in1 : ∀ a : Fin 3, ![b.val, 0, 0] a + S1x96x256.size a ≤ S4x96x256.size a)
    (h : Fin 96) (s : Fin 256) :
    (fun i : Fin 16 => (View.ld a0 (Rect.unit (s := S4x96x16x256) ![b.val, 0, 0, 0] S1x96x16x256.size in0) (ix4 (0 : Fin 1) h i s)
      * View.ld a1 (Rect.unit (s := S4x96x256) ![b.val, 0, 0] S1x96x256.size in1) (ix3 (0 : Fin 1) h s) : EReal)) = keyOf a0 a1 b h s := by
  funext i
  refine congrArg₂ (fun p q : EReal => p * q) (congrArg a0 ?_) (congrArg a1 ?_)
  · funext a; apply Fin.ext
    match a with
    | ⟨0, _⟩ => show b.val + 1 * 0 = b.val; omega
    | ⟨1, _⟩ => show 0 + 1 * h.val = h.val; omega
    | ⟨2, _⟩ => show 0 + 1 * i.val = i.val; omega
    | ⟨3, _⟩ => show 0 + 1 * s.val = s.val; omega
  · funext a; apply Fin.ext
    match a with
    | ⟨0, _⟩ => show b.val + 1 * 0 = b.val; omega
    | ⟨1, _⟩ => show 0 + 1 * h.val = h.val; omega
    | ⟨2, _⟩ => show 0 + 1 * s.val = s.val; omega

/-- What the reference leaves. -/
abbrev refS : S4x96x273x160.Idx → Idealize.ShloMosaic.Ideal .f32 := fun y => stateAt a0 a1 a2 (y 0) (y 1) (y 2).val (y 3)
abbrev refZ : S4x96x273x1.Idx → Idealize.ShloMosaic.Ideal .f32 := fun y => normAt a0 a1 (y 0) (y 1) (y 2).val

theorem piece_s (b : Fin 4) (o : Nat) (ho : o = 256 * b.val) (in0 : ∀ a : Fin 4, ![b.val, 0, 0, 0] a + S1x96x16x256.size a ≤ S4x96x16x256.size a)
    (in1 : ∀ a : Fin 3, ![b.val, 0, 0] a + S1x96x256.size a ≤ S4x96x256.size a) (in2 : ∀ a : Fin 2, ![0, o] a + S15360x256.size a ≤ S15360x1024.size a)
    (in3 : ∀ a : Fin 4, ![b.val, 0, 0, 0] a + S1x96x273x160.size a ≤ S4x96x273x160.size a) (x : S1x96x273x160.Idx) :
    k0_pay5 (View.ld a0 (Rect.unit (s := S4x96x16x256) ![b.val, 0, 0, 0] S1x96x16x256.size in0)) (View.ld a1 (Rect.unit (s := S4x96x256) ![b.val, 0, 0] S1x96x256.size in1))
      (View.ld a2 (Rect.unit (s := S15360x1024) ![0, o] S15360x256.size in2)) x
      = refS a0 a1 a2 ((Rect.unit (s := S4x96x273x160) ![b.val, 0, 0, 0] S1x96x273x160.size in3).emb x) := by
  have hx : (x 0).val = 0 := by have : (x 0).val < 1 := (x 0).isLt; omega
  have e : (Rect.unit (s := S4x96x273x160) ![b.val, 0, 0, 0] S1x96x273x160.size in3).emb x = ix4 b (x 1) (x 2) (x 3) := by
    funext a; apply Fin.ext
    match a with
    | ⟨0, _⟩ => show b.val + 1 * (x 0).val = b.val; omega
    | ⟨1, _⟩ => show 0 + 1 * (x 1).val = (x 1).val; omega
    | ⟨2, _⟩ => show 0 + 1 * (x 2).val = (x 2).val; omega
    | ⟨3, _⟩ => show 0 + 1 * (x 3).val = (x 3).val; omega
  rw [e]
  refine (pay5_apply _ _ _ x).trans ?_
  show _ = stateAt a0 a1 a2 b (x 1) (x 2).val (x 3)
  unfold stateAt
  refine Finset.sum_congr rfl fun s _ => congrArg₂ (fun p q : EReal => p * q) (congrArg (fun K => featAt K (x 2).val) (batch_key a0 a1 b in0 in1 (x 1) s)) (congrArg a2 ?_)
  funext a; apply Fin.ext
  match a with
  | ⟨0, _⟩ => show 0 + 1 * (160 * (x 1).val + (x 3).val) = 160 * (x 1).val + (x 3).val; omega
  | ⟨1, _⟩ => show o + 1 * s.val = 256 * b.val + s.val; omega

theorem piece_z (b : Fin 4) (in0 : ∀ a : Fin 4, ![b.val, 0, 0, 0] a + S1x96x16x256.size a ≤ S4x96x16x256.size a)
    (in1 : ∀ a : Fin 3, ![b.val, 0, 0] a + S1x96x256.size a ≤ S4x96x256.size a)
    (in3 : ∀ a : Fin 4, ![b.val, 0, 0, 0] a + S1x96x273x1.size a ≤ S4x96x273x1.size a) (x : S1x96x273x1.Idx) :
    k0_pay6 (View.ld a0 (Rect.unit (s := S4x96x16x256) ![b.val, 0, 0, 0] S1x96x16x256.size in0)) (View.ld a1 (Rect.unit (s := S4x96x256) ![b.val, 0, 0] S1x96x256.size in1)) x
      = refZ a0 a1 ((Rect.unit (s := S4x96x273x1) ![b.val, 0, 0, 0] S1x96x273x1.size in3).emb x) := by
  have hx : (x 0).val = 0 := by have : (x 0).val < 1 := (x 0).isLt; omega
  have e : (Rect.unit (s := S4x96x273x1) ![b.val, 0, 0, 0] S1x96x273x1.size in3).emb x = ix4 b (x 1) (x 2) (x 3) := by
    funext a; apply Fin.ext
    match a with
    | ⟨0, _⟩ => show b.val + 1 * (x 0).val = b.val; omega
    | ⟨1, _⟩ => show 0 + 1 * (x 1).val = (x 1).val; omega
    | ⟨2, _⟩ => show 0 + 1 * (x 2).val = (x 2).val; omega
    | ⟨3, _⟩ => show 0 + 1 * (x 3).val = (x 3).val; omega
  rw [e]
  refine (pay6_apply _ _ x).trans ?_
  show _ = normAt a0 a1 b (x 1) (x 2).val
  unfold normAt
  exact Finset.sum_congr rfl fun s _ => congrArg (fun K => featAt K (x 2).val) (batch_key a0 a1 b in0 in1 (x 1) s)

theorem G3_eq : Cert.StateReferenceIdeal.Value.G3 a0 a1 a2 = refS a0 a1 a2 := by
  funext y
  refine View.canon_apply_of_pieces (Val := Elt Idealize.ShloMosaic.Ideal) (e := .f32) (refS a0 a1 a2) _ ?_ y (View.cover_of_tiled _ ![1, 96, 273, 160] (by rfl) y)
  intro p hp
  simp only [List.mem_cons, List.not_mem_nil, or_false] at hp
  rcases hp with rfl | rfl | rfl | rfl
  · exact fun x => piece_s a0 a1 a2 3 768 rfl inb_S4x96x16x256_S1x96x16x256_3_0_0_0 inb_S4x96x256_S1x96x256_3_0_0 inb_S15360x1024_S15360x256_0_768 inb_S4x96x273x160_S1x96x273x160_3_0_0_0 x
  · exact fun x => piece_s a0 a1 a2 2 512 rfl inb_S4x96x16x256_S1x96x16x256_2_0_0_0 inb_S4x96x256_S1x96x256_2_0_0 inb_S15360x1024_S15360x256_0_512 inb_S4x96x273x160_S1x96x273x160_2_0_0_0 x
  · exact fun x => piece_s a0 a1 a2 1 256 rfl inb_S4x96x16x256_S1x96x16x256_1_0_0_0 inb_S4x96x256_S1x96x256_1_0_0 inb_S15360x1024_S15360x256_0_256 inb_S4x96x273x160_S1x96x273x160_1_0_0_0 x
  · exact fun x => piece_s a0 a1 a2 0 0 rfl inb_S4x96x16x256_S1x96x16x256_0_0_0_0 inb_S4x96x256_S1x96x256_0_0_0 inb_S15360x1024_S15360x256_0_0 inb_S4x96x273x160_S1x96x273x160_0_0_0_0 x

theorem G4_eq : Cert.StateReferenceIdeal.Value.G4 a0 a1 a2 = refZ a0 a1 := by
  funext y
  refine View.canon_apply_of_pieces (Val := Elt Idealize.ShloMosaic.Ideal) (e := .f32) (refZ a0 a1) _ ?_ y (View.cover_of_tiled _ ![1, 96, 273, 1] (by rfl) y)
  intro p hp
  simp only [List.mem_cons, List.not_mem_nil, or_false] at hp
  rcases hp with rfl | rfl | rfl | rfl
  · exact fun x => piece_z a0 a1 3 inb_S4x96x16x256_S1x96x16x256_3_0_0_0 inb_S4x96x256_S1x96x256_3_0_0 inb_S4x96x273x1_S1x96x273x1_3_0_0_0 x
  · exact fun x => piece_z a0 a1 2 inb_S4x96x16x256_S1x96x16x256_2_0_0_0 inb_S4x96x256_S1x96x256_2_0_0 inb_S4x96x273x1_S1x96x273x1_2_0_0_0 x
  · exact fun x => piece_z a0 a1 1 inb_S4x96x16x256_S1x96x16x256_1_0_0_0 inb_S4x96x256_S1x96x256_1_0_0 inb_S4x96x273x1_S1x96x273x1_1_0_0_0 x
  · exact fun x => piece_z a0 a1 0 inb_S4x96x16x256_S1x96x16x256_0_0_0_0 inb_S4x96x256_S1x96x256_0_0_0 inb_S4x96x273x1_S1x96x273x1_0_0_0_0 x

end Cert.StateReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Body
public import proofs.«01_k».proof.Proof.BitsBody
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.State
public import proofs.«01_k».proof.Proof.Gen.State.Skeleton
public import proofs.«01_k».proof.Proof.Gen.State.Launch
public import proofs.«01_k».proof.Proof.Gen.State.Points
public import proofs.«01_k».proof.Proof.Gen.State.Frame
public import proofs.«01_k».proof.Proof.Gen.StateIdeal
public import proofs.«01_k».proof.Proof.Gen.StateIdeal.Skeleton
public import proofs.«01_k».proof.Proof.Gen.StateIdeal.Launch
public import proofs.«01_k».proof.Proof.Gen.StateIdeal.Points
public import proofs.«01_k».proof.Proof.Gen.StateIdeal.Frame
public import proofs.«01_k».proof.Proof.Gen.StateIdeal.Value
public import proofs.«01_k».proof.Proof.Gen.StateReferenceIdeal
public import proofs.«01_k».proof.Proof.Gen.StateReferenceIdeal.Skeleton
public import proofs.«01_k».proof.Proof.Gen.StateReferenceIdeal.Launch
public import proofs.«01_k».proof.Proof.Gen.StateReferenceIdeal.Points
public import proofs.«01_k».proof.Proof.Gen.StateReferenceIdeal.Frame
public import proofs.«01_k».proof.Proof.Gen.StateReferenceIdeal.Value
public import proofs.«01_k».proof.Proof.RefRead
public import proofs.«01_k».proof.Proof.RefVal
public import proofs.«01_k».proof.Proof.Arrays
public import proofs.«01_k».proof.Proof.StateArrays
public import proofs.«01_k».proof.Proof.StateRef
public import Idealize.ShloMosaic.Adequacy
public import Idealize.ShloMosaic.Init

@[expose] public section

noncomputable section

namespace Cert.Proof

open Idealize.ShloMosaic Idealize.SL.Sem

/-- The reference's results are the codes, the scales and the values of its argument arrays; so are the kernel's. -/
theorem agree : @Cert.algebraic_KernelIdeal_ReferenceIdeal Cert.KernelIdeal.Gen.facts Cert.ReferenceIdeal.Gen.facts := by
  intro m g m' g' _ hm
  refine ⟨Cert.KernelIdeal.Hand.res6 m, Cert.KernelIdeal.Hand.res7 m, Cert.KernelIdeal.Hand.res8 m, Cert.KernelIdeal.Hand.res9 m,
    Cert.KernelIdeal.Hand.res10 m, Cert.KernelIdeal.Hand.run_results m g, ?_⟩
  refine (θ_run Cert.ReferenceIdeal.defs _ _).mono (fun r h c => ?_) (Cert.ReferenceIdeal.Read.run (F := Idealize.ShloMosaic.Ideal) m' g')
  obtain ⟨h5, h6, h7, h8, h9, hk⟩ := h c
  obtain ⟨e0, e1, e2, e3, e4⟩ := hm c
  rw [e0, e1, e2, e3, e4] at h5 h6 h7 h8 h9
  exact ⟨h5.trans (funext fun y => Cert.ReferenceIdeal.Read.G5_apply _ _ _ _ _ y), h6.trans (funext fun y => Cert.ReferenceIdeal.Read.G6_apply _ _ _ _ _ y),
    h7.trans (funext fun y => Cert.ReferenceIdeal.Read.G7_apply _ _ _ _ _ y), h8.trans (funext fun y => Cert.ReferenceIdeal.Read.G8_apply _ _ _ _ _ y),
    h9.trans (funext fun y => (congrArg _ (Cert.KernelIdeal.Hand.pair_eq y)).trans (Cert.ReferenceIdeal.Read.value_apply _ _ _ _ _ (y 0) (y 1))), hk⟩

/-- The state's reference ends with the sums of its argument arrays' features; so does the kernel. -/
theorem agreeState : @Cert.algebraic_StateIdeal_StateReferenceIdeal Cert.StateIdeal.Gen.facts Cert.StateReferenceIdeal.Gen.facts := by
  intro m g m' g' _ hm
  refine ⟨Cert.StateIdeal.Hand.resS m, Cert.StateIdeal.Hand.resZ m, Cert.StateIdeal.Hand.run_results m g, ?_⟩
  refine (θ_run Cert.StateReferenceIdeal.defs _ _).mono (fun r h c => ?_) (Cert.StateReferenceIdeal.Value.run (F := Idealize.ShloMosaic.Ideal) m' g')
  obtain ⟨h3, h4, hk⟩ := h c
  obtain ⟨e0, e1, e2⟩ := hm c
  rw [e0, e1, e2] at h3 h4
  exact ⟨h3.trans (Cert.StateReferenceIdeal.Read.G3_eq _ _ _), h4.trans (Cert.StateReferenceIdeal.Read.G4_eq _ _ _), hk⟩

/-- The ten claims, five about each kernel: the three runs keep their arguments and end every semaphore counter at zero,
    the ideal program is the printed one, and it ends with the reference's results. -/
theorem claim : Cert.Claim := ⟨Cert.Kernel.Gen.facts, Cert.KernelIdeal.Gen.facts, Cert.ReferenceIdeal.Gen.facts,
  Cert.State.Gen.facts, Cert.StateIdeal.Gen.facts, Cert.StateReferenceIdeal.Gen.facts,
  fun m ρ _ => Cert.Kernel.Hand.run_args (F := Bits) m ρ,
  fun m ρ _ => Cert.KernelIdeal.Hand.run_args (F := Idealize.ShloMosaic.Ideal) m ρ,
  fun m ρ _ => Cert.ReferenceIdeal.Gen.frame (F := Idealize.ShloMosaic.Ideal) m ρ,
  fun m ρ _ => Cert.State.Gen.frame (F := Bits) m ρ,
  fun m ρ _ => Cert.StateIdeal.Gen.frame (F := Idealize.ShloMosaic.Ideal) m ρ,
  fun m ρ _ => Cert.StateReferenceIdeal.Gen.frame (F := Idealize.ShloMosaic.Ideal) m ρ,
  trivial, agree, trivial, agreeState⟩

end Cert.Proof

end
